-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![1, 512, 1024]⟩ ⟨3, ![8, 512, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 1024]⟩ ⟨3, ![8, 512, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x512x1024 : Shape := ⟨3, ![1, 512, 1024]⟩
abbrev S1024x1024 : Shape := ⟨2, ![1024, 1024]⟩
abbrev S_ : Shape := ⟨0, ![]⟩
abbrev S512x1024 : Shape := ⟨2, ![512, 1024]⟩
abbrev S2560x1024 : Shape := ⟨2, ![2560, 1024]⟩

class Facts : Prop where
  bcast_S_S1x512x1024 : S_.BroadcastsInDim S1x512x1024 (![] : Fin 0 → Fin S1x512x1024.rank)
  shapeCasts_S1x512x1024_S512x1024 : S1x512x1024.ShapeCasts S512x1024
  bcast_S_S1024x1024 : S_.BroadcastsInDim S1024x1024 (![] : Fin 0 → Fin S1024x1024.rank)
  concatenates_S512x1024_S1024x1024_S1024x1024_S2560x1024_d0 : Shape.Concatenates [S512x1024, S1024x1024, S1024x1024] S2560x1024 0

variable [Facts]

def fn {F : FTy → Type} [FloatOps F] (main_arg0 : FVec F S1x512x1024 .bf16) (main_arg1 : FVec F S1024x1024 .bf16) (main_arg2 : FVec F S1024x1024 .bf16) (main_arg3 : FVec F S1024x1024 .bf16) (main_arg4 : FVec F S1024x1024 .bf16) : IVec S2560x1024 1 :=
  let main_v0 : FVec F S1x512x1024 .bf16 := Host.absf main_arg0
  let main_cst : FVec F S_ .bf16 := constant S_ .bf16 0x7F80#16
  let main_v1 : FVec F S1x512x1024 .bf16 := broadcastInDim S1x512x1024 ![] bcast_S_S1x512x1024 main_cst
  let main_v2 : IVec S1x512x1024 1 := cmpf .olt main_v0 main_v1
  let main_v3 : IVec S512x1024 1 := shapeCast S512x1024 main_v2 shapeCasts_S1x512x1024_S512x1024
  let main_v4 : FVec F S1024x1024 .bf16 := Host.absf main_arg1
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  let main_v7 : FVec F S1024x1024 .bf16 := Host.absf main_arg2
  let main_cst_1 : FVec F S_ .bf16 := constant S_ .bf16 0x7F80#16
  let main_v8 : FVec F S1024x1024 .bf16 := broadcastInDim S1024x1024 ![] bcast_S_S1024x1024 main_cst_1
  let main_v9 : IVec S1024x1024 1 := cmpf .olt main_v7 main_v8
  let main_v10 : IVec S2560x1024 1 := concatenate S2560x1024 0 [⟨S512x1024, main_v3⟩, ⟨S1024x1024, main_v6⟩, ⟨S1024x1024, main_v9⟩] concatenates_S512x1024_S1024x1024_S1024x1024_S2560x1024_d0
  main_v10
-- ==== Pre_finite_scores_ReferenceIdeal.lean ====
abbrev S8x512x1024 : Shape := ⟨3, ![8, 512, 1024]⟩
abbrev S1024x8192 : Shape := ⟨2, ![1024, 8192]⟩
abbrev S8192x1024 : Shape := ⟨2, ![8192, 1024]⟩
abbrev S_ : Shape := ⟨0, ![]⟩
abbrev S4096x1024 : Shape := ⟨2, ![4096, 1024]⟩
abbrev S20480x1024 : Shape := ⟨2, ![20480, 1024]⟩

class Facts : Prop where
  bcast_S_S8x512x1024 : S_.BroadcastsInDim S8x512x1024 (![] : Fin 0 → Fin S8x512x1024.rank)
  shapeCasts_S8x512x1024_S4096x1024 : S8x512x1024.ShapeCasts S4096x1024
  bcast_S_S1024x8192 : S_.BroadcastsInDim S1024x8192 (![] : Fin 0 → Fin S1024x8192.rank)
  shapeCasts_S1024x8192_S8192x1024 : S1024x8192.ShapeCasts S8192x1024
  concatenates_S4096x1024_S8192x1024_S8192x1024_S20480x1024_d0 : Shape.Concatenates [S4096x1024, S8192x1024, S8192x1024] S20480x1024 0

variable [Facts]

def fn {F : FTy → Type} [FloatOps F] (main_arg0 : FVec F S8x512x1024 .bf16) (main_arg1 : FVec F S1024x8192 .bf16) (main_arg2 : FVec F S1024x8192 .bf16) (main_arg3 : FVec F S1024x8192 .bf16) (main_arg4 : FVec F S8192x1024 .bf16) : IVec S20480x1024 1 :=
  let main_v0 : FVec F S8x512x1024 .bf16 := Host.absf main_arg0
  let main_cst : FVec F S_ .bf16 := constant S_ .bf16 0x7F80#16
  let main_v1 : FVec F S8x512x1024 .bf16 := broadcastInDim S8x512x1024 ![] bcast_S_S8x512x1024 main_cst
  let main_v2 : IVec S8x512x1024 1 := cmpf .olt main_v0 main_v1
  let main_v3 : IVec S4096x1024 1 := shapeCast S4096x1024 main_v2 shapeCasts_S8x512x1024_S4096x1024
  let main_v4 : FVec F S1024x8192 .bf16 := Host.absf main_arg1
  let main_cst_0 : FVec F S_ .bf16 := constant S_ .bf16 0x7F80#16
  let main_v5 : FVec F S1024x8192 .bf16 := broadcastInDim S1024x8192 ![] bcast_S_S1024x8192 main_cst_0
  let main_v6 : IVec S1024x8192 1 := cmpf .olt main_v4 main_v5
  let main_v7 : IVec S8192x1024 1 := shapeCast S8192x1024 main_v6 shapeCasts_S1024x8192_S8192x1024
  let main_v8 : FVec F S1024x8192 .bf16 := Host.absf main_arg2
  let main_cst_1 : FVec F S_ .bf16 := constant S_ .bf16 0x7F80#16
  let main_v9 : FVec F S1024x8192 .bf16 := broadcastInDim S1024x8192 ![] bcast_S_S1024x8192 main_cst_1
  let main_v10 : IVec S1024x8192 1 := cmpf .olt main_v8 main_v9
  let main_v11 : IVec S8192x1024 1 := shapeCast S8192x1024 main_v10 shapeCasts_S1024x8192_S8192x1024
  let main_v12 : IVec S20480x1024 1 := concatenate S20480x1024 0 [⟨S4096x1024, main_v3⟩, ⟨S8192x1024, main_v7⟩, ⟨S8192x1024, main_v11⟩] concatenates_S4096x1024_S8192x1024_S8192x1024_S20480x1024_d0
  main_v12
-- ==== Kernel.lean ====
abbrev S1x512x1024 : Shape := ⟨3, ![1, 512, 1024]⟩
abbrev S1024x1024 : Shape := ⟨2, ![1024, 1024]⟩
abbrev S8x512x1024 : Shape := ⟨3, ![8, 512, 1024]⟩
abbrev S3x512x1024 : Shape := ⟨3, ![3, 512, 1024]⟩
abbrev S512x1024 : Shape := ⟨2, ![512, 1024]⟩
abbrev S3x2 : Shape := ⟨2, ![3, 2]⟩
abbrev S4x2 : Shape := ⟨2, ![4, 2]⟩
abbrev S8x2 : Shape := ⟨2, ![8, 2]⟩
abbrev S1 : Shape := ⟨1, ![1]⟩
abbrev S_ : Shape := ⟨0, ![]⟩
abbrev S1x1 : Shape := ⟨2, ![1, 1]⟩
abbrev S1x256x1024 : Shape := ⟨3, ![1, 256, 1024]⟩
abbrev S256x1024 : Shape := ⟨2, ![256, 1024]⟩
abbrev S512x128 : Shape := ⟨2, ![512, 128]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S1x512x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1x512x1024, .f32⟩
  | .local _ .vmem, ⟨0, _⟩ => ⟨S1x512x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x512x1024, .f32⟩
  | .local _ .vmem, ⟨6, _⟩ => ⟨S8x512x1024, .bf16⟩
  | .local _ .vmem, ⟨7, _⟩ => ⟨S8x512x1024, .bf16⟩
  | .local _ .vmem, ⟨8, _⟩ => ⟨S3x512x1024, .bf16⟩
  | .local _ .vmem, ⟨9, _⟩ => ⟨S3x512x1024, .bf16⟩
  | .local _ .vmem, ⟨10, _⟩ => ⟨S512x1024, .bf16⟩
  | _, _ => ⟨S1x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 2 → Bool
  | ⟨0, _⟩ => false
  | ⟨1, _⟩ => true
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 2 62 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .sge v13 c4_i32_7
  let c3_i32_8 : BitVec 32 := 3#32
  let v15 : BitVec 32 := Scalar.xori v13 c3_i32_8
  let v16 : BitVec 32 := Scalar.select v14 v15 v13
  let c1_i32_10 : BitVec 32 := 1#32
  let v18 : BitVec 32 := Scalar.muli v16 c1_i32_10
  let v19 : BitVec 32 := Scalar.addi c0_i32 v18
  v19.toNat
def k0_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .sge v7 c4_i32_2
  let c3_i32_3 : BitVec 32 := 3#32
  let v9 : BitVec 32 := Scalar.xori v7 c3_i32_3
  let v10 : BitVec 32 := Scalar.select v8 v9 v7
  let c1_i32_12 : BitVec 32 := 1#32
  let v20 : BitVec 32 := Scalar.muli v10 c1_i32_12
  let v21 : BitVec 32 := Scalar.addi c0_i32_13 v20
  v21.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let v32 : Index := Scalar.indexCast v5
  let c0_24 : Index := 0#32
  let c0_25 : Index := 0#32
  ![v32.toNat, 0, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c0_i32_26 : BitVec 32 := 0#32
  ![v5.toNat, 0]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c0_i32_31 : BitVec 32 := 0#32
  let c0_i32_32 : BitVec 32 := 0#32
  ![v5.toNat, 0, 0]
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .sge v7 c4_i32_2
  let c3_i32_3 : BitVec 32 := 3#32
  let v9 : BitVec 32 := Scalar.xori v7 c3_i32_3
  let v10 : BitVec 32 := Scalar.select v8 v9 v7
  let c1_i32_29 : BitVec 32 := 1#32
  let v36 : BitVec 32 := Scalar.muli v10 c1_i32_29
  let v37 : BitVec 32 := Scalar.addi c0_i32_30 v36
  v37.toNat
def k0_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .sge v13 c4_i32_7
  let c3_i32_8 : BitVec 32 := 3#32
  let v15 : BitVec 32 := Scalar.xori v13 c3_i32_8
  let v16 : BitVec 32 := Scalar.select v14 v15 v13
  let c1_i32_38 : BitVec 32 := 1#32
  let v46 : BitVec 32 := Scalar.muli v16 c1_i32_38
  let v47 : BitVec 32 := Scalar.addi c0_i32_39 v46
  v47.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c1_i32_44 : BitVec 32 := 1#32
  ![v5.toNat, 1]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c256_i32 : BitVec 32 := 256#32
  let c0_i32_49 : BitVec 32 := 0#32
  ![v5.toNat, 256, 0]
def k0_dev5 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .sge v7 c4_i32_2
  let c3_i32_3 : BitVec 32 := 3#32
  let v9 : BitVec 32 := Scalar.xori v7 c3_i32_3
  let v10 : BitVec 32 := Scalar.select v8 v9 v7
  let c1_i32_47 : BitVec 32 := 1#32
  let v56 : BitVec 32 := Scalar.muli v10 c1_i32_47
  let v57 : BitVec 32 := Scalar.addi c0_i32_48 v56
  v57.toNat
def k0_dev6 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .sge v13 c4_i32_7
  let c3_i32_8 : BitVec 32 := 3#32
  let v15 : BitVec 32 := Scalar.xori v13 c3_i32_8
  let v16 : BitVec 32 := Scalar.select v14 v15 v13
  let c1_i32_55 : BitVec 32 := 1#32
  let v66 : BitVec 32 := Scalar.muli v16 c1_i32_55
  let v67 : BitVec 32 := Scalar.addi c0_i32_56 v66
  v67.toNat
def k0_off6 (d0 : Dev nD) (c0_i32_61 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let v76 : BitVec 32 := Scalar.addi v5 c0_i32_61
  let c8_i32_62 : BitVec 32 := 8#32
  let v77 : BitVec 32 := Scalar.remsi v76 c8_i32_62
  let v78 : Index := Scalar.indexCast v77
  let c0_63 : Index := 0#32
  let c0_64 : Index := 0#32
  ![v78.toNat, 0, 0]
def k0_off7 (d0 : Dev nD) (c7_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let v224 : BitVec 32 := Scalar.addi v5 c7_i32
  let c8_i32_112 : BitVec 32 := 8#32
  let v225 : BitVec 32 := Scalar.remsi v224 c8_i32_112
  let c0_i32_113 : BitVec 32 := 0#32
  ![v225.toNat, 0]
def k0_off8 (d0 : Dev nD) (c7_i32 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let v224 : BitVec 32 := Scalar.addi v5 c7_i32
  let c8_i32_112 : BitVec 32 := 8#32
  let v225 : BitVec 32 := Scalar.remsi v224 c8_i32_112
  let c0_i32_118 : BitVec 32 := 0#32
  let c0_i32_119 : BitVec 32 := 0#32
  ![v225.toNat, 0, 0]
def k0_dev7 (d0 : Dev nD) : Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .sge v7 c4_i32_2
  let c3_i32_3 : BitVec 32 := 3#32
  let v9 : BitVec 32 := Scalar.xori v7 c3_i32_3
  let v10 : BitVec 32 := Scalar.select v8 v9 v7
  let c1_i32_127 : BitVec 32 := 1#32
  let v236 : BitVec 32 := Scalar.muli v10 c1_i32_127
  let v237 : BitVec 32 := Scalar.addi c0_i32_128 v236
  v237.toNat
def k0_off9 (d0 : Dev nD) (c7_i32_133 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let v246 : BitVec 32 := Scalar.addi v5 c7_i32_133
  let c8_i32_134 : BitVec 32 := 8#32
  let v247 : BitVec 32 := Scalar.remsi v246 c8_i32_134
  let c1_i32_135 : BitVec 32 := 1#32
  ![v247.toNat, 1]
def k0_off10 (d0 : Dev nD) (c7_i32_133 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let v246 : BitVec 32 := Scalar.addi v5 c7_i32_133
  let c8_i32_134 : BitVec 32 := 8#32
  let v247 : BitVec 32 := Scalar.remsi v246 c8_i32_134
  let c256_i32_140 : BitVec 32 := 256#32
  let c0_i32_141 : BitVec 32 := 0#32
  ![v247.toNat, 256, 0]
def k0_dev8 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .sge v7 c4_i32_2
  let c3_i32_3 : BitVec 32 := 3#32
  let v9 : BitVec 32 := Scalar.xori v7 c3_i32_3
  let v10 : BitVec 32 := Scalar.select v8 v9 v7
  let c1_i32_149 : BitVec 32 := 1#32
  let v258 : BitVec 32 := Scalar.muli v10 c1_i32_149
  let v259 : BitVec 32 := Scalar.addi c0_i32_150 v258
  v259.toNat
def k0_dev9 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .sge v13 c4_i32_7
  let c3_i32_8 : BitVec 32 := 3#32
  let v15 : BitVec 32 := Scalar.xori v13 c3_i32_8
  let v16 : BitVec 32 := Scalar.select v14 v15 v13
  let c1_i32_171 : BitVec 32 := 1#32
  let v280 : BitVec 32 := Scalar.muli v16 c1_i32_171
  let v281 : BitVec 32 := Scalar.addi c0_i32_172 v280
  v281.toNat
def k0_dev10 (d0 : Dev nD) : Nat :=
  let c0_i32_194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .sge v13 c4_i32_7
  let c3_i32_8 : BitVec 32 := 3#32
  let v15 : BitVec 32 := Scalar.xori v13 c3_i32_8
  let v16 : BitVec 32 := Scalar.select v14 v15 v13
  let c1_i32_193 : BitVec 32 := 1#32
  let v302 : BitVec 32 := Scalar.muli v16 c1_i32_193
  let v303 : BitVec 32 := Scalar.addi c0_i32_194 v302
  v303.toNat
def k0_dev11 (d0 : Dev nD) : Nat :=
  let c0_i32_267 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .sge v7 c4_i32_2
  let c3_i32_3 : BitVec 32 := 3#32
  let v9 : BitVec 32 := Scalar.xori v7 c3_i32_3
  let v10 : BitVec 32 := Scalar.select v8 v9 v7
  let c1_i32_266 : BitVec 32 := 1#32
  let v472 : BitVec 32 := Scalar.muli v10 c1_i32_266
  let v473 : BitVec 32 := Scalar.addi c0_i32_267 v472
  v473.toNat
def k0_dev12 (d0 : Dev nD) : Nat :=
  let c0_i32_289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .sge v7 c4_i32_2
  let c3_i32_3 : BitVec 32 := 3#32
  let v9 : BitVec 32 := Scalar.xori v7 c3_i32_3
  let v10 : BitVec 32 := Scalar.select v8 v9 v7
  let c1_i32_288 : BitVec 32 := 1#32
  let v494 : BitVec 32 := Scalar.muli v10 c1_i32_288
  let v495 : BitVec 32 := Scalar.addi c0_i32_289 v494
  v495.toNat
def k0_dev13 (d0 : Dev nD) : Nat :=
  let c0_i32_311 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .sge v13 c4_i32_7
  let c3_i32_8 : BitVec 32 := 3#32
  let v15 : BitVec 32 := Scalar.xori v13 c3_i32_8
  let v16 : BitVec 32 := Scalar.select v14 v15 v13
  let c1_i32_310 : BitVec 32 := 1#32
  let v516 : BitVec 32 := Scalar.muli v16 c1_i32_310
  let v517 : BitVec 32 := Scalar.addi c0_i32_311 v516
  v517.toNat
def k0_dev14 (d0 : Dev nD) : Nat :=
  let c0_i32_333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .sge v13 c4_i32_7
  let c3_i32_8 : BitVec 32 := 3#32
  let v15 : BitVec 32 := Scalar.xori v13 c3_i32_8
  let v16 : BitVec 32 := Scalar.select v14 v15 v13
  let c1_i32_332 : BitVec 32 := 1#32
  let v538 : BitVec 32 := Scalar.muli v16 c1_i32_332
  let v539 : BitVec 32 := Scalar.addi c0_i32_333 v538
  v539.toNat
def k0_dev15 (d0 : Dev nD) : Nat :=
  let c0_i32_428 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .sge v13 c4_i32_7
  let c3_i32_8 : BitVec 32 := 3#32
  let v15 : BitVec 32 := Scalar.xori v13 c3_i32_8
  let v16 : BitVec 32 := Scalar.select v14 v15 v13
  let c1_i32_427 : BitVec 32 := 1#32
  let v728 : BitVec 32 := Scalar.muli v16 c1_i32_427
  let v729 : BitVec 32 := Scalar.addi c0_i32_428 v728
  v729.toNat
def k0_dev16 (d0 : Dev nD) : Nat :=
  let c0_i32_450 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .sge v13 c4_i32_7
  let c3_i32_8 : BitVec 32 := 3#32
  let v15 : BitVec 32 := Scalar.xori v13 c3_i32_8
  let v16 : BitVec 32 := Scalar.select v14 v15 v13
  let c1_i32_449 : BitVec 32 := 1#32
  let v750 : BitVec 32 := Scalar.muli v16 c1_i32_449
  let v751 : BitVec 32 := Scalar.addi c0_i32_450 v750
  v751.toNat
def k0_dev17 (d0 : Dev nD) : Nat :=
  let c0_i32_515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .sge v7 c4_i32_2
  let c3_i32_3 : BitVec 32 := 3#32
  let v9 : BitVec 32 := Scalar.xori v7 c3_i32_3
  let v10 : BitVec 32 := Scalar.select v8 v9 v7
  let c1_i32_514 : BitVec 32 := 1#32
  let v910 : BitVec 32 := Scalar.muli v10 c1_i32_514
  let v911 : BitVec 32 := Scalar.addi c0_i32_515 v910
  v911.toNat
def k0_dev18 (d0 : Dev nD) : Nat :=
  let c0_i32_528 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .sge v7 c4_i32_2
  let c3_i32_3 : BitVec 32 := 3#32
  let v9 : BitVec 32 := Scalar.xori v7 c3_i32_3
  let v10 : BitVec 32 := Scalar.select v8 v9 v7
  let c1_i32_527 : BitVec 32 := 1#32
  let v922 : BitVec 32 := Scalar.muli v10 c1_i32_527
  let v923 : BitVec 32 := Scalar.addi c0_i32_528 v922
  v923.toNat
def k0_dev19 (d0 : Dev nD) : Nat :=
  let c0_i32_593 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .sge v13 c4_i32_7
  let c3_i32_8 : BitVec 32 := 3#32
  let v15 : BitVec 32 := Scalar.xori v13 c3_i32_8
  let v16 : BitVec 32 := Scalar.select v14 v15 v13
  let c1_i32_592 : BitVec 32 := 1#32
  let v1082 : BitVec 32 := Scalar.muli v16 c1_i32_592
  let v1083 : BitVec 32 := Scalar.addi c0_i32_593 v1082
  v1083.toNat
def k0_dev20 (d0 : Dev nD) : Nat :=
  let c0_i32_606 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .sge v13 c4_i32_7
  let c3_i32_8 : BitVec 32 := 3#32
  let v15 : BitVec 32 := Scalar.xori v13 c3_i32_8
  let v16 : BitVec 32 := Scalar.select v14 v15 v13
  let c1_i32_605 : BitVec 32 := 1#32
  let v1094 : BitVec 32 := Scalar.muli v16 c1_i32_605
  let v1095 : BitVec 32 := Scalar.addi c0_i32_606 v1094
  v1095.toNat
def k0_off11 (d0 : Dev nD) (c2_i32_679 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let v1265 : BitVec 32 := Scalar.addi v5 c2_i32_679
  let c8_i32_680 : BitVec 32 := 8#32
  let v1266 : BitVec 32 := Scalar.remsi v1265 c8_i32_680
  let v1267 : Index := Scalar.indexCast v1266
  let c0_681 : Index := 0#32
  let c0_682 : Index := 0#32
  ![v1267.toNat, 0, 0]
def k0_off11_at (r : Fin 4) : BitVec 32 :=
  if r.val < 2 then
    if r.val < 1 then
      2#32
    else
      6#32
  else
    if r.val < 3 then
      1#32
    else
      7#32
def k0_dev21 (d0 : Dev nD) : Nat :=
  let c0_i32_693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .sge v7 c4_i32_2
  let c3_i32_3 : BitVec 32 := 3#32
  let v9 : BitVec 32 := Scalar.xori v7 c3_i32_3
  let v10 : BitVec 32 := Scalar.select v8 v9 v7
  let c1_i32_692 : BitVec 32 := 1#32
  let v1276 : BitVec 32 := Scalar.muli v10 c1_i32_692
  let v1277 : BitVec 32 := Scalar.addi c0_i32_693 v1276
  v1277.toNat
def k0_off12 (d0 : Dev nD) (c2_i32_713 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let v1299 : BitVec 32 := Scalar.addi v5 c2_i32_713
  let c8_i32_714 : BitVec 32 := 8#32
  let v1300 : BitVec 32 := Scalar.remsi v1299 c8_i32_714
  let v1301 : Index := Scalar.indexCast v1300
  let c256_715 : Index := 256#32
  let c0_716 : Index := 0#32
  ![v1301.toNat, 256, 0]
def k0_off12_at (r : Fin 4) : BitVec 32 :=
  if r.val < 2 then
    if r.val < 1 then
      2#32
    else
      6#32
  else
    if r.val < 3 then
      1#32
    else
      7#32
def k0_dev22 (d0 : Dev nD) : Nat :=
  let c0_i32_727 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .sge v7 c4_i32_2
  let c3_i32_3 : BitVec 32 := 3#32
  let v9 : BitVec 32 := Scalar.xori v7 c3_i32_3
  let v10 : BitVec 32 := Scalar.select v8 v9 v7
  let c1_i32_726 : BitVec 32 := 1#32
  let v1310 : BitVec 32 := Scalar.muli v10 c1_i32_726
  let v1311 : BitVec 32 := Scalar.addi c0_i32_727 v1310
  v1311.toNat
def k0_off13 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c4_i32_806 : BitVec 32 := 4#32
  let v1488 : BitVec 32 := Scalar.addi v5 c4_i32_806
  let c8_i32_807 : BitVec 32 := 8#32
  let v1489 : BitVec 32 := Scalar.remsi v1488 c8_i32_807
  let c0_i32_816 : BitVec 32 := 0#32
  let c0_i32_817 : BitVec 32 := 0#32
  ![v1489.toNat, 0, 0]
def k0_dev23 (d0 : Dev nD) : Nat :=
  let c0_i32_815 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c4_i32_808 : BitVec 32 := 4#32
  let v1490 : BitVec 32 := Scalar.addi v5 c4_i32_808
  let c8_i32_809 : BitVec 32 := 8#32
  let v1491 : BitVec 32 := Scalar.remsi v1490 c8_i32_809
  let c4_i32_810 : BitVec 32 := 4#32
  let v1492 : BitVec 1 := Scalar.cmpi .sge v1491 c4_i32_810
  let c3_i32_811 : BitVec 32 := 3#32
  let v1493 : BitVec 32 := Scalar.xori v1491 c3_i32_811
  let v1494 : BitVec 32 := Scalar.select v1492 v1493 v1491
  let c1_i32_814 : BitVec 32 := 1#32
  let v1495 : BitVec 32 := Scalar.muli v1494 c1_i32_814
  let v1496 : BitVec 32 := Scalar.addi c0_i32_815 v1495
  v1496.toNat
def k0_dev24 (d0 : Dev nD) : Nat :=
  let c0_i32_848 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .sge v13 c4_i32_7
  let c3_i32_8 : BitVec 32 := 3#32
  let v15 : BitVec 32 := Scalar.xori v13 c3_i32_8
  let v16 : BitVec 32 := Scalar.select v14 v15 v13
  let c1_i32_847 : BitVec 32 := 1#32
  let v1527 : BitVec 32 := Scalar.muli v16 c1_i32_847
  let v1528 : BitVec 32 := Scalar.addi c0_i32_848 v1527
  v1528.toNat
def k0_dev25 (d0 : Dev nD) : Nat :=
  let c0_i32_883 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .sge v13 c4_i32_7
  let c3_i32_8 : BitVec 32 := 3#32
  let v15 : BitVec 32 := Scalar.xori v13 c3_i32_8
  let v16 : BitVec 32 := Scalar.select v14 v15 v13
  let c1_i32_882 : BitVec 32 := 1#32
  let v1561 : BitVec 32 := Scalar.muli v16 c1_i32_882
  let v1562 : BitVec 32 := Scalar.addi c0_i32_883 v1561
  v1562.toNat
def k0_dev26 (d0 : Dev nD) : Nat :=
  let c0_i32_968 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .sge v7 c4_i32_2
  let c3_i32_3 : BitVec 32 := 3#32
  let v9 : BitVec 32 := Scalar.xori v7 c3_i32_3
  let v10 : BitVec 32 := Scalar.select v8 v9 v7
  let c1_i32_967 : BitVec 32 := 1#32
  let v1741 : BitVec 32 := Scalar.muli v10 c1_i32_967
  let v1742 : BitVec 32 := Scalar.addi c0_i32_968 v1741
  v1742.toNat
def k0_dev27 (d0 : Dev nD) : Nat :=
  let c0_i32_1002 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .sge v7 c4_i32_2
  let c3_i32_3 : BitVec 32 := 3#32
  let v9 : BitVec 32 := Scalar.xori v7 c3_i32_3
  let v10 : BitVec 32 := Scalar.select v8 v9 v7
  let c1_i32_1001 : BitVec 32 := 1#32
  let v1773 : BitVec 32 := Scalar.muli v10 c1_i32_1001
  let v1774 : BitVec 32 := Scalar.addi c0_i32_1002 v1773
  v1774.toNat
def k0_dev28 (d0 : Dev nD) : Nat :=
  let c0_i32_1036 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .sge v13 c4_i32_7
  let c3_i32_8 : BitVec 32 := 3#32
  let v15 : BitVec 32 := Scalar.xori v13 c3_i32_8
  let v16 : BitVec 32 := Scalar.select v14 v15 v13
  let c1_i32_1035 : BitVec 32 := 1#32
  let v1805 : BitVec 32 := Scalar.muli v16 c1_i32_1035
  let v1806 : BitVec 32 := Scalar.addi c0_i32_1036 v1805
  v1806.toNat
def k0_dev29 (d0 : Dev nD) : Nat :=
  let c0_i32_1070 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .sge v13 c4_i32_7
  let c3_i32_8 : BitVec 32 := 3#32
  let v15 : BitVec 32 := Scalar.xori v13 c3_i32_8
  let v16 : BitVec 32 := Scalar.select v14 v15 v13
  let c1_i32_1069 : BitVec 32 := 1#32
  let v1837 : BitVec 32 := Scalar.muli v16 c1_i32_1069
  let v1838 : BitVec 32 := Scalar.addi c0_i32_1070 v1837
  v1838.toNat
def k0_dev30 (d0 : Dev nD) : Nat :=
  let c0_i32_1436_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .sge v13 c4_i32_7
  let c3_i32_8 : BitVec 32 := 3#32
  let v15 : BitVec 32 := Scalar.xori v13 c3_i32_8
  let v16 : BitVec 32 := Scalar.select v14 v15 v13
  let c1_i32_1435_r0 : BitVec 32 := 1#32
  let v2114_r0 : BitVec 32 := Scalar.muli v16 c1_i32_1435_r0
  let v2115_r0 : BitVec 32 := Scalar.addi c0_i32_1436_r0 v2114_r0
  v2115_r0.toNat
def k0_dev31 (d0 : Dev nD) : Nat :=
  let c0_i32_1439_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let v4 : BitVec 32 := Scalar.xori v2 c3_i32
  let v5 : BitVec 32 := Scalar.select v3 v4 v2
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .sge v7 c4_i32_2
  let c3_i32_3 : BitVec 32 := 3#32
  let v9 : BitVec 32 := Scalar.xori v7 c3_i32_3
  let v10 : BitVec 32 := Scalar.select v8 v9 v7
  let c1_i32_1438_r0 : BitVec 32 := 1#32
  let v2116_r0 : BitVec 32 := Scalar.muli v10 c1_i32_1438_r0
  let v2117_r0 : BitVec 32 := Scalar.addi c0_i32_1439_r0 v2116_r0
  v2117_r0.toNat
abbrev stage0_0 : Fin 1 → Memref sig .tc .vmem S1x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8x512x1024 : Shape := ⟨3, ![8, 512, 1024]⟩
abbrev S1024x8192 : Shape := ⟨2, ![1024, 8192]⟩
abbrev S8192x1024 : Shape := ⟨2, ![8192, 1024]⟩
abbrev S8x512x8192 : Shape := ⟨3, ![8, 512, 8192]⟩
abbrev S8x512x64x128 : Shape := ⟨4, ![8, 512, 64, 128]⟩
abbrev S8x64x512x512 : Shape := ⟨4, ![8, 64, 512, 512]⟩
abbrev S_ : Shape := ⟨0, ![]⟩
abbrev S8x64x512 : Shape := ⟨3, ![8, 64, 512]⟩
abbrev S8x64x512x1 : Shape := ⟨4, ![8, 64, 512, 1]⟩
abbrev S8x64x128x512 : Shape := ⟨4, ![8, 64, 128, 512]⟩
abbrev S8x512x64x1 : Shape := ⟨4, ![8, 512, 64, 1]⟩

abbrev nBuf : Space → Nat
  | .hbm => 44
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S1024x8192, .bf16⟩
  | .hbm, ⟨2, _⟩ => ⟨S1024x8192, .bf16⟩
  | .hbm, ⟨3, _⟩ => ⟨S1024x8192, .bf16⟩
  | .hbm, ⟨4, _⟩ => ⟨S8192x1024, .bf16⟩
  | .hbm, ⟨5, _⟩ => ⟨S8x512x1024, .f32⟩
  | .hbm, ⟨6, _⟩ => ⟨S1024x8192, .f32⟩
  | .hbm, ⟨7, _⟩ => ⟨S1024x8192, .f32⟩
  | .hbm, ⟨8, _⟩ => ⟨S1024x8192, .f32⟩
  | .hbm, ⟨9, _⟩ => ⟨S8192x1024, .f32⟩
  | .hbm, ⟨10, _⟩ => ⟨S8x512x8192, .f32⟩
  | .hbm, ⟨11, _⟩ => ⟨S8x512x8192, .bf16⟩
  | .hbm, ⟨12, _⟩ => ⟨S8x512x8192, .f32⟩
  | .hbm, ⟨13, _⟩ => ⟨S8x512x64x128, .f32⟩
  | .hbm, ⟨14, _⟩ => ⟨S8x512x8192, .f32⟩
  | .hbm, ⟨15, _⟩ => ⟨S8x512x8192, .bf16⟩
  | .hbm, ⟨16, _⟩ => ⟨S8x512x8192, .f32⟩
  | .hbm, ⟨17, _⟩ => ⟨S8x512x64x128, .f32⟩
  | .hbm, ⟨18, _⟩ => ⟨S8x512x8192, .f32⟩
  | .hbm, ⟨19, _⟩ => ⟨S8x512x8192, .bf16⟩
  | .hbm, ⟨20, _⟩ => ⟨S8x512x8192, .f32⟩
  | .hbm, ⟨21, _⟩ => ⟨S8x512x64x128, .f32⟩
  | .hbm, ⟨22, _⟩ => ⟨S8x64x512x512, .f32⟩
  | .hbm, ⟨23, _⟩ => ⟨S8x64x512x512, .bf16⟩
  | .hbm, ⟨24, _⟩ => ⟨S8x64x512x512, .f32⟩
  | .hbm, ⟨25, _⟩ => ⟨S_, .f32⟩
  | .hbm, ⟨26, _⟩ => ⟨S8x64x512x512, .f32⟩
  | .hbm, ⟨27, _⟩ => ⟨S8x64x512x512, .f32⟩
  | .hbm, ⟨28, _⟩ => ⟨S_, .f32⟩
  | .hbm, ⟨29, _⟩ => ⟨S8x64x512, .f32⟩
  | .hbm, ⟨30, _⟩ => ⟨S8x64x512x1, .f32⟩
  | .hbm, ⟨31, _⟩ => ⟨S8x64x512x512, .f32⟩
  | .hbm, ⟨32, _⟩ => ⟨S8x64x512x512, .f32⟩
  | .hbm, ⟨33, _⟩ => ⟨S8x64x512x512, .f32⟩
  | .hbm, ⟨34, _⟩ => ⟨S_, .f32⟩
  | .hbm, ⟨35, _⟩ => ⟨S8x64x512, .f32⟩
  | .hbm, ⟨36, _⟩ => ⟨S8x64x512x1, .f32⟩
  | .hbm, ⟨37, _⟩ => ⟨S8x64x128x512, .f32⟩
  | .hbm, ⟨38, _⟩ => ⟨S8x512x64x128, .f32⟩
  | .hbm, ⟨39, _⟩ => ⟨S8x512x64x1, .f32⟩
  | .hbm, ⟨40, _⟩ => ⟨S8x512x64x128, .f32⟩
  | .hbm, ⟨41, _⟩ => ⟨S8x512x64x128, .f32⟩
  | .hbm, ⟨42, _⟩ => ⟨S8x512x8192, .f32⟩
  | .hbm, ⟨43, _⟩ => ⟨S8x512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== Proof.Topo.lean ====
/-
# The ring, the payments and the cells as numbers

The eight devices lie on a ring in the order 0 1 2 3 7 6 5 4. Each device makes the same list of 31 payments, in program
order: payments 0 and 1 signal its two neighbours' barrier semaphore, 2 … 28 are its remote copies, 29 and 30 signal the
neighbours' second barrier semaphore. A copy has a kind (0: all-gather to the right, 1: all-gather to the left, 2:
reduce-scatter to the right, 3: reduce-scatter to the left, 4: the direct copy to the antipode), a step and a half.
A semaphore is named by a number: 0 … 61 the DMA semaphores, 62 the second barrier, 63 the first.
-/
module

public import proofs.«01_k».proof.Proof.Gen.KernelIdeal
public import proofs.«01_k».proof.Proof.Gen.KernelIdeal.Skeleton

@[expose] public section

noncomputable section

namespace Cert.Ring8

open Cert.KernelIdeal Cert.KernelIdeal.Gen
open Idealize.ShloMosaic

/-! ## The ring -/

/-- The place of a device on the ring. -/
def ring (c : Dev nD) : ℕ := if c.val < 4 then c.val else 11 - c.val

set_option backward.proofsInPublic true in
/-- The device `k` places to the right of `c`. -/
def nb (c : Dev nD) (k : ℕ) : Dev nD :=
  ⟨if (ring c + k) % 8 < 4 then (ring c + k) % 8 else 11 - (ring c + k) % 8, by show _ < 8; split <;> omega⟩

/-- The row of the gathered array that holds the block of the device `k` places to the right of `c`. -/
def slot (c : Dev nD) (k : ℕ) : ℕ := (ring c + k) % 8

set_option backward.proofsInPublic true in
/-- The device at place `p` of the ring. -/
def dv (p : ℕ) : Dev nD := ⟨if p % 8 < 4 then p % 8 else 11 - p % 8, by show _ < 8; split <;> omega⟩

theorem slot_lt (c : Dev nD) (k : ℕ) : slot c k < 8 := Nat.mod_lt _ (by decide)
theorem nb_1_7 (c : Dev nD) : nb (nb c 1) 7 = c := by revert c; decide
theorem nb_7_1 (c : Dev nD) : nb (nb c 7) 1 = c := by revert c; decide
theorem nb_4_4 (c : Dev nD) : nb (nb c 4) 4 = c := by revert c; decide

/-! ## The payments -/

def kd (j : ℕ) : ℕ := [9,9,0,1,0,1,0,0,1,1,0,0,1,1,1,1,2,2,3,3,2,2,4,3,3,2,2,3,3].getD j 9
def tt (j : ℕ) : ℕ := [0,0,0,0,0,0,1,1,1,1,2,2,2,2,3,3,0,0,0,0,1,1,0,1,1,2,2,2,2].getD j 0
def qq (j : ℕ) : ℕ := [0,0,0,0,1,1,0,1,0,1,0,1,0,1,0,1,0,1,0,1,0,1,0,0,1,0,1,0,1].getD j 0

/-- How far to the right of the payer the paid device lies. -/
def hop (j : ℕ) : ℕ :=
  if j = 0 ∨ j = 29 then 7 else if j = 1 ∨ j = 30 then 1
  else if kd j = 0 ∨ kd j = 2 then 1 else if kd j = 4 then 4 else 7

/-- The device that `c`'s payment `j` goes to, and the device that pays `e` by payment `j`. -/
def pdst (c : Dev nD) (j : ℕ) : Dev nD := nb c (hop j)
def psrc (e : Dev nD) (j : ℕ) : Dev nD := nb e (8 - hop j)

/-- The number of the semaphore that `c`'s payment `j` credits on the paid device. -/
def pno (c : Dev nD) (j : ℕ) : ℕ :=
  if j < 2 then 63 else if 29 ≤ j then 62
  else if kd j = 0 then 20 + 2 * slot c (8 - tt j) + qq j
  else if kd j = 1 then 20 + 2 * slot c (tt j) + qq j
  else if kd j = 2 then 42 + 2 * tt j + qq j
  else if kd j = 3 then 54 + 2 * tt j + qq j
  else 61

/-- The number of the semaphore of the payer that copy `j` credits once its source has been read. -/
def sno (j : ℕ) : ℕ :=
  if kd j = 0 then 6 + 2 * tt j + qq j
  else if kd j = 1 then 12 + 2 * tt j + qq j
  else if kd j = 2 then 36 + 2 * tt j + qq j
  else if kd j = 3 then 48 + 2 * tt j + qq j
  else 60

/-- The copy whose source semaphore has number `n`; 99 if there is none. -/
def sj (n : ℕ) : ℕ := ((List.range' 2 27).find? fun j => decide (sno j = n)).getD 99
/-- The copy whose receive semaphore on `e` has number `n`; 99 if there is none. -/
def rj (e : Dev nD) (n : ℕ) : ℕ := ((List.range' 2 27).find? fun j => decide (pno (psrc e j) j = n)).getD 99

theorem psrc_pdst (c : Dev nD) (j : Fin 31) : psrc (pdst c j) j = c := by revert c j; decide +kernel
theorem pdst_psrc (c : Dev nD) (j : Fin 31) : pdst (psrc c j) j = c := by revert c j; decide +kernel

theorem sj_sno_aux : ∀ j : Fin 29, 2 ≤ j.val → sj (sno j) = j ∧ 6 ≤ sno j ∧ sno j < 62 := by decide +kernel
theorem rj_pno_aux : ∀ c : Dev nD, ∀ j : Fin 29, 2 ≤ j.val → rj (pdst c j) (pno c j) = j ∧ 6 ≤ pno c j ∧ pno c j < 62 ∧ sj (pno c j) = 99 := by
  decide +kernel

theorem rj_sno : ∀ e : Dev nD, ∀ j : Fin 29, 2 ≤ j.val → rj e (sno j) = 99 := by decide +kernel

theorem sj_sno {j : ℕ} (h : 2 ≤ j) (h' : j < 29) : sj (sno j) = j := (sj_sno_aux ⟨j, h'⟩ h).1
theorem sno_ge {j : ℕ} (h : 2 ≤ j) (h' : j < 29) : 6 ≤ sno j := (sj_sno_aux ⟨j, h'⟩ h).2.1
theorem sno_lt {j : ℕ} (h : 2 ≤ j) (h' : j < 29) : sno j < 62 := (sj_sno_aux ⟨j, h'⟩ h).2.2
theorem rj_pno (c : Dev nD) {j : ℕ} (h : 2 ≤ j) (h' : j < 29) : rj (pdst c j) (pno c j) = j := (rj_pno_aux c ⟨j, h'⟩ h).1
theorem pno_ge (c : Dev nD) {j : ℕ} (h : 2 ≤ j) (h' : j < 29) : 6 ≤ pno c j := (rj_pno_aux c ⟨j, h'⟩ h).2.1
theorem pno_lt (c : Dev nD) {j : ℕ} (h : 2 ≤ j) (h' : j < 29) : pno c j < 62 := (rj_pno_aux c ⟨j, h'⟩ h).2.2.1
theorem sj_pno (c : Dev nD) {j : ℕ} (h : 2 ≤ j) (h' : j < 29) : sj (pno c j) = 99 := (rj_pno_aux c ⟨j, h'⟩ h).2.2.2

/-! ## Semaphores as numbers -/

/-- The runtime's barrier semaphore of the kernel. -/
abbrev barS : Sem sig := (SemArray.scalar (sig.barrier 0 rfl) : Sems sig S_).sem

set_option backward.proofsInPublic true in
/-- The semaphore of number `n`. -/
def cl (n : ℕ) : SemLoc sig :=
  if h : n < 62 then .dma ⟨n, h⟩ else if n = 62 then .reg cc0_scoped0.sem else .reg barS

/-- The number of a semaphore. -/
def no : SemLoc sig → ℕ
  | .dma n => n.val
  | .reg r => if r = cc0_scoped0.sem then 62 else 63

theorem no_cl_aux : ∀ n : Fin 64, no (cl n) = n := by decide +kernel
theorem no_cl {n : ℕ} (h : n < 64) : no (cl n) = n := no_cl_aux ⟨n, h⟩
theorem cl_inj {a b : ℕ} (ha : a < 64) (hb : b < 64) (h : cl a = cl b) : a = b := by
  rw [← no_cl ha, ← no_cl hb, h]

/-! ## The device and offset computations of the program -/

section Closed
variable (c : Dev nD)

theorem dev1_eq : (⟨k0_dev1 c, k0_dev1_lt c⟩ : Dev nD) = pdst c 0 := by revert c; decide +kernel
theorem dev2_eq : (⟨k0_dev2 c, k0_dev2_lt c⟩ : Dev nD) = pdst c 1 := by revert c; decide +kernel
theorem dev3_eq : (⟨k0_dev3 c, k0_dev3_lt c⟩ : Dev nD) = pdst c 2 := by revert c; decide +kernel
theorem dev4_eq : (⟨k0_dev4 c, k0_dev4_lt c⟩ : Dev nD) = pdst c 3 := by revert c; decide +kernel
theorem dev5_eq : (⟨k0_dev5 c, k0_dev5_lt c⟩ : Dev nD) = pdst c 4 := by revert c; decide +kernel
theorem dev6_eq : (⟨k0_dev6 c, k0_dev6_lt c⟩ : Dev nD) = pdst c 5 := by revert c; decide +kernel
theorem dev7_eq : (⟨k0_dev7 c, k0_dev7_lt c⟩ : Dev nD) = pdst c 6 := by revert c; decide +kernel
theorem dev8_eq : (⟨k0_dev8 c, k0_dev8_lt c⟩ : Dev nD) = pdst c 7 := by revert c; decide +kernel
theorem dev9_eq : (⟨k0_dev9 c, k0_dev9_lt c⟩ : Dev nD) = pdst c 8 := by revert c; decide +kernel
theorem dev10_eq : (⟨k0_dev10 c, k0_dev10_lt c⟩ : Dev nD) = pdst c 9 := by revert c; decide +kernel
theorem dev11_eq : (⟨k0_dev11 c, k0_dev11_lt c⟩ : Dev nD) = pdst c 10 := by revert c; decide +kernel
theorem dev12_eq : (⟨k0_dev12 c, k0_dev12_lt c⟩ : Dev nD) = pdst c 11 := by revert c; decide +kernel
theorem dev13_eq : (⟨k0_dev13 c, k0_dev13_lt c⟩ : Dev nD) = pdst c 12 := by revert c; decide +kernel
theorem dev14_eq : (⟨k0_dev14 c, k0_dev14_lt c⟩ : Dev nD) = pdst c 13 := by revert c; decide +kernel
theorem dev15_eq : (⟨k0_dev15 c, k0_dev15_lt c⟩ : Dev nD) = pdst c 14 := by revert c; decide +kernel
theorem dev16_eq : (⟨k0_dev16 c, k0_dev16_lt c⟩ : Dev nD) = pdst c 15 := by revert c; decide +kernel
theorem dev17_eq : (⟨k0_dev17 c, k0_dev17_lt c⟩ : Dev nD) = pdst c 16 := by revert c; decide +kernel
theorem dev18_eq : (⟨k0_dev18 c, k0_dev18_lt c⟩ : Dev nD) = pdst c 17 := by revert c; decide +kernel
theorem dev19_eq : (⟨k0_dev19 c, k0_dev19_lt c⟩ : Dev nD) = pdst c 18 := by revert c; decide +kernel
theorem dev20_eq : (⟨k0_dev20 c, k0_dev20_lt c⟩ : Dev nD) = pdst c 19 := by revert c; decide +kernel
theorem dev21_eq : (⟨k0_dev21 c, k0_dev21_lt c⟩ : Dev nD) = pdst c 20 := by revert c; decide +kernel
theorem dev22_eq : (⟨k0_dev22 c, k0_dev22_lt c⟩ : Dev nD) = pdst c 21 := by revert c; decide +kernel
theorem dev23_eq : (⟨k0_dev23 c, k0_dev23_lt c⟩ : Dev nD) = pdst c 22 := by revert c; decide +kernel
theorem dev24_eq : (⟨k0_dev24 c, k0_dev24_lt c⟩ : Dev nD) = pdst c 23 := by revert c; decide +kernel
theorem dev25_eq : (⟨k0_dev25 c, k0_dev25_lt c⟩ : Dev nD) = pdst c 24 := by revert c; decide +kernel
theorem dev26_eq : (⟨k0_dev26 c, k0_dev26_lt c⟩ : Dev nD) = pdst c 25 := by revert c; decide +kernel
theorem dev27_eq : (⟨k0_dev27 c, k0_dev27_lt c⟩ : Dev nD) = pdst c 26 := by revert c; decide +kernel
theorem dev28_eq : (⟨k0_dev28 c, k0_dev28_lt c⟩ : Dev nD) = pdst c 27 := by revert c; decide +kernel
theorem dev29_eq : (⟨k0_dev29 c, k0_dev29_lt c⟩ : Dev nD) = pdst c 28 := by revert c; decide +kernel
theorem dev30_eq : (⟨k0_dev30 c, k0_dev30_lt c⟩ : Dev nD) = pdst c 29 := by revert c; decide +kernel
theorem dev31_eq : (⟨k0_dev31 c, k0_dev31_lt c⟩ : Dev nD) = pdst c 30 := by revert c; decide +kernel

theorem off1_eq : k0_off1 c = ![slot c 0, 0, 0] := by revert c; decide +kernel
theorem off2_eq : k0_off2 c = ![slot c 0, 0] := by revert c; decide +kernel
theorem off3_eq : k0_off3 c = ![slot c 0, 0, 0] := by revert c; decide +kernel
theorem off4_eq : k0_off4 c = ![slot c 0, 1] := by revert c; decide +kernel
theorem off5_eq : k0_off5 c = ![slot c 0, 256, 0] := by revert c; decide +kernel
theorem off6_eq (r : Fin 8) : k0_off6 c (BitVec.ofNat 32 r.val) = ![slot c r.val, 0, 0] := by revert c r; decide +kernel
theorem off7_eq (r : Fin 8) : k0_off7 c (BitVec.ofNat 32 r.val) = ![slot c r.val, 0] := by revert c r; decide +kernel
theorem off8_eq (r : Fin 8) : k0_off8 c (BitVec.ofNat 32 r.val) = ![slot c r.val, 0, 0] := by revert c r; decide +kernel
theorem off9_eq (r : Fin 8) : k0_off9 c (BitVec.ofNat 32 r.val) = ![slot c r.val, 1] := by revert c r; decide +kernel
theorem off10_eq (r : Fin 8) : k0_off10 c (BitVec.ofNat 32 r.val) = ![slot c r.val, 256, 0] := by revert c r; decide +kernel
theorem off11_eq (r : Fin 8) : k0_off11 c (BitVec.ofNat 32 r.val) = ![slot c r.val, 0, 0] := by revert c r; decide +kernel
theorem off12_eq (r : Fin 8) : k0_off12 c (BitVec.ofNat 32 r.val) = ![slot c r.val, 256, 0] := by revert c r; decide +kernel
theorem off13_eq : k0_off13 c = ![slot c 4, 0, 0] := by revert c; decide +kernel

end Closed

end Cert.Ring8
-- ==== Proof.Views.lean ====
/-
# The pieces of the scratch arrays

The scratch arrays are stacks of rows of 512 × 1024; a copy moves one half of a row (256 × 1024), a load or a store one
half or one whole row. Here: which elements each of these names, and where an index of the piece lies in the row.
-/
module

public import proofs.«01_k».proof.Proof.Topo

@[expose] public section

noncomputable section

namespace Cert.Ring8

open Cert.KernelIdeal Cert.KernelIdeal.Gen
open Idealize.ShloMosaic

/-- A stack of `n` rows of 512 × 1024. -/
abbrev Stk (n : ℕ) : Shape := ⟨3, ![n, 512, 1024]⟩

/-- The elements of half `q` of row `s`, and those of the whole row. -/
def half (n s q : ℕ) : Finset (Stk n).Idx := Finset.univ.filter fun i => (i 0).val = s ∧ (i 1).val / 256 = q
def row (n s : ℕ) : Finset (Stk n).Idx := Finset.univ.filter fun i => (i 0).val = s

theorem mem_half {n s q : ℕ} {i : (Stk n).Idx} : i ∈ half n s q ↔ (i 0).val = s ∧ (i 1).val / 256 = q := by simp [half]
theorem mem_row {n s : ℕ} {i : (Stk n).Idx} : i ∈ row n s ↔ (i 0).val = s := by simp [row]

theorem i1_lt {n : ℕ} (i : (Stk n).Idx) : (i 1).val < 512 := (i 1).isLt
theorem i2_lt {n : ℕ} (i : (Stk n).Idx) : (i 2).val < 1024 := (i 2).isLt

theorem row_eq (n s : ℕ) : row n s = half n s 0 ∪ half n s 1 := by
  ext i; have := i1_lt i
  simp only [Finset.mem_union, mem_half, mem_row]; omega

theorem half_disjoint {n s q s' q' : ℕ} (h : s ≠ s' ∨ q ≠ q') : Disjoint (half n s q) (half n s' q') := by
  rw [Finset.disjoint_left]; intro i hi hi'
  rw [mem_half] at hi hi'; omega

theorem row_disjoint {n s s' : ℕ} (h : s ≠ s') : Disjoint (row n s) (row n s') := by
  rw [Finset.disjoint_left]; intro i hi hi'
  rw [mem_row] at hi hi'; omega

/-- The rectangle of a half row. -/
theorem set_half {n s q : ℕ} (hq : q < 2) {off : Fin 3 → ℕ} (hoff : off = ![s, 256 * q, 0]) (inb) :
    (Rect.unit (s := Stk n) off S1x256x1024.size inb).set = half n s q := by
  subst hoff; ext i; rw [Rect.mem_set_unit, mem_half]
  have h1 := i1_lt i; have h2 := i2_lt i
  constructor
  · intro h; have a := h 0; have b := h 1
    simp only [S1x256x1024, Matrix.cons_val_zero, Matrix.cons_val_one] at a b; omega
  · intro h a; fin_cases a
    · show s ≤ (i 0).val ∧ (i 0).val < s + 1; omega
    · show 256 * q ≤ (i 1).val ∧ (i 1).val < 256 * q + 256; omega
    · show 0 ≤ (i 2).val ∧ (i 2).val < 0 + 1024; omega

/-- The rectangle of a whole row. -/
theorem set_row {n s : ℕ} {off : Fin 3 → ℕ} (hoff : off = ![s, 0, 0]) (inb) :
    (Rect.unit (s := Stk n) off S1x512x1024.size inb).set = row n s := by
  subst hoff; ext i; rw [Rect.mem_set_unit, mem_row]
  have h1 := i1_lt i; have h2 := i2_lt i
  constructor
  · intro h; have a := h 0
    simp only [S1x512x1024, Matrix.cons_val_zero] at a; omega
  · intro h a; fin_cases a
    · show s ≤ (i 0).val ∧ (i 0).val < s + 1; omega
    · show 0 ≤ (i 1).val ∧ (i 1).val < 0 + 512; omega
    · show 0 ≤ (i 2).val ∧ (i 2).val < 0 + 1024; omega

/-- The place of an element in its row, as an index of one row alone. -/
def toB {n : ℕ} (i : (Stk n).Idx) : S1x512x1024.Idx := fun a => match a with
  | ⟨0, _⟩ => (0 : Fin 1) | ⟨1, _⟩ => (i 1 : Fin 512) | ⟨2, _⟩ => (i 2 : Fin 1024)

theorem s1256_1_lt (x : S1x256x1024.Idx) : (x 1).val < 256 := (x 1).isLt

set_option backward.proofsInPublic true in
/-- The place in its row of an element of half `q`. -/
def hb (q : ℕ) (x : S1x256x1024.Idx) : S1x512x1024.Idx := fun a => match a with
  | ⟨0, _⟩ => (0 : Fin 1) | ⟨1, _⟩ => (⟨(256 * q + (x 1).val) % 512, Nat.mod_lt _ (by decide)⟩ : Fin 512) | ⟨2, _⟩ => (x 2 : Fin 1024)

section emb
variable {n s q : ℕ} {off : Fin 3 → ℕ}

theorem emb_half_row (hq : q < 2) (hoff : off = ![s, 256 * q, 0]) (inb) (x : S1x256x1024.Idx) :
    (((Rect.unit (s := Stk n) off S1x256x1024.size inb).emb x) 0).val = s := by
  subst hoff; have h : (x 0).val < 1 := (x 0).isLt
  rw [Rect.emb_apply]; show s + 1 * (x 0).val = s; omega

theorem emb_half (hq : q < 2) (hoff : off = ![s, 256 * q, 0]) (inb) (x : S1x256x1024.Idx) :
    toB ((Rect.unit (s := Stk n) off S1x256x1024.size inb).emb x) = hb q x := by
  subst hoff; have h := s1256_1_lt x
  funext a; fin_cases a
  · rfl
  · refine Fin.ext ?_; show 256 * q + 1 * (x 1).val = (256 * q + (x 1).val) % 512; omega
  · refine Fin.ext ?_; show 0 + 1 * (x 2).val = (x 2).val; omega

theorem emb_row_row (hoff : off = ![s, 0, 0]) (inb) (x : S1x512x1024.Idx) :
    (((Rect.unit (s := Stk n) off S1x512x1024.size inb).emb x) 0).val = s := by
  subst hoff; have h : (x 0).val < 1 := (x 0).isLt
  rw [Rect.emb_apply]; show s + 1 * (x 0).val = s; omega

theorem emb_row (hoff : off = ![s, 0, 0]) (inb) (x : S1x512x1024.Idx) :
    toB ((Rect.unit (s := Stk n) off S1x512x1024.size inb).emb x) = x := by
  subst hoff; have h : (x 0).val < 1 := (x 0).isLt
  funext a; fin_cases a
  · refine Fin.ext ?_; show 0 = (x 0).val; omega
  · refine Fin.ext ?_; show 0 + 1 * (x 1).val = (x 1).val; omega
  · refine Fin.ext ?_; show 0 + 1 * (x 2).val = (x 2).val; omega

end emb

/-! ## Copying, reading and writing through a rectangle -/

variable {Val : EltTy → Type} {e : EltTy}

/-- A copy between views leaves at the destination what the destination is to hold, if the two agree index by index. -/
theorem copy_eq {κ κ' : Kind} {sp sp' : Space} {sh : Shape} (src : View sig κ sp sh e) (dst : View sig κ' sp' sh e)
    (fs : src.ty.Contents Val) (fd G : dst.ty.Contents Val) (h : src.read Val fs = dst.read Val G) :
    ∀ i ∈ dst.set, dst.write Val fd (src.read Val fs) Finset.univ i = G i := by
  intro i hi
  rw [h, View.write_read_eq_piecewise]
  exact Finset.piecewise_eq_of_mem _ _ _ (by rw [View.setOn_univ]; exact hi)

/-- A store through a view leaves there what the view is to hold. -/
theorem store_eq {κ : Kind} {sp : Space} {sh : Shape} (v : View sig κ sp sh e)
    (f G : v.ty.Contents Val) (w : sh.Idx → Val e) (h : w = v.read Val G) :
    ∀ i ∈ v.set, v.write Val f w Finset.univ i = G i := by
  intro i hi
  rw [h, View.write_read_eq_piecewise]
  exact Finset.piecewise_eq_of_mem _ _ _ (by rw [View.setOn_univ]; exact hi)

end Cert.Ring8
-- ==== Proof.Data.lean ====
/-
# What each scratch array holds

As functions of the launch memory: `XALL` the gathered input (the same on every device), `PARTS c` the partial results of
device `c` (row `s`: `c`'s heads on the block of the device at place `s`), `RIN`/`LIN` what arrives in the reduce-scatter
rows, `ROUT`/`LOUT` those rows after the device's own partial result is added, `DBUF` the row of the direct copy, `OUT`
the result.
-/
module

public import proofs.«01_k».proof.Proof.Views
public import proofs.«01_k».proof.Proof.Gen.KernelIdeal.Launch
public import Idealize.ShloMosaic.Lib.Pipeline.Value

@[expose] public section

noncomputable section

namespace Cert.Ring8

open Cert.KernelIdeal Cert.KernelIdeal.Gen
open Idealize.ShloMosaic
open Idealize.ShloMosaic.TcCoe
open Idealize.SL Idealize.SL.RA Idealize.SL.BI

variable {F : FTy → Type} [FloatOps F]

/-! ## One block -/

/-- A device's partial result on one block: its heads' attention on the block, times its rows of the output weights. -/
def partOf (wq wk wv wo : FVec F S1024x1024 .bf16) (x : Vec F S1x512x1024 .bf16) : FVec F S1x512x1024 .bf16 :=
  k0_pay23 wo (k0_pay7 wq x) (k0_pay8 wk x) (k0_pay9 wv x) (k0_pay13 (k0_pay10 wv x) (k0_pay11 wq wk x) (k0_pay12))
    (k0_pay14 (k0_pay7 wq x) (k0_pay8 wk x) (k0_pay9 wv x)) (k0_pay15 (k0_pay7 wq x) (k0_pay8 wk x) (k0_pay9 wv x))
    (k0_pay19 (k0_pay16 (k0_pay7 wq x)) (k0_pay17 (k0_pay8 wk x)) (k0_pay18 (k0_pay9 wv x)) (constant S512x512 .f32 0x00000000#32))
    (k0_pay20 (k0_pay7 wq x) (k0_pay8 wk x) (k0_pay9 wv x)) (k0_pay21 (k0_pay7 wq x) (k0_pay8 wk x) (k0_pay9 wv x)) (k0_pay22 (k0_pay7 wq x))

/-- The sum of two bf16 vectors, taken in f32 and rounded. -/
def addv {s : Shape} (u v : FVec F s .bf16) : FVec F s .bf16 :=
  truncf .bf16 (addf (extf .f32 u bitsLt_bf16_f32) (extf .f32 v bitsLt_bf16_f32)) bitsLt_bf16_f32

theorem fold_eq (u v : Vec F S1x256x1024 .bf16) : k0_pay123 u v = addv u v := by
  show shapeCast S1x256x1024 (shapeCast S256x1024 (addv u v) shapeCasts_S1x256x1024_S256x1024) shapeCasts_S256x1024_S1x256x1024 = _
  exact shapeCast_shapeCast _ _ _

/-! ## The launch memory's blocks -/

variable (m : (ℓ : Loc nD τ sig) → Buf (Elt F) ℓ)

def stg0 (c : Dev nD) : (cc0_stg0_0 : Ref sig .tc).ty.Contents (Elt F) := (win0_0.blk (0 : Fin 1)).view.read (Elt F) (m ((c : Thread nD τ).loc main_arg0))
def stg1 (c : Dev nD) : (cc0_stg1_0 : Ref sig .tc).ty.Contents (Elt F) := (win0_1.blk (0 : Fin 1)).view.read (Elt F) (m ((c : Thread nD τ).loc main_arg1))
def stg2 (c : Dev nD) : (cc0_stg2_0 : Ref sig .tc).ty.Contents (Elt F) := (win0_2.blk (0 : Fin 1)).view.read (Elt F) (m ((c : Thread nD τ).loc main_arg4))
def stg3 (c : Dev nD) : (cc0_stg3_0 : Ref sig .tc).ty.Contents (Elt F) := (win0_3.blk (0 : Fin 1)).view.read (Elt F) (m ((c : Thread nD τ).loc main_arg2))
def stg4 (c : Dev nD) : (cc0_stg4_0 : Ref sig .tc).ty.Contents (Elt F) := (win0_4.blk (0 : Fin 1)).view.read (Elt F) (m ((c : Thread nD τ).loc main_arg3))

/-- The device's weights and its block of `x`, as the body loads them. -/
def wq (c : Dev nD) : FVec F S1024x1024 .bf16 := k0_pay1 ((Memref.whole cc0_stg1_0).view.readAt (Elt F) (Rect.unit (s := S1024x1024) ![0, 0] S1024x1024.size inb_S1024x1024_S1024x1024_0_0).toLoadRect (stg1 m c))
def wo (c : Dev nD) : FVec F S1024x1024 .bf16 := k0_pay4 ((Memref.whole cc0_stg2_0).view.readAt (Elt F) (Rect.unit (s := S1024x1024) ![0, 0] S1024x1024.size inb_S1024x1024_S1024x1024_0_0).toLoadRect (stg2 m c))
def wk (c : Dev nD) : FVec F S1024x1024 .bf16 := k0_pay2 ((Memref.whole cc0_stg3_0).view.readAt (Elt F) (Rect.unit (s := S1024x1024) ![0, 0] S1024x1024.size inb_S1024x1024_S1024x1024_0_0).toLoadRect (stg3 m c))
def wv (c : Dev nD) : FVec F S1024x1024 .bf16 := k0_pay3 ((Memref.whole cc0_stg4_0).view.readAt (Elt F) (Rect.unit (s := S1024x1024) ![0, 0] S1024x1024.size inb_S1024x1024_S1024x1024_0_0).toLoadRect (stg4 m c))
def xb (c : Dev nD) : FVec F S1x512x1024 .bf16 := k0_pay5 ((Memref.whole cc0_stg0_0).view.readAt (Elt F) (Rect.unit (s := S1x512x1024) ![0, 0, 0] S1x512x1024.size inb_S1x512x1024_S1x512x1024_0_0_0).toLoadRect (stg0 m c))

/-! ## The scratch arrays -/

/-- Device `c`'s partial result on the block of the device at place `s`. -/
def PB (c : Dev nD) (s : ℕ) : FVec F S1x512x1024 .bf16 := partOf (wq m c) (wk m c) (wv m c) (wo m c) (xb m (dv s))

/-- What arrives at `c` in the right-moving reduce-scatter row `t`, and the left-moving one. -/
def accR : ℕ → Dev nD → FVec F S1x512x1024 .bf16
  | 0, c => PB m (nb c 7) (slot c 2)
  | t + 1, c => addv (accR t (nb c 7)) (PB m (nb c 7) (slot (nb c 7) (2 - t)))
def accL : ℕ → Dev nD → FVec F S1x512x1024 .bf16
  | 0, c => PB m (nb c 1) (slot c 6)
  | t + 1, c => addv (accL t (nb c 1)) (PB m (nb c 1) (slot (nb c 1) (6 + t)))

/-- The same rows after the device has added its own partial result. -/
def outR (t : ℕ) (c : Dev nD) : FVec F S1x512x1024 .bf16 := addv (accR m t c) (PB m c (slot c (2 - t)))
def outL (t : ℕ) (c : Dev nD) : FVec F S1x512x1024 .bf16 := addv (accL m t c) (PB m c (slot c (6 + t)))

def XALL : FVec F S8x512x1024 .bf16 := fun i => xb m (dv (i 0).val) (toB (n := 8) i)
def PARTS (c : Dev nD) : FVec F S8x512x1024 .bf16 := fun i => PB m c (i 0).val (toB (n := 8) i)
def RIN (c : Dev nD) : FVec F S3x512x1024 .bf16 := fun i => accR m (i 0).val c (toB (n := 3) i)
def LIN (c : Dev nD) : FVec F S3x512x1024 .bf16 := fun i => accL m (i 0).val c (toB (n := 3) i)
def ROUT (c : Dev nD) : FVec F S3x512x1024 .bf16 := fun i => outR m (i 0).val c (toB (n := 3) i)
def LOUT (c : Dev nD) : FVec F S3x512x1024 .bf16 := fun i => outL m (i 0).val c (toB (n := 3) i)
def DBUF (c : Dev nD) : FVec F S512x1024 .bf16 := shapeCast S512x1024 (PB m (nb c 4) (slot c 0)) shapeCasts_S1x512x1024_S512x1024
def OUT (c : Dev nD) : FVec F S1x512x1024 .f32 := k0_pay169 (accR m 2 c) (accL m 2 c) (DBUF m c) (PB m c (slot c 0))

/-! ## Reading them -/

section read
variable {off off' : Fin 3 → ℕ} {s q s' : ℕ}

theorem XALL_row (hoff : off = ![s, 0, 0]) (inb) (x : S1x512x1024.Idx) :
    XALL m ((Rect.unit (s := S8x512x1024) off S1x512x1024.size inb).emb x) = xb m (dv s) x := by
  show xb m (dv _) (toB _) = _
  rw [emb_row (n := 8) hoff, emb_row_row (n := 8) hoff]
theorem PARTS_row (c : Dev nD) (hoff : off = ![s, 0, 0]) (inb) (x : S1x512x1024.Idx) :
    PARTS m c ((Rect.unit (s := S8x512x1024) off S1x512x1024.size inb).emb x) = PB m c s x := by
  show PB m c _ (toB _) = _
  rw [emb_row (n := 8) hoff, emb_row_row (n := 8) hoff]
theorem RIN_row (c : Dev nD) (hoff : off = ![s, 0, 0]) (inb) (x : S1x512x1024.Idx) :
    RIN m c ((Rect.unit (s := S3x512x1024) off S1x512x1024.size inb).emb x) = accR m s c x := by
  show accR m _ c (toB _) = _
  rw [emb_row (n := 3) hoff, emb_row_row (n := 3) hoff]
theorem LIN_row (c : Dev nD) (hoff : off = ![s, 0, 0]) (inb) (x : S1x512x1024.Idx) :
    LIN m c ((Rect.unit (s := S3x512x1024) off S1x512x1024.size inb).emb x) = accL m s c x := by
  show accL m _ c (toB _) = _
  rw [emb_row (n := 3) hoff, emb_row_row (n := 3) hoff]

variable (hq : q < 2)
include hq

theorem XALL_half (hoff : off = ![s, 256 * q, 0]) (inb) (x : S1x256x1024.Idx) :
    XALL m ((Rect.unit (s := S8x512x1024) off S1x256x1024.size inb).emb x) = xb m (dv s) (hb q x) := by
  show xb m (dv _) (toB _) = _
  rw [emb_half (n := 8) hq hoff, emb_half_row (n := 8) hq hoff]
theorem PARTS_half (c : Dev nD) (hoff : off = ![s, 256 * q, 0]) (inb) (x : S1x256x1024.Idx) :
    PARTS m c ((Rect.unit (s := S8x512x1024) off S1x256x1024.size inb).emb x) = PB m c s (hb q x) := by
  show PB m c _ (toB _) = _
  rw [emb_half (n := 8) hq hoff, emb_half_row (n := 8) hq hoff]
theorem RIN_half (c : Dev nD) (hoff : off = ![s, 256 * q, 0]) (inb) (x : S1x256x1024.Idx) :
    RIN m c ((Rect.unit (s := S3x512x1024) off S1x256x1024.size inb).emb x) = accR m s c (hb q x) := by
  show accR m _ c (toB _) = _
  rw [emb_half (n := 3) hq hoff, emb_half_row (n := 3) hq hoff]
theorem LIN_half (c : Dev nD) (hoff : off = ![s, 256 * q, 0]) (inb) (x : S1x256x1024.Idx) :
    LIN m c ((Rect.unit (s := S3x512x1024) off S1x256x1024.size inb).emb x) = accL m s c (hb q x) := by
  show accL m _ c (toB _) = _
  rw [emb_half (n := 3) hq hoff, emb_half_row (n := 3) hq hoff]
theorem ROUT_half (c : Dev nD) (hoff : off = ![s, 256 * q, 0]) (inb) (x : S1x256x1024.Idx) :
    ROUT m c ((Rect.unit (s := S3x512x1024) off S1x256x1024.size inb).emb x) = outR m s c (hb q x) := by
  show outR m _ c (toB _) = _
  rw [emb_half (n := 3) hq hoff, emb_half_row (n := 3) hq hoff]
theorem LOUT_half (c : Dev nD) (hoff : off = ![s, 256 * q, 0]) (inb) (x : S1x256x1024.Idx) :
    LOUT m c ((Rect.unit (s := S3x512x1024) off S1x256x1024.size inb).emb x) = outL m s c (hb q x) := by
  show outL m _ c (toB _) = _
  rw [emb_half (n := 3) hq hoff, emb_half_row (n := 3) hq hoff]

end read

end Cert.Ring8
-- ==== Proof.Sched.lean ====
/-
# The protocol: who pays which semaphore, how much, with what

One round. A barrier cell has two duties of one unit: duty 0 from the right neighbour, which hands over the places its
own right-moving copies… that is, the payer of a barrier hands the paid device every place the paid device's copies will
write on the payer. A send cell has one duty, paid by the device's own copy, whose payload is the source back; a receive
cell one duty, paid by the copy that lands there, whose payload is the written place at its final contents.
The landing buffer of the direct copy travels around with the left-moving all-gather copies of half 0 until it reaches
the antipode, which may then write it.
-/
module

public import proofs.«01_k».proof.Proof.Data
public import Idealize.ShloMosaic.Lib.Pipeline.Launch
public import Idealize.ShloMosaic.Lib.Pipeline.Kit
public import Idealize.ShloMosaic.Lib.Tactic

@[expose] public section

noncomputable section

namespace Cert.Ring8

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

/-- The cell of number `n` on device `e`. -/
def cell (e : Dev nD) (n : ℕ) : GSem nD τ sig := ((e : Thread nD τ), cl n)
/-- The cell payment `j` of device `c` credits; the source cell of its copy `j`; the cell of `e` that copy `j` credits. -/
def pcell (c : Dev nD) (j : ℕ) : GSem nD τ sig := cell (pdst c j) (pno c j)
def scell (c : Dev nD) (j : ℕ) : GSem nD τ sig := cell c (sno j)
def rcell (e : Dev nD) (j : ℕ) : GSem nD τ sig := cell e (pno (psrc e j) j)

theorem pcell_eq (c : Dev nD) {j : ℕ} (h : j < 31) : pcell c j = rcell (pdst c j) j := by
  unfold pcell rcell; rw [show psrc (pdst c j) j = c from psrc_pdst c ⟨j, h⟩]

/-! ## Amounts -/

/-- The credit of a copy of half a row, and of a whole row. -/
abbrev Nh : ℕ := (((Memref.whole cc0_scratch0).slice (Rect.unit (s := S8x512x1024) ![0, 0, 0] S1x256x1024.size (by decide)) (fun _ => rfl)).squeeze S256x1024 squeezes_S1x256x1024_S256x1024 : Memref sig .tc .vmem S256x1024 .bf16).view.dmaCredit
abbrev Nw : ℕ := (Memref.whole cc0_scratch4 : Memref sig .tc .vmem S512x1024 .bf16).view.dmaCredit
theorem Nh_pos : 0 < Nh := View.dmaCredit_pos _ (by decide)
theorem Nw_pos : 0 < Nw := View.dmaCredit_pos _ (by decide)

def amt (j : ℕ) : ℕ := if kd j = 4 then Nw else Nh
theorem amt_pos (j : ℕ) : 0 < amt j := by unfold amt; split; exacts [Nw_pos, Nh_pos]
def pamt (j : ℕ) : ℕ := if j < 2 ∨ 29 ≤ j then 1 else amt j

/-! ## Payloads -/

/-- Half `q` of row `s` of the gathered array on device `e`, and so for the other arrays. -/
def xPc (e : Dev nD) (s q : ℕ) (p : PosShare TreeShare) (f : FVec F S8x512x1024 .bf16) : sProp 𝕄 :=
  ((e : Thread nD τ).loc cc0_scratch0) ↦[half 8 s q]{p} (f : Buf (Elt F) ((e : Thread nD τ).loc cc0_scratch0))
def pPc (e : Dev nD) (s q : ℕ) (f : FVec F S8x512x1024 .bf16) : sProp 𝕄 :=
  ((e : Thread nD τ).loc cc0_scratch1) ↦[half 8 s q]{fullShare} (f : Buf (Elt F) ((e : Thread nD τ).loc cc0_scratch1))
def rPc (e : Dev nD) (s q : ℕ) (f : FVec F S3x512x1024 .bf16) : sProp 𝕄 :=
  ((e : Thread nD τ).loc cc0_scratch2) ↦[half 3 s q]{fullShare} (f : Buf (Elt F) ((e : Thread nD τ).loc cc0_scratch2))
def lPc (e : Dev nD) (s q : ℕ) (f : FVec F S3x512x1024 .bf16) : sProp 𝕄 :=
  ((e : Thread nD τ).loc cc0_scratch3) ↦[half 3 s q]{fullShare} (f : Buf (Elt F) ((e : Thread nD τ).loc cc0_scratch3))
def dPt (e : Dev nD) (f : FVec F S512x1024 .bf16) : sProp 𝕄 :=
  ((e : Thread nD τ).loc cc0_scratch4) ↦{fullShare} (f : Buf (Elt F) ((e : Thread nD τ).loc cc0_scratch4))

omit [FloatOps F] in
instance xPc_st (e : Dev nD) (s q p f) : BI.Storable (upEmb : UEmb _ 𝕄) (xPc (F := F) e s q p f) := by unfold xPc; infer_instance
omit [FloatOps F] in
instance pPc_st (e : Dev nD) (s q f) : BI.Storable (upEmb : UEmb _ 𝕄) (pPc (F := F) e s q f) := by unfold pPc; infer_instance
omit [FloatOps F] in
instance rPc_st (e : Dev nD) (s q f) : BI.Storable (upEmb : UEmb _ 𝕄) (rPc (F := F) e s q f) := by unfold rPc; infer_instance
omit [FloatOps F] in
instance lPc_st (e : Dev nD) (s q f) : BI.Storable (upEmb : UEmb _ 𝕄) (lPc (F := F) e s q f) := by unfold lPc; infer_instance
omit [FloatOps F] in
instance dPt_st (e : Dev nD) (f) : BI.Storable (upEmb : UEmb _ 𝕄) (dPt (F := F) e f) := by unfold dPt; infer_instance

/-- The landing buffer of the direct copy on `e`, whatever it holds. -/
def dAny (e : Dev nD) : sProp 𝕄 := iprop(∃ f, dPt (F := F) e f)
omit [FloatOps F] in
instance dAny_st (e : Dev nD) : BI.Storable (upEmb : UEmb _ 𝕄) (dAny (F := F) e) := by unfold dAny; infer_instance

/-- The place on `e` that copy `j` writes, whatever it holds. -/
def dstP (j : ℕ) (e : Dev nD) : sProp 𝕄 :=
  if kd j = 0 then iprop(∃ f, xPc e (slot e (7 - tt j)) (qq j) fullShare f)
  else if kd j = 1 then iprop(∃ f, xPc e (slot e (1 + tt j)) (qq j) fullShare f)
  else if kd j = 2 then iprop(∃ f, rPc e (tt j) (qq j) f)
  else if kd j = 3 then iprop(∃ f, lPc e (tt j) (qq j) f)
  else iprop(emp)

/-- The landing buffer that left-moving copy `j` of half 0 carries along to `e`. -/
def along (j : ℕ) (e : Dev nD) : sProp 𝕄 := if kd j = 1 ∧ qq j = 0 then dAny (nb e (1 + tt j)) else iprop(emp)

/-- What copy `j` leaves on `e`. -/
def rpay (j : ℕ) (e : Dev nD) : sProp 𝕄 :=
  if kd j = 0 then xPc e (slot e (7 - tt j)) (qq j) fullShare (XALL m)
  else if kd j = 1 then iprop(xPc e (slot e (1 + tt j)) (qq j) fullShare (XALL m) ∗ along j e)
  else if kd j = 2 then rPc e (tt j) (qq j) (RIN m e)
  else if kd j = 3 then lPc e (tt j) (qq j) (LIN m e)
  else dPt e (DBUF m e)

/-- The source of `c`'s copy `j`. -/
def spay (j : ℕ) (c : Dev nD) : sProp 𝕄 :=
  if kd j = 0 then xPc c (slot c (8 - tt j)) (qq j) fullShare.left (XALL m)
  else if kd j = 1 then xPc c (slot c (tt j)) (qq j) (if tt j = 0 then fullShare.right.left else fullShare.left) (XALL m)
  else if kd j = 2 then (if tt j = 0 then pPc c (slot c 3) (qq j) (PARTS m c) else rPc c (tt j - 1) (qq j) (ROUT m c))
  else if kd j = 3 then (if tt j = 0 then pPc c (slot c 5) (qq j) (PARTS m c) else lPc c (tt j - 1) (qq j) (LOUT m c))
  else iprop(pPc c (slot c 4) 0 (PARTS m c) ∗ pPc c (slot c 4) 1 (PARTS m c))

omit [FloatOps F] in
instance dstP_st (j : ℕ) (e : Dev nD) : BI.Storable (upEmb : UEmb _ 𝕄) (dstP (F := F) j e) := by
  unfold dstP; (repeat' split) <;> infer_instance
omit [FloatOps F] in
instance along_st (j : ℕ) (e : Dev nD) : BI.Storable (upEmb : UEmb _ 𝕄) (along (F := F) j e) := by
  unfold along; split <;> infer_instance
instance rpay_st (j : ℕ) (e : Dev nD) : BI.Storable (upEmb : UEmb _ 𝕄) (rpay (F := F) m j e) := by
  unfold rpay; (repeat' split) <;> infer_instance
instance spay_st (j : ℕ) (c : Dev nD) : BI.Storable (upEmb : UEmb _ 𝕄) (spay (F := F) m j c) := by
  unfold spay; (repeat' split) <;> infer_instance

/-- The copies that go to the right and those that go to the left neighbour. -/
def toR : Finset ℕ := (Finset.Ico 2 29).filter fun j => kd j = 0 ∨ kd j = 2
def toL : Finset ℕ := (Finset.Ico 2 29).filter fun j => kd j = 1 ∨ kd j = 3

/-- What `e`'s barrier is paid with: by the right neighbour (duty 0) the places `e`'s right-moving copies write, by the
    left one (duty 1) those of the left-moving copies. -/
def barPay (e : Dev nD) (d : Fin 2) : sProp 𝕄 :=
  if d = 0 then bigSep toR fun j => dstP j (pdst e j) else bigSep toL fun j => dstP j (pdst e j)
omit [FloatOps F] in
instance barPay_st (e : Dev nD) (d) : BI.Storable (upEmb : UEmb _ 𝕄) (barPay (F := F) e d) := by
  unfold barPay; split <;> infer_instance

/-! ## The schedule -/

def dutN (e : Dev nD) (n : ℕ) : Finset (Fin 2) :=
  if 62 ≤ n then Finset.univ else if sj n ≠ 99 ∨ rj e n ≠ 99 then {0} else ∅
def amtN (e : Dev nD) (n : ℕ) : ℕ :=
  if 62 ≤ n then 1 else if sj n ≠ 99 then amt (sj n) else amt (rj e n)
def payN (e : Dev nD) (n : ℕ) (d : Fin 2) : sProp 𝕄 :=
  if n = 63 then barPay e d else if n = 62 then iprop(emp)
  else if sj n ≠ 99 then spay m (sj n) e else rpay m (rj e n) e

def Rd : Rounds.Schedule (GSem nD τ sig) (Fin 2) 𝕄 where
  duties g r := if r = 0 ∧ g.1.2 = .tc then dutN g.1.1 (no g.2) else ∅
  unitless _ := False
  amount g _ _ := amtN g.1.1 (no g.2)
  payload g _ d := payN m g.1.1 (no g.2) d
  amount_pos g _ _ _ := by
    unfold amtN; (repeat' split)
    exacts [Nat.one_pos, amt_pos _, amt_pos _]

instance Rd_payload_storable (g : GSem nD τ sig) (r : ℕ) (d : Fin 2) :
    BI.Storable (upEmb : UEmb _ 𝕄) ((Rd (F := F) m).payload g r d) := by
  show BI.Storable upEmb (payN m g.1.1 (no g.2) d)
  unfold payN; (repeat' split) <;> infer_instance

section Sched

theorem duties_cell (e : Dev nD) {n : ℕ} (h : n < 64) : (Rd (F := F) m).duties (cell e n) 0 = dutN e n := by
  dsimp only [Rd, cell]; rw [if_pos ⟨rfl, rfl⟩, no_cl h]
theorem amount_cell (e : Dev nD) {n : ℕ} (h : n < 64) (d) : (Rd (F := F) m).amount (cell e n) 0 d = amtN e n := by
  dsimp only [Rd, cell]; rw [no_cl h]
theorem payload_cell (e : Dev nD) {n : ℕ} (h : n < 64) (d) : (Rd (F := F) m).payload (cell e n) 0 d = payN m e n d := by
  dsimp only [Rd, cell]; rw [no_cl h]
theorem duties_later (g : GSem nD τ sig) : ∀ r, 1 ≤ r → (Rd (F := F) m).duties g r = ∅ :=
  fun r hr => by dsimp only [Rd]; rw [if_neg fun h => by omega]

variable {j : ℕ} (h2 : 2 ≤ j) (h29 : j < 29) (c : Dev nD)
include h2 h29

theorem duties_scell : (Rd (F := F) m).duties (scell c j) 0 = {0} := by
  have := sno_lt h2 h29
  unfold scell; rw [duties_cell m c (by omega), dutN, if_neg (by omega), sj_sno h2 h29, if_pos (.inl (by omega))]
theorem amount_scell (d) : (Rd (F := F) m).amount (scell c j) 0 d = amt j := by
  have := sno_lt h2 h29
  unfold scell; rw [amount_cell m c (by omega), amtN, if_neg (by omega), sj_sno h2 h29, if_pos (by omega)]
theorem payload_scell (d) : (Rd (F := F) m).payload (scell c j) 0 d = spay m j c := by
  have := sno_lt h2 h29
  unfold scell; rw [payload_cell m c (by omega), payN, if_neg (by omega), if_neg (by omega), sj_sno h2 h29, if_pos (by omega)]

theorem duties_pcell : (Rd (F := F) m).duties (pcell c j) 0 = {0} := by
  have := pno_lt c h2 h29
  unfold pcell; rw [duties_cell m _ (by omega), dutN, if_neg (by omega), rj_pno c h2 h29, if_pos (.inr (by omega))]
theorem amount_pcell (d) : (Rd (F := F) m).amount (pcell c j) 0 d = amt j := by
  have := pno_lt c h2 h29
  unfold pcell; rw [amount_cell m _ (by omega), amtN, if_neg (by omega), sj_pno c h2 h29, if_neg (by omega), rj_pno c h2 h29]
theorem payload_pcell (d) : (Rd (F := F) m).payload (pcell c j) 0 d = rpay m j (pdst c j) := by
  have := pno_lt c h2 h29
  unfold pcell; rw [payload_cell m _ (by omega), payN, if_neg (by omega), if_neg (by omega), sj_pno c h2 h29, if_neg (by omega), rj_pno c h2 h29]

theorem rcell_eq : rcell c j = pcell (psrc c j) j := by
  unfold pcell rcell; rw [show pdst (psrc c j) j = c from pdst_psrc c ⟨j, by omega⟩]

theorem duties_rcell : (Rd (F := F) m).duties (rcell c j) 0 = {0} := by rw [rcell_eq h2 h29]; exact duties_pcell m h2 h29 _
theorem amount_rcell (d) : (Rd (F := F) m).amount (rcell c j) 0 d = amt j := by rw [rcell_eq h2 h29]; exact amount_pcell m h2 h29 _ d
theorem payload_rcell (d) : (Rd (F := F) m).payload (rcell c j) 0 d = rpay m j c := by
  rw [rcell_eq h2 h29, payload_pcell m h2 h29, show pdst (psrc c j) j = c from pdst_psrc c ⟨j, by omega⟩]

theorem expect_scell : (Rd (F := F) m).expect (scell c j) 0 = amt j := by
  unfold Schedule.expect Schedule.amountOf; rw [duties_scell m h2 h29, Finset.sum_singleton, amount_scell m h2 h29]
theorem expect_rcell : (Rd (F := F) m).expect (rcell c j) 0 = amt j := by
  unfold Schedule.expect Schedule.amountOf; rw [duties_rcell m h2 h29, Finset.sum_singleton, amount_rcell m h2 h29]
theorem rest_scell : bigSep ((Rd (F := F) m).duties (scell c j) 0 \ ∅) (fun d => (Rd (F := F) m).payload (scell c j) 0 d) = spay m j c := by
  rw [Finset.sdiff_empty, duties_scell m h2 h29, bigSep_singleton, payload_scell m h2 h29]
theorem rest_rcell : bigSep ((Rd (F := F) m).duties (rcell c j) 0 \ ∅) (fun d => (Rd (F := F) m).payload (rcell c j) 0 d) = rpay m j c := by
  rw [Finset.sdiff_empty, duties_rcell m h2 h29, bigSep_singleton, payload_rcell m h2 h29]

end Sched

section Bars
variable (c : Dev nD) {n : ℕ} (h : 62 ≤ n) (h' : n < 64)
include h h'

theorem duties_bar : (Rd (F := F) m).duties (cell c n) 0 = Finset.univ := by rw [duties_cell m c h', dutN, if_pos h]
theorem amount_bar (d) : (Rd (F := F) m).amount (cell c n) 0 d = 1 := by rw [amount_cell m c h', amtN, if_pos h]
theorem expect_bar : (Rd (F := F) m).expect (cell c n) 0 = 2 := by
  unfold Schedule.expect Schedule.amountOf
  rw [duties_bar m c h h', Finset.sum_congr rfl fun d _ => amount_bar m c h h' d]; rfl
theorem payload_bar (d) : (Rd (F := F) m).payload (cell c n) 0 d = if n = 63 then barPay c d else iprop(emp) := by
  rw [payload_cell m c h', payN]; split; · rfl
  rw [if_pos (by omega)]
theorem rest_bar : bigSep ((Rd (F := F) m).duties (cell c n) 0 \ ∅) (fun d => (Rd (F := F) m).payload (cell c n) 0 d)
    = if n = 63 then iprop(barPay c 0 ∗ barPay c 1) else iprop(emp ∗ emp) := by
  rw [Finset.sdiff_empty, duties_bar m c h h', bigSep_univ_eq_bigSepL [0, 1] (by decide) (by decide), bigSepL_cons_cons, bigSepL_singleton,
    payload_bar m c h h', payload_bar m c h h']
  split <;> rfl

end Bars

/-! ## What each device owes, and the levels -/

/-- What device `c` owes from payment `i` on. -/
def oweFrom (c : Dev nD) (i : ℕ) : CellTallies nD τ sig Unit := ∑ j ∈ Finset.Ico i 31, tallyAt (pcell c j) () (pamt j)

theorem Ico_bot {a b : ℕ} (h : a < b) : Finset.Ico a b = insert a (Finset.Ico (a + 1) b) := by
  ext x; simp only [Finset.mem_Ico, Finset.mem_insert]; omega
theorem Ico_top {a b : ℕ} (h : a ≤ b) : Finset.Ico a (b + 1) = insert b (Finset.Ico a b) := by
  ext x; simp only [Finset.mem_Ico, Finset.mem_insert]; omega

theorem oweFrom_succ (c : Dev nD) {i : ℕ} (h : i < 31) : oweFrom c i = oweFrom c (i + 1) + tallyAt (pcell c i) () (pamt i) := by
  unfold oweFrom; rw [Ico_bot h, Finset.sum_insert (by simp), add_comm]
theorem oweFrom_end (c : Dev nD) : oweFrom c 31 = 0 := by unfold oweFrom; rw [Finset.Ico_self, Finset.sum_empty]

def L (g : GSem nD τ sig) : Finset Unit := if g.1.2 = .tc then {()} else ∅
def lvN (e : Dev nD) (n : ℕ) : ℕ := if n = 63 then 1 else if n = 62 then 30 else if rj e n ≠ 99 then rj e n + 1 else 0
/-- The first barrier at 1, the receive cell of copy `j` at `j + 1`, the second barrier at 30, everything else at 0. -/
def lv (g : GSem nD τ sig) (_ : Unit) : ℕ := lvN g.1.1 (no g.2)

theorem L_of_ne (g : GSem nD τ sig) (h : g.1.2 ≠ .tc) : L g = ∅ := if_neg h
theorem L_tc (c : Dev nD) (sm : SemLoc sig) : L ((c : Thread nD τ), sm) = {()} := if_pos rfl

theorem lv_cell (e : Dev nD) {n : ℕ} (h : n < 64) : lv (cell e n) () = lvN e n := by unfold lv cell; rw [no_cl h]

def plv (j : ℕ) : ℕ := if j < 2 then 1 else if 29 ≤ j then 30 else j + 1
theorem lv_pcell (c : Dev nD) {j : ℕ} (h : j < 31) : lv (pcell c j) () = plv j := by
  rcases Nat.lt_or_ge j 2 with h2 | h2
  · unfold pcell plv; rw [show pno c j = 63 by unfold pno; rw [if_pos h2], lv_cell _ (by decide), if_pos h2]; rfl
  rcases Nat.lt_or_ge j 29 with h29 | h29
  · have := pno_lt c h2 h29
    unfold pcell plv; rw [lv_cell _ (by omega), if_neg (by omega), if_neg (by omega), lvN, if_neg (by omega), if_neg (by omega), rj_pno c h2 h29, if_pos (by omega)]
  · unfold pcell plv; rw [show pno c j = 62 by unfold pno; rw [if_neg (by omega), if_pos h29], lv_cell _ (by decide), if_neg (by omega), if_pos h29]; rfl
theorem lv_rcell (c : Dev nD) {j : ℕ} (h2 : 2 ≤ j) (h29 : j < 29) : lv (rcell c j) () = j + 1 := by
  rw [rcell_eq h2 h29, lv_pcell _ (by omega), plv, if_neg (by omega), if_neg (by omega)]

theorem oweFrom_pos {c : Dev nD} {i : ℕ} {g : GSem nD τ sig} {u : Unit} (h : 0 < oweFrom c i g u) : ∃ j, i ≤ j ∧ j < 31 ∧ g = pcell c j := by
  unfold oweFrom at h
  rw [Finset.sum_apply, Finsupp.finset_sum_apply] at h
  obtain ⟨j, hj, hp⟩ := Finset.exists_ne_zero_of_sum_ne_zero (Nat.pos_iff_ne_zero.mp h)
  rw [Finset.mem_Ico] at hj
  refine ⟨j, hj.1, hj.2, ?_⟩
  rw [tallyAt_apply] at hp
  by_contra hn
  exact hp (if_neg fun h' => hn h'.1)

omit [FloatOps F] in
/-- A device may wait below everything it still owes. -/
theorem mayWait (c : Dev nD) (sm : SemLoc sig) (i ℓ : ℕ) (hw : lv ((c : Thread nD τ), sm) () ≤ ℓ) (hℓ : ∀ j, i ≤ j → j < 31 → ℓ < plv j) :
    (levAts L lv : sProp 𝕄) ⊢ MayWait (c : Thread nD τ) sm () (oweFrom c i) :=
  MayOwe.of_cut (L := L) (lev := lv) ℓ (fun p hp => by rw [Finset.mem_singleton.mp hp, L_tc]; exact Finset.mem_singleton_self _)
    (fun g u hg => by obtain ⟨j, h, h', rfl⟩ := oweFrom_pos hg; exact Finset.mem_singleton_self _)
    (fun p hp => by rw [Finset.mem_singleton.mp hp]; exact hw)
    (fun g u hg => by obtain ⟨j, h, h', rfl⟩ := oweFrom_pos hg; cases u; rw [lv_pcell c h']; exact hℓ j h h')

end Cert.Ring8
-- ==== Proof.Steps.lean ====
/-
# One effect of the body at a time

`Ctl c i a` is what device `c` holds of the protocol after its payments before `i` and the first `a` of its receive waits.
The rules below advance it: a signal and a remote copy are payment `i`, a receive wait takes the payload of the next copy
to arrive. `Dra c b` is the same once every payment but the last two is made and `b` of the source waits are done.
-/
module

public import proofs.«01_k».proof.Proof.Sched

@[expose] public section

noncomputable section

namespace Cert.Ring8

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a piece of device `c`'s body. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

omit [FloatOps F] in
theorem sep_ins {I : Type} [DecidableEq I] {s : Finset I} {i : I} (hi : i ∉ s) {Φ : I → sProp 𝕄} :
    bigSep (insert i s) Φ = iprop(Φ i ∗ bigSep s Φ) := bigSep_insert hi

/-! ## The cells' invariants -/

abbrev kcell (ek : Dev nD × Fin 58) : GSem nD τ sig := cell ek.1 (6 + ek.2.val)

def records (K : Dev nD × Fin 58 → ℕ) : sProp 𝕄 :=
  iprop((bigSep Finset.univ fun ek : Dev nD × Fin 58 => cellInv ER (Rd m) (K ek) (kcell ek))
    ∗ bigSep Finset.univ fun ek : Dev nD × Fin 58 => reached ER (kcell ek) 0)

instance records_persistent (K : Dev nD × Fin 58 → ℕ) : BI.Persistent (records m K) := by unfold records; infer_instance

variable (K : Dev nD × Fin 58 → ℕ)

/-- The name under which the cell of number `n` on `e` was allocated. -/
def nm (e : Dev nD) (n : ℕ) : ℕ := K (e, ⟨(n - 6) % 58, Nat.mod_lt _ (by decide)⟩)

theorem inv_cell (e : Dev nD) {n : ℕ} (h6 : 6 ≤ n) (h : n < 64) : records m K ⊢ cellInv ER (Rd m) (nm K e n) (cell e n) := by
  unfold records
  refine (sep_elim_left).trans ((bigSep_elim (Finset.mem_univ (e, (⟨(n - 6) % 58, Nat.mod_lt _ (by decide)⟩ : Fin 58)))).trans ?_)
  dsimp only [kcell, nm]
  rw [show 6 + (n - 6) % 58 = n by omega]
  exact BI.Entails.refl _
theorem reached_cell (e : Dev nD) {n : ℕ} (h6 : 6 ≤ n) (h : n < 64) : records m K ⊢ (reached ER (cell e n) 0 : sProp 𝕄) := by
  unfold records
  refine (sep_elim_right).trans ((bigSep_elim (Finset.mem_univ (e, (⟨(n - 6) % 58, Nat.mod_lt _ (by decide)⟩ : Fin 58)))).trans ?_)
  dsimp only [kcell]
  rw [show 6 + (n - 6) % 58 = n by omega]
  exact BI.Entails.refl _

/-! ## What a device holds of the protocol -/

/-- The order of the receive waits and that of the source waits. -/
def rOrd (a : ℕ) : ℕ := [2,4,3,5,6,7,8,9,10,11,12,13,16,17,14,15,18,19,20,21,23,24,25,27,26,28,22].getD a 0
def sOrd (b : ℕ) : ℕ := [2,4,6,7,10,11,3,5,8,9,12,13,14,15,16,17,20,21,25,26,18,19,23,24,27,28,22].getD b 0
theorem rOrd_rng : ∀ a : Fin 27, 2 ≤ rOrd a ∧ rOrd a < 29 := by decide
theorem sOrd_rng : ∀ a : Fin 27, 2 ≤ sOrd a ∧ sOrd a < 29 := by decide

/-- The duty of a payment. -/
def pd (j : ℕ) : Fin 2 := if j = 1 ∨ j = 30 then 1 else 0

/-- The tokens copy `j` is made with. -/
def payTok (c : Dev nD) (j : ℕ) : sProp 𝕄 :=
  iprop(dutyTok ER (pcell c j) 0 0 ∗ dutyTok ER (scell c j) 0 0 ∗ atPos ER (scell c j) 0 ∅ 0)
/-- What the wait for copy `j`'s source is done with, and the wait for its arrival. -/
def sentTok (c : Dev nD) (j : ℕ) : sProp 𝕄 := iprop(cred (tallyAt (scell c j) () (amt j)) ∗ atPos ER (scell c j) 0 ∅ 0)
def rcvTok (c : Dev nD) (j : ℕ) : sProp 𝕄 := iprop(cred (tallyAt (rcell c j) () (amt j)) ∗ atPos ER (rcell c j) 0 ∅ 0)

def Ctl (c : Dev nD) (i a : ℕ) : sProp 𝕄 :=
  iprop((∃ W, owes (c : Thread nD τ) (oweFrom c i) W)
    ∗ (bigSep (Finset.Ico i 29) fun j => payTok c j)
    ∗ (bigSep (Finset.Ico i 29) fun j => dstP j (pdst c j))
    ∗ (bigSep (Finset.Ico 2 i) fun j => sentTok c j)
    ∗ (bigSep (Finset.Ico a 27) fun b => rcvTok c (rOrd b))
    ∗ bigSep (Finset.Ico 0 a) fun b => semVal (rcell c (rOrd b)) 0)

def Dra (c : Dev nD) (b : ℕ) : sProp 𝕄 :=
  iprop((∃ W, owes (c : Thread nD τ) (oweFrom c 29) W)
    ∗ (bigSep (Finset.Ico b 27) fun k => sentTok c (sOrd k))
    ∗ bigSep (Finset.Ico 0 b) fun k => iprop(spay m (sOrd k) c ∗ semVal (scell c (sOrd k)) 0))

/-! ## The rules -/

/-- A remote copy is payment `i`. -/
theorem step_send (c : Dev nD) {i a : ℕ} (h2 : 2 ≤ i) (h29 : i < 29) {dv : Dev nD} (hdv : dv = pdst c i)
    {sp sp' : Space} {s : Shape} {e : EltTy} {src : Memref sig .tc sp s e} {dst : Memref sig (Dev.tc dv : Thread nD τ).2.kind sp' s e}
    {hsc : dst.view.ref.isScScratch = false} {sS sem : SemLoc sig} (hsS : sS = cl (sno i)) (hsem' : sem = cl (pno c i))
    {hsrc : src.view.WordExact} {hdst : dst.view.WordExact} {hsem : DmaTarget.Typed sp sem (.remote (Dev.tc dv : Thread nD τ) dst sS hsc)}
    {α : Type} {k : PUnit → Prog (TpuEff nD τ sig (Elt F) Λ₀ .tc) α} {Q : α → sProp 𝕄}
    {q : PosShare TreeShare} {fs : Buf (Elt F) (src.view.loc (c : Thread nD τ))} {D Fr : sProp 𝕄}
    (hN : dst.view.amount sem = amt i)
    (hs : spay m i c = (src.view.loc (c : Thread nD τ) ↦[src.view.set]{q} fs))
    (hd : iprop(dstP i (pdst c i) ∗ D) ⊢ (iprop(∃ fd, dst.view.loc (Dev.tc dv : Thread nD τ) ↦[dst.view.set]{fullShare} fd) : sProp 𝕄))
    (hp : ∀ fd : Buf (Elt F) (dst.view.loc (Dev.tc dv : Thread nD τ)),
      iprop((dst.view.loc (Dev.tc dv : Thread nD τ) ↦[dst.view.set]{fullShare} (dst.view.write (Elt F) fd (src.view.read (Elt F) fs) Finset.univ)) ∗ Fr)
        ⊢ rpay m i (pdst c i)) :
    iprop(records m K ∗ Ctl (F := F) c i a ∗ spay m i c ∗ D ∗ Fr)
      ⊢ iprop((Ctl (F := F) c (i + 1) a -∗ wpc c (k ⟨⟩) Q)
          -∗ wpc c (.op (.enqueueDma src (.remote (Dev.tc dv : Thread nD τ) dst sS hsc) sem hsrc hdst hsem) k) Q) := by
  subst hdv
  have e1 : pcell c i = ((Dev.tc (pdst c i) : Thread nD τ), sem) := by rw [hsem']; rfl
  have e2 : scell c i = ((c : Thread nD τ), sS) := by rw [hsS]; rfl
  unfold Ctl
  rw [Ico_bot h29, sep_ins (by simp), sep_ins (by simp), Ico_top h2, sep_ins (by simp), hs]
  iintro ⟨#HR, ⟨⟨%W, HO⟩, ⟨Htk, Hpt⟩, ⟨Hdp, Hdt⟩, Hsent, Hrcv, Hz⟩, Hsrc, HD, HF⟩ Hk
  unfold payTok
  icases Htk with ⟨Ht1, Ht2, Hat⟩
  ihave Hdd := hd $$ [Hdp HD]
  · isplitl [Hdp] <;> iassumption
  icases Hdd with ⟨%fd, Hdst⟩
  have hO : oweFrom c i = oweFrom c (i + 1) + tallyAt ((Dev.tc (pdst c i) : Thread nD τ), sem) () (amt i) := by
    rw [oweFrom_succ c (show i < 31 by omega), e1, pamt, if_neg (by omega)]
  rw [e1, e2]
  iapply (Rounds.wp_send_pointsTo_with 𝒱₀ ER (Rd m) (c : Thread nD τ) none (κ₁ := nm K c (sno i)) (κ₂ := nm K (pdst c i) (pno c i))
    (r₁ := 0) (r₂ := 0) (d₁ := 0) (d₂ := 0) (fd := fd) (F := Fr)
    (by rw [← e2, duties_scell m h2 h29]; exact Finset.mem_singleton_self _)
    (by rw [← e1, duties_pcell m h2 h29]; exact Finset.mem_singleton_self _)
    () () (amt i) hN (by rw [← e2]; exact amount_scell m h2 h29 c 0) (by rw [← e1]; exact amount_pcell m h2 h29 c 0)
    (oweFrom c (i + 1)) hO
    (by rw [← e2, payload_scell m h2 h29, hs]) (by rw [← e1, payload_pcell m h2 h29]; exact hp fd)) $$ [Hsrc Hdst HF HO Ht1 Ht2]
  · isplitr
    · rw [← e2]; iapply (inv_cell m K c (sno_ge h2 h29) (by have := sno_lt h2 h29; omega)); iexact HR
    isplitr
    · rw [← e1]; iapply (inv_cell m K (pdst c i) (pno_ge c h2 h29) (by have := pno_lt c h2 h29; omega)); iexact HR
    isplitl [Hsrc]; · iexact Hsrc
    isplitl [Hdst HF]
    · isplitl [Hdst] <;> iassumption
    isplitl [HO]; · iexact HO
    isplitl [Ht2]; · iexact Ht2
    isplitr
    · rw [← e2]; iapply (reached_cell m K c (sno_ge h2 h29) (by have := sno_lt h2 h29; omega)); iexact HR
    isplitl [Ht1]; · iexact Ht1
    rw [← e1]; iapply (reached_cell m K (pdst c i) (pno_ge c h2 h29) (by have := pno_lt c h2 h29; omega)); iexact HR
  iintro ⟨Hc, HO⟩
  iapply Hk
  isplitl [HO]; · iexists W; iexact HO
  isplitl [Hpt]; · iexact Hpt
  isplitl [Hdt]; · iexact Hdt
  isplitl [Hc Hat Hsent]
  · isplitr [Hsent]
    · unfold sentTok; rw [e2]; isplitl [Hc] <;> iassumption
    · iexact Hsent
  isplitl [Hrcv] <;> iassumption

/-- A receive wait takes what the next copy to arrive left. -/
theorem step_recv (c : Dev nD) {i a : ℕ} (hi : i ≤ 29) (ha : a < 27) (hlt : rOrd a < i)
    {w : TpuEff nD τ sig (Elt F) Λ₀ .tc PUnit} {sm : SemLoc sig} {k' : ℕ}
    (hw : ∀ Kk : PUnit → sProp 𝕄, wpE (defs₀ (F := F)) 𝒱₀ (c : Thread nD τ) none Set.univ w Kk = waitSpec (c : Thread nD τ) Set.univ sm k' Kk)
    (hsm : sm = cl (pno (psrc c (rOrd a)) (rOrd a))) (hk : k' = amt (rOrd a))
    {α : Type} {k : PUnit → Prog (TpuEff nD τ sig (Elt F) Λ₀ .tc) α} {Q : α → sProp 𝕄}
    {R : sProp 𝕄} (hR : rpay m (rOrd a) c = R) :
    iprop(records m K ∗ levAts L lv ∗ Ctl (F := F) c i a)
      ⊢ iprop(((Ctl (F := F) c i (a + 1) ∗ R) -∗ wpc c (k ⟨⟩) Q) -∗ wpc c (.op w k) Q) := by
  obtain ⟨h2, h29⟩ := rOrd_rng ⟨a, ha⟩
  dsimp only at h2 h29
  subst hk
  have e1 : rcell c (rOrd a) = ((c : Thread nD τ), sm) := by rw [hsm]; rfl
  unfold Ctl
  rw [Ico_bot ha, sep_ins (by simp), Ico_top (Nat.zero_le a), sep_ins (by simp)]
  iintro ⟨#HR, #Hlev, ⟨%W, HO⟩, Hpt, Hdt, Hsent, ⟨Htk, Hrcv⟩, Hz⟩ Hk
  unfold rcvTok
  icases Htk with ⟨Hc, Hat⟩
  have hge : 6 ≤ pno (psrc c (rOrd a)) (rOrd a) := pno_ge _ h2 h29
  have hlt64 : pno (psrc c (rOrd a)) (rOrd a) < 64 := by have := pno_lt (psrc c (rOrd a)) h2 h29; omega
  rw [e1]
  iapply (Rounds.wp_wait_rest_token 𝒱₀ ER (Rd m) (c : Thread nD τ) none (κ := nm K c (pno (psrc c (rOrd a)) (rOrd a)))
      hw (Set.mem_univ _) () (O := oweFrom c i) (W := W) (R := 0) (m := 0) (T := ∅)
      (by rw [← e1, expect_rcell m h2 h29, Nat.zero_add])) $$ [Hc HO Hat]
  · isplitr
    · rw [← e1]; iapply (inv_cell m K c hge hlt64); iexact HR
    isplitl [Hc]; · iexact Hc
    isplitl [HO]; · iexact HO
    isplitr
    · iapply (mayWait (F := F) c sm i (rOrd a + 1) (by rw [← e1, lv_rcell c h2 h29])
        (fun j hj hj' => by unfold plv; split_ifs <;> omega)); iexact Hlev
    iexact Hat
  iintro ⟨HO, Hat, -, Hpay⟩
  ihave Hpay := (Entails.of_eq ((e1 ▸ rest_rcell m h2 h29 c).trans hR)) $$ Hpay
  imod (Rounds.cell_close ER (Rd m) (g := ((c : Thread nD τ), sm)) (κ := nm K c (pno (psrc c (rOrd a)) (rOrd a))) (Set.mem_univ _) (fun h => h) (R := 0 + 1) (duties_later m _)) $$ [Hat] with Hzz
  · isplitr
    · rw [← e1]; iapply (inv_cell m K c hge hlt64); iexact HR
    iexact Hat
  iapply Hk
  isplitr [Hpay]
  · isplitl [HO]; · iexists _; iexact HO
    isplitl [Hpt]; · iexact Hpt
    isplitl [Hdt]; · iexact Hdt
    isplitl [Hsent]; · iexact Hsent
    isplitl [Hrcv]; · iexact Hrcv
    isplitl [Hzz] <;> iassumption
  · iexact Hpay

/-- A source wait gives the source of a copy back. -/
theorem step_src (c : Dev nD) {b : ℕ} (hb : b < 27)
    {w : TpuEff nD τ sig (Elt F) Λ₀ .tc PUnit} {sm : SemLoc sig} {k' : ℕ}
    (hw : ∀ Kk : PUnit → sProp 𝕄, wpE (defs₀ (F := F)) 𝒱₀ (c : Thread nD τ) none Set.univ w Kk = waitSpec (c : Thread nD τ) Set.univ sm k' Kk)
    (hsm : sm = cl (sno (sOrd b))) (hk : k' = amt (sOrd b))
    {α : Type} {k : PUnit → Prog (TpuEff nD τ sig (Elt F) Λ₀ .tc) α} {Q : α → sProp 𝕄} :
    iprop(records m K ∗ levAts L lv ∗ Dra m c b)
      ⊢ iprop((Dra m c (b + 1) -∗ wpc c (k ⟨⟩) Q) -∗ wpc c (.op w k) Q) := by
  obtain ⟨h2, h29⟩ := sOrd_rng ⟨b, hb⟩
  dsimp only at h2 h29
  subst hk
  have e1 : scell c (sOrd b) = ((c : Thread nD τ), sm) := by rw [hsm]; rfl
  have hge : 6 ≤ sno (sOrd b) := sno_ge h2 h29
  have hlt : sno (sOrd b) < 62 := sno_lt h2 h29
  unfold Dra
  rw [Ico_bot hb, sep_ins (by simp), Ico_top (Nat.zero_le b), sep_ins (by simp)]
  iintro ⟨#HR, #Hlev, ⟨%W, HO⟩, ⟨Htk, Hsent⟩, Hz⟩ Hk
  unfold sentTok
  icases Htk with ⟨Hc, Hat⟩
  rw [e1]
  iapply (Rounds.wp_wait_rest_token 𝒱₀ ER (Rd m) (c : Thread nD τ) none (κ := nm K c (sno (sOrd b)))
      hw (Set.mem_univ _) () (O := oweFrom c 29) (W := W) (R := 0) (m := 0) (T := ∅)
      (by rw [← e1, expect_scell m h2 h29, Nat.zero_add])) $$ [Hc HO Hat]
  · isplitr
    · rw [← e1]; iapply (inv_cell m K c hge (by omega)); iexact HR
    isplitl [Hc]; · iexact Hc
    isplitl [HO]; · iexact HO
    isplitr
    · iapply (mayWait (F := F) c sm 29 0 (by
        rw [← e1, scell, lv_cell c (by omega), lvN, if_neg (by omega), if_neg (by omega)]
        rw [if_neg (fun h => h (rj_sno c ⟨sOrd b, h29⟩ h2))])
        (fun j hj hj' => by unfold plv; split_ifs <;> omega)); iexact Hlev
    iexact Hat
  iintro ⟨HO, Hat, -, Hpay⟩
  ihave Hpay := (Entails.of_eq (e1 ▸ rest_scell m h2 h29 c)) $$ Hpay
  imod (Rounds.cell_close ER (Rd m) (g := ((c : Thread nD τ), sm)) (κ := nm K c (sno (sOrd b))) (Set.mem_univ _) (fun h => h) (R := 0 + 1) (duties_later m _)) $$ [Hat] with Hzz
  · isplitr
    · rw [← e1]; iapply (inv_cell m K c hge (by omega)); iexact HR
    iexact Hat
  iapply Hk
  isplitl [HO]; · iexists _; iexact HO
  isplitl [Hsent]; · iexact Hsent
  isplitl [Hpay Hzz]
  · isplitl [Hpay] <;> iassumption
  iexact Hz

/-- A barrier signal is payment `i`, duty `d`. -/
theorem step_signal (c : Dev nD) {i : ℕ} (hi : i < 2 ∨ 29 ≤ i ∧ i < 31) {dv : Dev nD} (hdv : dv = pdst c i)
    {sem : Sem sig} (hsem : SemLoc.reg sem = cl (pno c i))
    {α : Type} {k : PUnit → Prog (TpuEff nD τ sig (Elt F) Λ₀ .tc) α} {Q : α → sProp 𝕄} {W : Waits sig Unit} :
    iprop(records m K ∗ owes (c : Thread nD τ) (oweFrom c i) W ∗ dutyTok ER (pcell c i) 0 (pd i)
        ∗ (if i < 2 then barPay (F := F) (pdst c i) (pd i) else iprop(emp)))
      ⊢ iprop((owes (c : Thread nD τ) (oweFrom c (i + 1)) W -∗ wpc c (k ⟨⟩) Q)
          -∗ wpc c (.op (.semSignal (Dev.tc dv : Thread nD τ) sem 1) k) Q) := by
  subst hdv
  have hn : 62 ≤ pno c i ∧ pno c i < 64 ∧ (pno c i = 63 ↔ i < 2) := by
    unfold pno; split_ifs <;> omega
  have e1 : pcell c i = ((Dev.tc (pdst c i) : Thread nD τ), .reg sem) := by rw [hsem]; rfl
  rw [oweFrom_succ c (show i < 31 by omega), pamt, if_pos (by omega)]
  iintro ⟨#HR, HO, Ht, Hpay⟩ Hk
  rw [e1]
  iapply (Rounds.wp_signal 𝒱₀ ER (Rd m) (c : Thread nD τ) none (dst := (Dev.tc (pdst c i) : Thread nD τ)) (κ := nm K (pdst c i) (pno c i))
      (d := pd i) (by rw [← e1, pcell, duties_bar m _ hn.1 hn.2.1]; exact Finset.mem_univ _)
      (by rw [← e1, pcell]; exact amount_bar m _ hn.1 hn.2.1 _) () (oweFrom c (i + 1)) rfl)
    $$ [HO Ht Hpay]
  · isplitr
    · rw [← e1]; iapply (inv_cell m K (pdst c i) (by omega) hn.2.1); iexact HR
    isplitl [HO]; · iexact HO
    isplitl [Ht]; · iexact Ht
    isplitl [Hpay]
    · rw [← e1, pcell, payload_bar m _ hn.1 hn.2.1, if_congr hn.2.2 rfl rfl]; iexact Hpay
    · rw [← e1]; iapply (reached_cell m K (pdst c i) (by omega) hn.2.1); iexact HR
  iexact Hk

/-- A barrier wait, once every earlier level is paid. -/
theorem step_bar (c : Dev nD) {i n : ℕ} (hn : i = 2 ∧ n = 63 ∨ i = 31 ∧ n = 62)
    {w : TpuEff nD τ sig (Elt F) Λ₀ .tc PUnit} {sm : SemLoc sig} {k' : ℕ}
    (hw : ∀ Kk : PUnit → sProp 𝕄, wpE (defs₀ (F := F)) 𝒱₀ (c : Thread nD τ) none Set.univ w Kk = waitSpec (c : Thread nD τ) Set.univ sm k' Kk)
    (hsm : sm = cl n) (hk : k' = 2)
    {α : Type} {k : PUnit → Prog (TpuEff nD τ sig (Elt F) Λ₀ .tc) α} {Q : α → sProp 𝕄} {W : Waits sig Unit} :
    iprop(records m K ∗ levAts L lv ∗ owes (c : Thread nD τ) (oweFrom c i) W ∗ cred (tallyAt (cell c n) () 2) ∗ atPos ER (cell c n) 0 ∅ 0)
      ⊢ iprop((((∃ W, owes (c : Thread nD τ) (oweFrom c i) W) ∗ semVal (cell c n) 0
              ∗ (if n = 63 then iprop(barPay c 0 ∗ barPay c 1) else iprop(emp ∗ emp))) -∗ wpc c (k ⟨⟩) Q) -∗ wpc c (.op w k) Q) := by
  subst hk
  have h62 : 62 ≤ n ∧ n < 64 := by omega
  have e1 : cell c n = ((c : Thread nD τ), sm) := by rw [hsm]; rfl
  iintro ⟨#HR, #Hlev, HO, Hc, Hat⟩ Hk
  rw [e1]
  iapply (Rounds.wp_wait_rest_token 𝒱₀ ER (Rd m) (c : Thread nD τ) none (κ := nm K c n)
      hw (Set.mem_univ _) () (O := oweFrom c i) (W := W) (R := 0) (m := 0) (T := ∅)
      (by rw [← e1, expect_bar m _ h62.1 h62.2])) $$ [Hc HO Hat]
  · isplitr
    · rw [← e1]; iapply (inv_cell m K c (by omega) h62.2); iexact HR
    isplitl [Hc]; · iexact Hc
    isplitl [HO]; · iexact HO
    isplitr
    · iapply (mayWait (F := F) c sm i (if n = 63 then 1 else 30) (by
        rw [← e1, lv_cell c h62.2, lvN]; split_ifs <;> omega)
        (fun j hj hj' => by unfold plv; split_ifs <;> omega)); iexact Hlev
    iexact Hat
  iintro ⟨HO, Hat, -, Hpay⟩
  ihave Hpay := (Entails.of_eq (e1 ▸ rest_bar m c h62.1 h62.2)) $$ Hpay
  imod (Rounds.cell_close ER (Rd m) (g := ((c : Thread nD τ), sm)) (κ := nm K c n) (Set.mem_univ _) (fun h => h) (R := 0 + 1) (duties_later m _)) $$ [Hat] with Hzz
  · isplitr
    · rw [← e1]; iapply (inv_cell m K c (by omega) h62.2); iexact HR
    iexact Hat
  iapply Hk
  isplitl [HO]; · iexists _; iexact HO
  isplitl [Hzz] <;> iassumption

end Cert.Ring8
-- ==== Proof.Moves.lean ====
/-
# The body's effects on the scratch arrays

Loads and stores of one row, the adding-in of one half row, and the remote copies of one half row, each between what the
arrays hold before and after.
-/
module

public import proofs.«01_k».proof.Proof.Steps

@[expose] public section

noncomputable section

namespace Cert.Ring8

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Rows -/

def xRow (e : Dev nD) (s : ℕ) (p : PosShare TreeShare) (f : FVec F S8x512x1024 .bf16) : sProp 𝕄 := iprop(xPc e s 0 p f ∗ xPc e s 1 p f)
def pRow (e : Dev nD) (s : ℕ) (f : FVec F S8x512x1024 .bf16) : sProp 𝕄 := iprop(pPc e s 0 f ∗ pPc e s 1 f)
def rRow (e : Dev nD) (s : ℕ) (f : FVec F S3x512x1024 .bf16) : sProp 𝕄 := iprop(rPc e s 0 f ∗ rPc e s 1 f)
def lRow (e : Dev nD) (s : ℕ) (f : FVec F S3x512x1024 .bf16) : sProp 𝕄 := iprop(lPc e s 0 f ∗ lPc e s 1 f)

omit [FloatOps F] in
theorem eqv {P Q : sProp 𝕄} (h : P ⊣⊢ Q) : P = Q := BI.Entails.antisymm h.1 h.2

section rows
omit [FloatOps F]
theorem xRow_pt (e : Dev nD) (s : ℕ) (p) (f : FVec F S8x512x1024 .bf16) :
    xRow e s p f = (((e : Thread nD τ).loc cc0_scratch0) ↦[row 8 s]{p} (f : Buf (Elt F) ((e : Thread nD τ).loc cc0_scratch0)) : sProp 𝕄) := by
  unfold xRow xPc; rw [row_eq]; exact (eqv (pointsTo_union (half_disjoint (Or.inr (by decide))))).symm
theorem pRow_pt (e : Dev nD) (s : ℕ) (f : FVec F S8x512x1024 .bf16) :
    pRow e s f = (((e : Thread nD τ).loc cc0_scratch1) ↦[row 8 s]{fullShare} (f : Buf (Elt F) ((e : Thread nD τ).loc cc0_scratch1)) : sProp 𝕄) := by
  unfold pRow pPc; rw [row_eq]; exact (eqv (pointsTo_union (half_disjoint (Or.inr (by decide))))).symm
theorem rRow_pt (e : Dev nD) (s : ℕ) (f : FVec F S3x512x1024 .bf16) :
    rRow e s f = (((e : Thread nD τ).loc cc0_scratch2) ↦[row 3 s]{fullShare} (f : Buf (Elt F) ((e : Thread nD τ).loc cc0_scratch2)) : sProp 𝕄) := by
  unfold rRow rPc; rw [row_eq]; exact (eqv (pointsTo_union (half_disjoint (Or.inr (by decide))))).symm
theorem lRow_pt (e : Dev nD) (s : ℕ) (f : FVec F S3x512x1024 .bf16) :
    lRow e s f = (((e : Thread nD τ).loc cc0_scratch3) ↦[row 3 s]{fullShare} (f : Buf (Elt F) ((e : Thread nD τ).loc cc0_scratch3)) : sProp 𝕄) := by
  unfold lRow lPc; rw [row_eq]; exact (eqv (pointsTo_union (half_disjoint (Or.inr (by decide))))).symm

/-- A share of a half row splits in two. -/
theorem xPc_split (e : Dev nD) (s q : ℕ) (p : PosShare TreeShare) (f : FVec F S8x512x1024 .bf16) :
    xPc e s q p f = iprop(xPc e s q p.left f ∗ xPc e s q p.right f) := by
  unfold xPc; exact eqv (pointsTo_share (PosShare.mem_left_op_right p))

end rows

/-! ## Loads and stores -/

section loadstore
variable {α : Type} {off : Fin 3 → ℕ} {s q : ℕ} (c : Dev nD)

/-- A load of elements held at `f`, whose value there is `v`. -/
theorem load_gen {cs : CoreSpace} {sh : Shape} {e : EltTy} {mr : Memref sig .tc cs sh e} {r : LoadRect sh} {hl : mr.view.LoadsAt r}
    {k : (r.shape.Idx → Elt F e) → Prog (TpuEff nD τ sig (Elt F) Λ₀ .tc) α} {Q : α → sProp 𝕄}
    {S : Finset (Idx (mr.view.loc (c : Thread nD τ)))} {p : PosShare TreeShare} {f : Buf (Elt F) (mr.view.loc (c : Thread nD τ))} {v}
    (hS : mr.view.setOn r.set = S) (hv : mr.view.readAt (Elt F) r f = v) :
    (mr.view.loc (c : Thread nD τ) ↦[S]{p} f)
      ⊢ iprop(((mr.view.loc (c : Thread nD τ) ↦[S]{p} f) -∗ wpc c (k v) Q) -∗ wpc c (.op (.load mr r hl) k) Q) := by
  subst hv; exact wp_load 𝒱₀ (c : Thread nD τ) none Set.univ hS.subset

/-- A store over the elements of a view, after which they are held at `G`. -/
theorem store_gen {cs : CoreSpace} {sh : Shape} {e : EltTy} {mr : Memref sig .tc cs sh e} {r : Rect sh} {w : r.shape.Idx → Elt F e}
    {hx : (mr.access r).Stores Finset.univ} {hm : Finset.univ = Finset.univ ∨ ∀ a, r.stride a = 1}
    {k : PUnit → Prog (TpuEff nD τ sig (Elt F) Λ₀ .tc) α} {Q : α → sProp 𝕄}
    {S : Finset (Idx ((mr.access r).loc (c : Thread nD τ)))} {f G : Buf (Elt F) ((mr.access r).loc (c : Thread nD τ))}
    (hS : (mr.access r).set = S) (hw : w = (mr.access r).read (Elt F) G) :
    ((mr.access r).loc (c : Thread nD τ) ↦[S]{fullShare} f)
      ⊢ iprop((((mr.access r).loc (c : Thread nD τ) ↦[S]{fullShare} G) -∗ wpc c (k ⟨⟩) Q) -∗ wpc c (.op (.store mr r w Finset.univ hx hm) k) Q) := by
  subst hS
  have e : ((mr.access r).loc (c : Thread nD τ) ↦[(mr.access r).set]{fullShare} G : sProp 𝕄)
      = ((mr.access r).loc (c : Thread nD τ) ↦[(mr.access r).set]{fullShare} ((mr.access r).write (Elt F) f w Finset.univ)) :=
    pointsTo_congr fun i hi => (store_eq (mr.access r) f G w hw i hi).symm
  rw [e]
  exact wp_store 𝒱₀ (c : Thread nD τ) none Set.univ (by rw [View.setOn_univ])

theorem on_row {n : ℕ} (hoff : off = ![s, 0, 0]) (inb) :
    (Rect.unit (s := Stk n) off S1x512x1024.size inb).set.map (Function.Embedding.refl _) = row n s := Finset.map_refl.trans (set_row hoff inb)
theorem on_half {n : ℕ} (hq : q < 2) (hoff : off = ![s, 256 * q, 0]) (inb) :
    (Rect.unit (s := Stk n) off S1x256x1024.size inb).set.map (Function.Embedding.refl _) = half n s q := Finset.map_refl.trans (set_half hq hoff inb)

theorem load_x (hoff : off = ![s, 0, 0]) {p : PosShare TreeShare} {inb hl} {Q : α → sProp 𝕄}
    {k : Vec F S1x512x1024 .bf16 → Prog (TpuEff nD τ sig (Elt F) Λ₀ .tc) α} :
    xRow c s p (XALL m) ⊢ iprop((xRow c s p (XALL m) -∗ wpc c (k (xb m (dv s))) Q)
      -∗ wpc c (.op (.load (Memref.whole cc0_scratch0) (Rect.unit (s := S8x512x1024) off S1x512x1024.size inb).toLoadRect hl) k) Q) := by
  rw [xRow_pt]; exact load_gen c (mr := Memref.whole cc0_scratch0) (r := (Rect.unit (s := S8x512x1024) off S1x512x1024.size inb).toLoadRect) (f := XALL m) (v := xb m (dv s)) (on_row (n := 8) hoff inb) (funext fun x => XALL_row m hoff inb x)
theorem load_p (hoff : off = ![s, 0, 0]) {inb hl} {Q : α → sProp 𝕄}
    {k : Vec F S1x512x1024 .bf16 → Prog (TpuEff nD τ sig (Elt F) Λ₀ .tc) α} :
    pRow c s (PARTS m c) ⊢ iprop((pRow c s (PARTS m c) -∗ wpc c (k (PB m c s)) Q)
      -∗ wpc c (.op (.load (Memref.whole cc0_scratch1) (Rect.unit (s := S8x512x1024) off S1x512x1024.size inb).toLoadRect hl) k) Q) := by
  rw [pRow_pt]; exact load_gen c (mr := Memref.whole cc0_scratch1) (r := (Rect.unit (s := S8x512x1024) off S1x512x1024.size inb).toLoadRect) (f := PARTS m c) (v := PB m c s) (on_row (n := 8) hoff inb) (funext fun x => PARTS_row m c hoff inb x)
theorem load_r (hoff : off = ![s, 0, 0]) {inb hl} {Q : α → sProp 𝕄}
    {k : Vec F S1x512x1024 .bf16 → Prog (TpuEff nD τ sig (Elt F) Λ₀ .tc) α} :
    rRow c s (RIN m c) ⊢ iprop((rRow c s (RIN m c) -∗ wpc c (k (accR m s c)) Q)
      -∗ wpc c (.op (.load (Memref.whole cc0_scratch2) (Rect.unit (s := S3x512x1024) off S1x512x1024.size inb).toLoadRect hl) k) Q) := by
  rw [rRow_pt]; exact load_gen c (mr := Memref.whole cc0_scratch2) (r := (Rect.unit (s := S3x512x1024) off S1x512x1024.size inb).toLoadRect) (f := RIN m c) (v := accR m s c) (on_row (n := 3) hoff inb) (funext fun x => RIN_row m c hoff inb x)
theorem load_l (hoff : off = ![s, 0, 0]) {inb hl} {Q : α → sProp 𝕄}
    {k : Vec F S1x512x1024 .bf16 → Prog (TpuEff nD τ sig (Elt F) Λ₀ .tc) α} :
    lRow c s (LIN m c) ⊢ iprop((lRow c s (LIN m c) -∗ wpc c (k (accL m s c)) Q)
      -∗ wpc c (.op (.load (Memref.whole cc0_scratch3) (Rect.unit (s := S3x512x1024) off S1x512x1024.size inb).toLoadRect hl) k) Q) := by
  rw [lRow_pt]; exact load_gen c (mr := Memref.whole cc0_scratch3) (r := (Rect.unit (s := S3x512x1024) off S1x512x1024.size inb).toLoadRect) (f := LIN m c) (v := accL m s c) (on_row (n := 3) hoff inb) (funext fun x => LIN_row m c hoff inb x)

/-- A row is stored over: first its old value is loaded and not used. -/
theorem put_x (hoff : off = ![s, 0, 0]) {off' : Fin 3 → ℕ} (hoff' : off' = ![s, 0, 0]) {f} {inb inb' hl hx hm} {Q : α → sProp 𝕄}
    {w : Vec F S1x512x1024 .bf16 → Vec F S1x512x1024 .bf16} (hw : ∀ v, w v = xb m (dv s))
    {k : Vec F S1x512x1024 .bf16 → PUnit → Prog (TpuEff nD τ sig (Elt F) Λ₀ .tc) α} :
    xRow c s fullShare f ⊢ iprop((∀ v, xRow c s fullShare (XALL m) -∗ wpc c (k v ⟨⟩) Q)
      -∗ wpc c (.op (.load (Memref.whole cc0_scratch0) (Rect.unit (s := S8x512x1024) off S1x512x1024.size inb).toLoadRect hl) fun v =>
          .op (.store (Memref.whole cc0_scratch0) (Rect.unit (s := S8x512x1024) off' S1x512x1024.size inb') (w v) Finset.univ hx hm) (k v)) Q) := by
  rw [xRow_pt, xRow_pt]
  iintro H Hk
  iapply (load_gen c (mr := Memref.whole cc0_scratch0) (r := (Rect.unit (s := S8x512x1024) off S1x512x1024.size inb).toLoadRect) (S := row 8 s) (p := fullShare) (f := f) (on_row (n := 8) hoff inb) rfl) $$ H
  iintro H
  iapply (store_gen c (mr := Memref.whole cc0_scratch0) (r := Rect.unit (s := S8x512x1024) off' S1x512x1024.size inb') (S := row 8 s) (f := f) (G := XALL m) ((View.set_slice_whole _ _).trans (set_row (n := 8) hoff' inb'))
    ((hw _).trans (funext fun x => (XALL_row m hoff' inb' x).symm))) $$ H
  iapply Hk
theorem put_p (hoff : off = ![s, 0, 0]) {off' : Fin 3 → ℕ} (hoff' : off' = ![s, 0, 0]) {f} {inb inb' hl hx hm} {Q : α → sProp 𝕄}
    {w : Vec F S1x512x1024 .bf16 → Vec F S1x512x1024 .bf16} (hw : ∀ v, w v = PB m c s)
    {k : Vec F S1x512x1024 .bf16 → PUnit → Prog (TpuEff nD τ sig (Elt F) Λ₀ .tc) α} :
    pRow c s f ⊢ iprop((∀ v, pRow c s (PARTS m c) -∗ wpc c (k v ⟨⟩) Q)
      -∗ wpc c (.op (.load (Memref.whole cc0_scratch1) (Rect.unit (s := S8x512x1024) off S1x512x1024.size inb).toLoadRect hl) fun v =>
          .op (.store (Memref.whole cc0_scratch1) (Rect.unit (s := S8x512x1024) off' S1x512x1024.size inb') (w v) Finset.univ hx hm) (k v)) Q) := by
  rw [pRow_pt, pRow_pt]
  iintro H Hk
  iapply (load_gen c (mr := Memref.whole cc0_scratch1) (r := (Rect.unit (s := S8x512x1024) off S1x512x1024.size inb).toLoadRect) (S := row 8 s) (p := fullShare) (f := f) (on_row (n := 8) hoff inb) rfl) $$ H
  iintro H
  iapply (store_gen c (mr := Memref.whole cc0_scratch1) (r := Rect.unit (s := S8x512x1024) off' S1x512x1024.size inb') (S := row 8 s) (f := f) (G := PARTS m c) ((View.set_slice_whole _ _).trans (set_row (n := 8) hoff' inb'))
    ((hw _).trans (funext fun x => (PARTS_row m c hoff' inb' x).symm))) $$ H
  iapply Hk

/-- The device's own half row is added to the one that arrived. -/
theorem fold_r {t : ℕ} (hq : q < 2) (hs : s = slot c (2 - t)) {o1 o2 o3 o4 : Fin 3 → ℕ} (h1 : o1 = ![t, 256 * q, 0]) (h2 : o2 = ![s, 256 * q, 0])
    (h3 : o3 = ![t, 256 * q, 0]) (h4 : o4 = ![t, 256 * q, 0]) {i1 i2 i3 i4 l1 l2 l3 hx hm} {Q : α → sProp 𝕄}
    {w : Vec F S1x256x1024 .bf16 → Vec F S1x256x1024 .bf16 → Vec F S1x256x1024 .bf16 → Vec F S1x256x1024 .bf16} (hw : ∀ u v z, w u v z = addv u v)
    {k : Vec F S1x256x1024 .bf16 → Vec F S1x256x1024 .bf16 → Vec F S1x256x1024 .bf16 → PUnit → Prog (TpuEff nD τ sig (Elt F) Λ₀ .tc) α} :
    iprop(rPc c t q (RIN m c) ∗ pPc c s q (PARTS m c))
      ⊢ iprop((∀ u, ∀ v, ∀ z, iprop(rPc c t q (ROUT m c) ∗ pPc c s q (PARTS m c)) -∗ wpc c (k u v z ⟨⟩) Q)
      -∗ wpc c (.op (.load (Memref.whole cc0_scratch2) (Rect.unit (s := S3x512x1024) o1 S1x256x1024.size i1).toLoadRect l1) fun u =>
          .op (.load (Memref.whole cc0_scratch1) (Rect.unit (s := S8x512x1024) o2 S1x256x1024.size i2).toLoadRect l2) fun v =>
          .op (.load (Memref.whole cc0_scratch2) (Rect.unit (s := S3x512x1024) o3 S1x256x1024.size i3).toLoadRect l3) fun z =>
          .op (.store (Memref.whole cc0_scratch2) (Rect.unit (s := S3x512x1024) o4 S1x256x1024.size i4) (w u v z) Finset.univ hx hm) (k u v z)) Q) := by
  unfold rPc pPc
  iintro ⟨Hr, Hp⟩ Hk
  iapply (load_gen c (mr := Memref.whole cc0_scratch2) (r := (Rect.unit (s := S3x512x1024) o1 S1x256x1024.size i1).toLoadRect) (S := half 3 t q) (f := RIN m c) (v := fun x => accR m t c (hb q x)) (on_half (n := 3) hq h1 i1) (funext fun x => RIN_half m hq c h1 i1 x)) $$ Hr
  iintro Hr
  iapply (load_gen c (mr := Memref.whole cc0_scratch1) (r := (Rect.unit (s := S8x512x1024) o2 S1x256x1024.size i2).toLoadRect) (S := half 8 s q) (f := PARTS m c) (v := fun x => PB m c s (hb q x)) (on_half (n := 8) hq h2 i2) (funext fun x => PARTS_half m hq c h2 i2 x)) $$ Hp
  iintro Hp
  iapply (load_gen c (mr := Memref.whole cc0_scratch2) (r := (Rect.unit (s := S3x512x1024) o3 S1x256x1024.size i3).toLoadRect) (S := half 3 t q) (f := RIN m c) (v := fun x => accR m t c (hb q x)) (on_half (n := 3) hq h3 i3) (funext fun x => RIN_half m hq c h3 i3 x)) $$ Hr
  iintro Hr
  iapply (store_gen c (mr := Memref.whole cc0_scratch2) (r := Rect.unit (s := S3x512x1024) o4 S1x256x1024.size i4) (S := half 3 t q) (f := RIN m c) (G := ROUT m c) ((View.set_slice_whole _ _).trans (set_half (n := 3) hq h4 i4))
    ((hw _ _ _).trans (funext fun x => by subst hs; exact (ROUT_half m hq c h4 i4 x).symm))) $$ Hr
  iintro Hr
  iapply Hk
  isplitl [Hr] <;> iassumption
theorem fold_l {t : ℕ} (hq : q < 2) (hs : s = slot c (6 + t)) {o1 o2 o3 o4 : Fin 3 → ℕ} (h1 : o1 = ![t, 256 * q, 0]) (h2 : o2 = ![s, 256 * q, 0])
    (h3 : o3 = ![t, 256 * q, 0]) (h4 : o4 = ![t, 256 * q, 0]) {i1 i2 i3 i4 l1 l2 l3 hx hm} {Q : α → sProp 𝕄}
    {w : Vec F S1x256x1024 .bf16 → Vec F S1x256x1024 .bf16 → Vec F S1x256x1024 .bf16 → Vec F S1x256x1024 .bf16} (hw : ∀ u v z, w u v z = addv u v)
    {k : Vec F S1x256x1024 .bf16 → Vec F S1x256x1024 .bf16 → Vec F S1x256x1024 .bf16 → PUnit → Prog (TpuEff nD τ sig (Elt F) Λ₀ .tc) α} :
    iprop(lPc c t q (LIN m c) ∗ pPc c s q (PARTS m c))
      ⊢ iprop((∀ u, ∀ v, ∀ z, iprop(lPc c t q (LOUT m c) ∗ pPc c s q (PARTS m c)) -∗ wpc c (k u v z ⟨⟩) Q)
      -∗ wpc c (.op (.load (Memref.whole cc0_scratch3) (Rect.unit (s := S3x512x1024) o1 S1x256x1024.size i1).toLoadRect l1) fun u =>
          .op (.load (Memref.whole cc0_scratch1) (Rect.unit (s := S8x512x1024) o2 S1x256x1024.size i2).toLoadRect l2) fun v =>
          .op (.load (Memref.whole cc0_scratch3) (Rect.unit (s := S3x512x1024) o3 S1x256x1024.size i3).toLoadRect l3) fun z =>
          .op (.store (Memref.whole cc0_scratch3) (Rect.unit (s := S3x512x1024) o4 S1x256x1024.size i4) (w u v z) Finset.univ hx hm) (k u v z)) Q) := by
  unfold lPc pPc
  iintro ⟨Hr, Hp⟩ Hk
  iapply (load_gen c (mr := Memref.whole cc0_scratch3) (r := (Rect.unit (s := S3x512x1024) o1 S1x256x1024.size i1).toLoadRect) (S := half 3 t q) (f := LIN m c) (v := fun x => accL m t c (hb q x)) (on_half (n := 3) hq h1 i1) (funext fun x => LIN_half m hq c h1 i1 x)) $$ Hr
  iintro Hr
  iapply (load_gen c (mr := Memref.whole cc0_scratch1) (r := (Rect.unit (s := S8x512x1024) o2 S1x256x1024.size i2).toLoadRect) (S := half 8 s q) (f := PARTS m c) (v := fun x => PB m c s (hb q x)) (on_half (n := 8) hq h2 i2) (funext fun x => PARTS_half m hq c h2 i2 x)) $$ Hp
  iintro Hp
  iapply (load_gen c (mr := Memref.whole cc0_scratch3) (r := (Rect.unit (s := S3x512x1024) o3 S1x256x1024.size i3).toLoadRect) (S := half 3 t q) (f := LIN m c) (v := fun x => accL m t c (hb q x)) (on_half (n := 3) hq h3 i3) (funext fun x => LIN_half m hq c h3 i3 x)) $$ Hr
  iintro Hr
  iapply (store_gen c (mr := Memref.whole cc0_scratch3) (r := Rect.unit (s := S3x512x1024) o4 S1x256x1024.size i4) (S := half 3 t q) (f := LIN m c) (G := LOUT m c) ((View.set_slice_whole _ _).trans (set_half (n := 3) hq h4 i4))
    ((hw _ _ _).trans (funext fun x => by subst hs; exact (LOUT_half m hq c h4 i4 x).symm))) $$ Hr
  iintro Hr
  iapply Hk
  isplitl [Hr] <;> iassumption

end loadstore

end Cert.Ring8
-- ==== Proof.Sends.lean ====
/-
# The body's copies, waits and signals

Each rule is the one of Steps.lean at one kind of copy: what is given up, and that it leaves at the other end what the
schedule says.
-/
module

public import proofs.«01_k».proof.Proof.Moves

@[expose] public section

noncomputable section

namespace Cert.Ring8

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 58 → ℕ)

/-- What every effect may look at: the cells' invariants and their levels. -/
def env : sProp 𝕄 := iprop(records m K ∗ levAts L lv)
instance env_persistent : BI.Persistent (env m K) := by unfold env; infer_instance

/-- The view of half a row. -/
abbrev mq {n : ℕ} (M : Memref sig .tc .vmem (Stk n) .bf16) (off : Fin 3 → ℕ) (inb : ∀ a, off a + S1x256x1024.size a ≤ (Stk n).size a) :
    Memref sig .tc .vmem S256x1024 .bf16 :=
  (M.slice (Rect.unit (s := Stk n) off S1x256x1024.size inb) (fun _ => rfl)).squeeze S256x1024 squeezes_S1x256x1024_S256x1024

section sets
variable {s q : ℕ} (hq : q < 2) {off : Fin 3 → ℕ} (hoff : off = ![s, 256 * q, 0])
include hq hoff
theorem set_mq0 (inb) : (mq (n := 8) (Memref.whole cc0_scratch0) off inb).view.set = half 8 s q :=
  (View.set_reshape _ _).trans ((View.set_slice_whole _ _).trans (set_half hq hoff inb))
theorem set_mq1 (inb) : (mq (n := 8) (Memref.whole cc0_scratch1) off inb).view.set = half 8 s q :=
  (View.set_reshape _ _).trans ((View.set_slice_whole _ _).trans (set_half hq hoff inb))
theorem set_mq2 (inb) : (mq (n := 3) (Memref.whole cc0_scratch2) off inb).view.set = half 3 s q :=
  (View.set_reshape _ _).trans ((View.set_slice_whole _ _).trans (set_half hq hoff inb))
theorem set_mq3 (inb) : (mq (n := 3) (Memref.whole cc0_scratch3) off inb).view.set = half 3 s q :=
  (View.set_reshape _ _).trans ((View.set_slice_whole _ _).trans (set_half hq hoff inb))
end sets

/-! ## The tables at the two ends of a copy -/

theorem agR_dst (c : Dev nD) {i : ℕ} (hi : i < 29) (hk : kd i = 0) (h2 : 2 ≤ i) : slot (pdst c i) (7 - tt i) = slot c (8 - tt i) := by
  have h : ∀ c : Dev nD, ∀ i : Fin 29, 2 ≤ i.val → kd i = 0 → slot (pdst c i) (7 - tt i) = slot c (8 - tt i) := by decide +kernel
  exact h c ⟨i, hi⟩ h2 hk
theorem agL_dst (c : Dev nD) {i : ℕ} (hi : i < 29) (hk : kd i = 1) (h2 : 2 ≤ i) : slot (pdst c i) (1 + tt i) = slot c (tt i) := by
  have h : ∀ c : Dev nD, ∀ i : Fin 29, 2 ≤ i.val → kd i = 1 → slot (pdst c i) (1 + tt i) = slot c (tt i) := by decide +kernel
  exact h c ⟨i, hi⟩ h2 hk
theorem agL_nb (c : Dev nD) {i : ℕ} (hi : i < 29) (hk : kd i = 1) (h2 : 2 ≤ i) : nb (pdst c i) (1 + tt i) = nb c (tt i) := by
  have h : ∀ c : Dev nD, ∀ i : Fin 29, 2 ≤ i.val → kd i = 1 → nb (pdst c i) (1 + tt i) = nb c (tt i) := by decide +kernel
  exact h c ⟨i, hi⟩ h2 hk
theorem qq_lt : ∀ i : Fin 29, qq i < 2 := by decide

theorem rsR_src (c : Dev nD) {i : ℕ} (hi : i < 29) (hk : kd i = 2) : nb (pdst c i) 7 = c ∧ slot (pdst c i) 2 = slot c 3 := by
  have h : ∀ c : Dev nD, ∀ i : Fin 29, kd i = 2 → nb (pdst c i) 7 = c ∧ slot (pdst c i) 2 = slot c 3 := by decide +kernel
  exact h c ⟨i, hi⟩ hk
theorem rsL_src (c : Dev nD) {i : ℕ} (hi : i < 29) (hk : kd i = 3) : nb (pdst c i) 1 = c ∧ slot (pdst c i) 6 = slot c 5 := by
  have h : ∀ c : Dev nD, ∀ i : Fin 29, kd i = 3 → nb (pdst c i) 1 = c ∧ slot (pdst c i) 6 = slot c 5 := by decide +kernel
  exact h c ⟨i, hi⟩ hk
theorem direct_src : ∀ c : Dev nD, pdst c 22 = nb c 4 ∧ nb (pdst c 22) 4 = c ∧ slot (pdst c 22) 0 = slot c 4 := by decide +kernel

theorem cl_dma {n : ℕ} (h : n < 62) : ∃ x, cl n = SemLoc.dma x := by
  unfold cl; rw [dif_pos h]; exact ⟨_, rfl⟩

/-! ## Copies -/

section sends
variable {α : Type} (c : Dev nD) {i a : ℕ} (h2 : 2 ≤ i) (h29 : i < 29) {dv : Dev nD} (hdv : dv = pdst c i)
  {sS sem : SemLoc sig} (hsS : sS = cl (sno i)) (hsem : sem = cl (pno c i))
include h2 h29 hdv hsS hsem

/-- A copy that leaves `G` at its destination. -/
theorem send_core {sh : Shape} {e : EltTy} {src : Memref sig .tc .vmem sh e} {dst : Memref sig (Dev.tc dv : Thread nD τ).2.kind .vmem sh e}
    {hsc : dst.view.ref.isScScratch = false} {hsrc : src.view.WordExact} {hdst : dst.view.WordExact}
    {hty : DmaTarget.Typed .vmem sem (.remote (Dev.tc dv : Thread nD τ) dst sS hsc)}
    {k : PUnit → Prog (TpuEff nD τ sig (Elt F) Λ₀ .tc) α} {Q : α → sProp 𝕄}
    {q : PosShare TreeShare} {fs : Buf (Elt F) (src.view.loc (c : Thread nD τ))} {G : Buf (Elt F) (dst.view.loc (Dev.tc dv : Thread nD τ))} {S D Fr : sProp 𝕄}
    (hN : dst.view.dmaCredit = amt i) (hS : spay m i c = S)
    (hs : S = (src.view.loc (c : Thread nD τ) ↦[src.view.set]{q} fs))
    (hd : iprop(dstP i (pdst c i) ∗ D) ⊢ (iprop(∃ fd, dst.view.loc (Dev.tc dv : Thread nD τ) ↦[dst.view.set]{fullShare} fd) : sProp 𝕄))
    (hr : src.view.read (Elt F) fs = dst.view.read (Elt F) G)
    (hp : iprop((dst.view.loc (Dev.tc dv : Thread nD τ) ↦[dst.view.set]{fullShare} G) ∗ Fr) ⊢ rpay m i (pdst c i)) :
    env m K ⊢ iprop(Ctl (F := F) c i a -∗ S -∗ D -∗ Fr -∗ (Ctl (F := F) c (i + 1) a -∗ wpc c (k ⟨⟩) Q)
      -∗ wpc c (.op (.enqueueDma src (.remote (Dev.tc dv : Thread nD τ) dst sS hsc) sem hsrc hdst hty) k) Q) := by
  subst hS
  iintro HE HC Hs HD HF Hk
  unfold env
  icases HE with ⟨HR, -⟩
  iapply (step_send m K c h2 h29 hdv hsS hsem (D := D) (Fr := Fr) (q := q) (fs := fs)
    (by obtain ⟨x, hx⟩ := cl_dma (pno_lt c h2 h29); rw [hsem, hx]; exact hN) hs hd
    (fun fd => by rw [pointsTo_congr (copy_eq src.view dst.view fs fd G hr)]; exact hp)) $$ [HR HC Hs HD HF]
  · isplitl [HR]; · iexact HR
    isplitl [HC]; · iexact HC
    isplitl [Hs]; · iexact Hs
    isplitl [HD] <;> iassumption
  iexact Hk

variable {s q : ℕ} (hq : qq i = q) {o o' : Fin 3 → ℕ}
include hq

/-- A right-moving copy of the gathering. -/
theorem send_agR (hk : kd i = 0) (hs : slot c (8 - tt i) = s) (ho : o = ![s, 256 * q, 0]) (ho' : o' = ![s, 256 * q, 0])
    {inb inb' hsc hsrc hdst hty} {k : PUnit → Prog (TpuEff nD τ sig (Elt F) Λ₀ .tc) α} {Q : α → sProp 𝕄} :
    env m K ⊢ iprop(Ctl (F := F) c i a -∗ xPc c s q fullShare.left (XALL m) -∗ (Ctl (F := F) c (i + 1) a -∗ wpc c (k ⟨⟩) Q)
      -∗ wpc c (.op (.enqueueDma (mq (n := 8) (Memref.whole cc0_scratch0) o inb) (.remote (Dev.tc dv : Thread nD τ) (mq (n := 8) (Memref.whole cc0_scratch0) o' inb') sS hsc) sem hsrc hdst hty) k) Q) := by
  have hq2 : q < 2 := hq ▸ qq_lt ⟨i, h29⟩
  have hoo : o = o' := ho.trans ho'.symm
  subst hoo hdv
  iintro HE HC Hs Hk
  iapply (send_core m K c h2 h29 rfl hsS hsem (G := XALL m) (fs := XALL m) (D := iprop(emp)) (Fr := iprop(emp)) (q := fullShare.left)
    (by unfold amt; rw [if_neg (by rw [hk]; decide)]; rfl)
    (by unfold spay; rw [if_pos hk, hs, hq])
    (by rw [set_mq0 hq2 ho inb]; rfl)
    (by unfold dstP; rw [if_pos hk, agR_dst c h29 hk h2, hs, hq, set_mq0 hq2 ho inb]; exact Laws.sep_emp.1) rfl
    (by unfold rpay; rw [if_pos hk, agR_dst c h29 hk h2, hs, hq, set_mq0 hq2 ho inb]; exact Laws.sep_emp.1)) $$ HE HC Hs [] []
  · iempintro
  · iempintro
  iexact Hk

/-- A left-moving copy of the gathering, which may carry a landing buffer along. -/
theorem send_agL {p : PosShare TreeShare} {A : sProp 𝕄} (hp : (if tt i = 0 then fullShare.right.left else fullShare.left) = p)
    (hA : (if q = 0 then dAny (nb c (tt i)) else iprop(emp)) = A) (hk : kd i = 1) (hs : slot c (tt i) = s) (ho : o = ![s, 256 * q, 0]) (ho' : o' = ![s, 256 * q, 0])
    {inb inb' hsc hsrc hdst hty} {k : PUnit → Prog (TpuEff nD τ sig (Elt F) Λ₀ .tc) α} {Q : α → sProp 𝕄} :
    env m K ⊢ iprop(Ctl (F := F) c i a -∗ xPc c s q p (XALL m)
      -∗ A -∗ (Ctl (F := F) c (i + 1) a -∗ wpc c (k ⟨⟩) Q)
      -∗ wpc c (.op (.enqueueDma (mq (n := 8) (Memref.whole cc0_scratch0) o inb) (.remote (Dev.tc dv : Thread nD τ) (mq (n := 8) (Memref.whole cc0_scratch0) o' inb') sS hsc) sem hsrc hdst hty) k) Q) := by
  have hq2 : q < 2 := hq ▸ qq_lt ⟨i, h29⟩
  have hoo : o = o' := ho.trans ho'.symm
  subst hoo hdv hp hA
  have k0 : ¬ kd i = 0 := by rw [hk]; decide
  have hal : along (F := F) i (pdst c i) = (if q = 0 then dAny (nb c (tt i)) else iprop(emp)) := by
    unfold along; rw [agL_nb c h29 hk h2, hq]
    exact if_congr ⟨fun h => h.2, fun h => ⟨hk, h⟩⟩ rfl rfl
  iintro HE HC Hs Ha Hk
  iapply (send_core m K c h2 h29 rfl hsS hsem (G := XALL m) (fs := XALL m) (D := iprop(emp)) (Fr := along i (pdst c i)) (q := if tt i = 0 then fullShare.right.left else fullShare.left)
    (by unfold amt; rw [if_neg (by rw [hk]; decide)]; rfl)
    (by unfold spay; rw [if_neg k0, if_pos hk, hs, hq])
    (by rw [set_mq0 hq2 ho inb]; rfl)
    (by unfold dstP; rw [if_neg k0, if_pos hk, agL_dst c h29 hk h2, hs, hq, set_mq0 hq2 ho inb]; exact Laws.sep_emp.1) rfl
    (by unfold rpay; rw [if_neg k0, if_pos hk, agL_dst c h29 hk h2, hs, hq, set_mq0 hq2 ho inb]; exact BI.Entails.refl _)) $$ HE HC Hs [] [Ha]
  · iempintro
  · rw [hal]; iexact Ha
  iexact Hk

/-- The first copy of the right-moving reduction, from the partial results. -/
theorem send_rsR0 (hk : kd i = 2) (ht : tt i = 0) (hs : slot c 3 = s) (ho : o = ![s, 256 * q, 0]) (ho' : o' = ![0, 256 * q, 0])
    {inb inb' hsc hsrc hdst hty} {k : PUnit → Prog (TpuEff nD τ sig (Elt F) Λ₀ .tc) α} {Q : α → sProp 𝕄} :
    env m K ⊢ iprop(Ctl (F := F) c i a -∗ pPc c s q (PARTS m c) -∗ (Ctl (F := F) c (i + 1) a -∗ wpc c (k ⟨⟩) Q)
      -∗ wpc c (.op (.enqueueDma (mq (n := 8) (Memref.whole cc0_scratch1) o inb) (.remote (Dev.tc dv : Thread nD τ) (mq (n := 3) (Memref.whole cc0_scratch2) o' inb') sS hsc) sem hsrc hdst hty) k) Q) := by
  have hq2 : q < 2 := hq ▸ qq_lt ⟨i, h29⟩
  subst hdv
  obtain ⟨e1, e2⟩ := rsR_src c h29 hk
  iintro HE HC Hs Hk
  iapply (send_core m K c h2 h29 rfl hsS hsem (G := RIN m (pdst c i)) (fs := PARTS m c) (D := iprop(emp)) (Fr := iprop(emp)) (q := fullShare)
    (by unfold amt; rw [if_neg (by rw [hk]; decide)]; rfl)
    (by unfold spay; rw [if_neg (show ¬ kd i = 0 by rw [hk]; decide), if_neg (show ¬ kd i = 1 by rw [hk]; decide), if_pos hk, if_pos ht, hs, hq])
    (by rw [set_mq1 hq2 ho inb]; rfl)
    (by unfold dstP; rw [if_neg (show ¬ kd i = 0 by rw [hk]; decide), if_neg (show ¬ kd i = 1 by rw [hk]; decide), if_pos hk, ht, hq, set_mq2 hq2 ho' inb']; exact Laws.sep_emp.1)
    (by exact funext fun x => (PARTS_half m hq2 c ho inb (Shape.reshapeEquiv squeezes_S1x256x1024_S256x1024.numel_eq x)).trans (by
      refine Eq.trans ?_ (RIN_half m hq2 (pdst c i) ho' inb' (Shape.reshapeEquiv squeezes_S1x256x1024_S256x1024.numel_eq x)).symm
      show _ = PB m (nb (pdst c i) _) (slot (pdst c i) _) _
      rw [e1, e2, hs]))
    (by unfold rpay; rw [if_neg (show ¬ kd i = 0 by rw [hk]; decide), if_neg (show ¬ kd i = 1 by rw [hk]; decide), if_pos hk, ht, hq, set_mq2 hq2 ho' inb']; exact Laws.sep_emp.1)) $$ HE HC Hs [] []
  · iempintro
  · iempintro
  iexact Hk

/-- Its later copies, from the row before. -/
theorem send_rsR {t : ℕ} (hk : kd i = 2) (ht : tt i = t + 1) (ho : o = ![t, 256 * q, 0]) (ho' : o' = ![t + 1, 256 * q, 0])
    {inb inb' hsc hsrc hdst hty} {k : PUnit → Prog (TpuEff nD τ sig (Elt F) Λ₀ .tc) α} {Q : α → sProp 𝕄} :
    env m K ⊢ iprop(Ctl (F := F) c i a -∗ rPc c t q (ROUT m c) -∗ (Ctl (F := F) c (i + 1) a -∗ wpc c (k ⟨⟩) Q)
      -∗ wpc c (.op (.enqueueDma (mq (n := 3) (Memref.whole cc0_scratch2) o inb) (.remote (Dev.tc dv : Thread nD τ) (mq (n := 3) (Memref.whole cc0_scratch2) o' inb') sS hsc) sem hsrc hdst hty) k) Q) := by
  have hq2 : q < 2 := hq ▸ qq_lt ⟨i, h29⟩
  subst hdv
  obtain ⟨e1, -⟩ := rsR_src c h29 hk
  iintro HE HC Hs Hk
  iapply (send_core m K c h2 h29 rfl hsS hsem (G := RIN m (pdst c i)) (fs := ROUT m c) (D := iprop(emp)) (Fr := iprop(emp)) (q := fullShare)
    (by unfold amt; rw [if_neg (by rw [hk]; decide)]; rfl)
    (by unfold spay; rw [if_neg (show ¬ kd i = 0 by rw [hk]; decide), if_neg (show ¬ kd i = 1 by rw [hk]; decide), if_pos hk, if_neg (by omega), hq, ht, Nat.add_sub_cancel])
    (by rw [set_mq2 hq2 ho inb]; rfl)
    (by unfold dstP; rw [if_neg (show ¬ kd i = 0 by rw [hk]; decide), if_neg (show ¬ kd i = 1 by rw [hk]; decide), if_pos hk, ht, hq, set_mq2 hq2 ho' inb']; exact Laws.sep_emp.1)
    (by exact funext fun x => (ROUT_half m hq2 c ho inb (Shape.reshapeEquiv squeezes_S1x256x1024_S256x1024.numel_eq x)).trans (by
      refine Eq.trans ?_ (RIN_half m hq2 (pdst c i) ho' inb' (Shape.reshapeEquiv squeezes_S1x256x1024_S256x1024.numel_eq x)).symm
      show _ = addv (accR m t (nb (pdst c i) _)) (PB m (nb (pdst c i) _) (slot (nb (pdst c i) _) _)) _
      rw [e1]; rfl))
    (by unfold rpay; rw [if_neg (show ¬ kd i = 0 by rw [hk]; decide), if_neg (show ¬ kd i = 1 by rw [hk]; decide), if_pos hk, ht, hq, set_mq2 hq2 ho' inb']; exact Laws.sep_emp.1)) $$ HE HC Hs [] []
  · iempintro
  · iempintro
  iexact Hk

/-- The first copy of the left-moving reduction, from the partial results. -/
theorem send_rsL0 (hk : kd i = 3) (ht : tt i = 0) (hs : slot c 5 = s) (ho : o = ![s, 256 * q, 0]) (ho' : o' = ![0, 256 * q, 0])
    {inb inb' hsc hsrc hdst hty} {k : PUnit → Prog (TpuEff nD τ sig (Elt F) Λ₀ .tc) α} {Q : α → sProp 𝕄} :
    env m K ⊢ iprop(Ctl (F := F) c i a -∗ pPc c s q (PARTS m c) -∗ (Ctl (F := F) c (i + 1) a -∗ wpc c (k ⟨⟩) Q)
      -∗ wpc c (.op (.enqueueDma (mq (n := 8) (Memref.whole cc0_scratch1) o inb) (.remote (Dev.tc dv : Thread nD τ) (mq (n := 3) (Memref.whole cc0_scratch3) o' inb') sS hsc) sem hsrc hdst hty) k) Q) := by
  have hq2 : q < 2 := hq ▸ qq_lt ⟨i, h29⟩
  subst hdv
  obtain ⟨e1, e2⟩ := rsL_src c h29 hk
  iintro HE HC Hs Hk
  iapply (send_core m K c h2 h29 rfl hsS hsem (G := LIN m (pdst c i)) (fs := PARTS m c) (D := iprop(emp)) (Fr := iprop(emp)) (q := fullShare)
    (by unfold amt; rw [if_neg (by rw [hk]; decide)]; rfl)
    (by unfold spay; rw [if_neg (show ¬ kd i = 0 by rw [hk]; decide), if_neg (show ¬ kd i = 1 by rw [hk]; decide), if_neg (show ¬ kd i = 2 by rw [hk]; decide), if_pos hk, if_pos ht, hs, hq])
    (by rw [set_mq1 hq2 ho inb]; rfl)
    (by unfold dstP; rw [if_neg (show ¬ kd i = 0 by rw [hk]; decide), if_neg (show ¬ kd i = 1 by rw [hk]; decide), if_neg (show ¬ kd i = 2 by rw [hk]; decide), if_pos hk, ht, hq, set_mq3 hq2 ho' inb']; exact Laws.sep_emp.1)
    (by exact funext fun x => (PARTS_half m hq2 c ho inb (Shape.reshapeEquiv squeezes_S1x256x1024_S256x1024.numel_eq x)).trans (by
      refine Eq.trans ?_ (LIN_half m hq2 (pdst c i) ho' inb' (Shape.reshapeEquiv squeezes_S1x256x1024_S256x1024.numel_eq x)).symm
      show _ = PB m (nb (pdst c i) _) (slot (pdst c i) _) _
      rw [e1, e2, hs]))
    (by unfold rpay; rw [if_neg (show ¬ kd i = 0 by rw [hk]; decide), if_neg (show ¬ kd i = 1 by rw [hk]; decide), if_neg (show ¬ kd i = 2 by rw [hk]; decide), if_pos hk, ht, hq, set_mq3 hq2 ho' inb']; exact Laws.sep_emp.1)) $$ HE HC Hs [] []
  · iempintro
  · iempintro
  iexact Hk

/-- Its later copies, from the row before. -/
theorem send_rsL {t : ℕ} (hk : kd i = 3) (ht : tt i = t + 1) (ho : o = ![t, 256 * q, 0]) (ho' : o' = ![t + 1, 256 * q, 0])
    {inb inb' hsc hsrc hdst hty} {k : PUnit → Prog (TpuEff nD τ sig (Elt F) Λ₀ .tc) α} {Q : α → sProp 𝕄} :
    env m K ⊢ iprop(Ctl (F := F) c i a -∗ lPc c t q (LOUT m c) -∗ (Ctl (F := F) c (i + 1) a -∗ wpc c (k ⟨⟩) Q)
      -∗ wpc c (.op (.enqueueDma (mq (n := 3) (Memref.whole cc0_scratch3) o inb) (.remote (Dev.tc dv : Thread nD τ) (mq (n := 3) (Memref.whole cc0_scratch3) o' inb') sS hsc) sem hsrc hdst hty) k) Q) := by
  have hq2 : q < 2 := hq ▸ qq_lt ⟨i, h29⟩
  subst hdv
  obtain ⟨e1, -⟩ := rsL_src c h29 hk
  iintro HE HC Hs Hk
  iapply (send_core m K c h2 h29 rfl hsS hsem (G := LIN m (pdst c i)) (fs := LOUT m c) (D := iprop(emp)) (Fr := iprop(emp)) (q := fullShare)
    (by unfold amt; rw [if_neg (by rw [hk]; decide)]; rfl)
    (by unfold spay; rw [if_neg (show ¬ kd i = 0 by rw [hk]; decide), if_neg (show ¬ kd i = 1 by rw [hk]; decide), if_neg (show ¬ kd i = 2 by rw [hk]; decide), if_pos hk, if_neg (by omega), hq, ht, Nat.add_sub_cancel])
    (by rw [set_mq3 hq2 ho inb]; rfl)
    (by unfold dstP; rw [if_neg (show ¬ kd i = 0 by rw [hk]; decide), if_neg (show ¬ kd i = 1 by rw [hk]; decide), if_neg (show ¬ kd i = 2 by rw [hk]; decide), if_pos hk, ht, hq, set_mq3 hq2 ho' inb']; exact Laws.sep_emp.1)
    (by exact funext fun x => (LOUT_half m hq2 c ho inb (Shape.reshapeEquiv squeezes_S1x256x1024_S256x1024.numel_eq x)).trans (by
      refine Eq.trans ?_ (LIN_half m hq2 (pdst c i) ho' inb' (Shape.reshapeEquiv squeezes_S1x256x1024_S256x1024.numel_eq x)).symm
      show _ = addv (accL m t (nb (pdst c i) _)) (PB m (nb (pdst c i) _) (slot (nb (pdst c i) _) _)) _
      rw [e1]; rfl))
    (by unfold rpay; rw [if_neg (show ¬ kd i = 0 by rw [hk]; decide), if_neg (show ¬ kd i = 1 by rw [hk]; decide), if_neg (show ¬ kd i = 2 by rw [hk]; decide), if_pos hk, ht, hq, set_mq3 hq2 ho' inb']; exact Laws.sep_emp.1)) $$ HE HC Hs [] []
  · iempintro
  · iempintro
  iexact Hk

omit hq in
/-- The copy straight to the device opposite, of one whole row. -/
theorem send_direct (hi : i = 22) (hs : slot c 4 = s) (ho : o = ![s, 0, 0])
    {inb hsc hsrc hdst hty} {k : PUnit → Prog (TpuEff nD τ sig (Elt F) Λ₀ .tc) α} {Q : α → sProp 𝕄} :
    env m K ⊢ iprop(Ctl (F := F) c i a -∗ pRow c s (PARTS m c) -∗ dAny (nb c 4) -∗ (Ctl (F := F) c (i + 1) a -∗ wpc c (k ⟨⟩) Q)
      -∗ wpc c (.op (.enqueueDma (((Memref.whole cc0_scratch1 : Memref sig .tc .vmem S8x512x1024 .bf16).slice (Rect.unit (s := S8x512x1024) o S1x512x1024.size inb) (fun _ => rfl)).squeeze S512x1024 squeezes_S1x512x1024_S512x1024)
          (.remote (Dev.tc dv : Thread nD τ) (Memref.whole cc0_scratch4) sS hsc) sem hsrc hdst hty) k) Q) := by
  subst hdv hi
  obtain ⟨e0, e1, e2⟩ := direct_src c
  have hset : (((Memref.whole cc0_scratch1 : Memref sig .tc .vmem S8x512x1024 .bf16).slice (Rect.unit (s := S8x512x1024) o S1x512x1024.size inb) (fun _ => rfl)).squeeze S512x1024 squeezes_S1x512x1024_S512x1024).view.set = row 8 s :=
    (View.set_reshape _ _).trans ((View.set_slice_whole _ _).trans (set_row ho inb))
  iintro HE HC Hs HD Hk
  iapply (send_core m K c h2 h29 rfl hsS hsem (G := DBUF m (pdst c 22)) (fs := PARTS m c) (S := pRow c s (PARTS m c)) (D := dAny (nb c 4)) (Fr := iprop(emp)) (q := fullShare)
    rfl (by unfold pRow; rw [← hs]; rfl)
    (by rw [hset, pRow_pt])
    (by rw [← e0, View.set_whole]; unfold dAny dPt; exact Laws.emp_sep.1)
    (by exact funext fun x => (PARTS_row m c ho inb (Shape.reshapeEquiv squeezes_S1x512x1024_S512x1024.numel_eq x)).trans (by
      show _ = PB m (nb (pdst c 22) 4) (slot (pdst c 22) 0) _
      rw [e1, e2, hs]; rfl))
    (by rw [View.set_whole]; exact Laws.sep_emp.1)) $$ HE HC Hs HD []
  · iempintro
  iexact Hk

end sends

/-! ## Waits -/

section waits
variable {α : Type} (c : Dev nD) {sp sp' : Space} {s s' : Shape} {e e' : EltTy} {x : DmaSem sig}
  {src : Memref sig .tc sp' s' e'} {dst : Memref sig .tc sp s e} {hsrc : src.view.WordExact} {hdst : dst.view.WordExact}

theorem recv {i a : ℕ} (hi : i ≤ 29) (ha : a < 27) (hlt : rOrd a < i) {R : sProp 𝕄} (hR : rpay m (rOrd a) c = R)
    (hx : SemLoc.dma x = cl (pno (psrc c (rOrd a)) (rOrd a))) (hk : dst.view.dmaCredit = amt (rOrd a))
    {k : PUnit → Prog (TpuEff nD τ sig (Elt F) Λ₀ .tc) α} {Q : α → sProp 𝕄} :
    env m K ⊢ iprop(Ctl (F := F) c i a -∗ ((Ctl (F := F) c i (a + 1) ∗ R) -∗ wpc c (k ⟨⟩) Q)
      -∗ wpc c (.op (.waitDma2 x src dst hsrc hdst) k) Q) := by
  iintro HE HC Hk
  unfold env
  icases HE with ⟨HR, HL⟩
  iapply (step_recv m K c hi ha hlt (wpE_waitDma2_eq 𝒱₀ (c : Thread nD τ) none Set.univ) hx hk hR) $$ [HR HL HC]
  · isplitl [HR]; · iexact HR
    isplitl [HL] <;> iassumption
  iexact Hk

theorem srcw {b : ℕ} (hb : b < 27)
    (hx : SemLoc.dma x = cl (sno (sOrd b))) (hk : dst.view.dmaCredit = amt (sOrd b))
    {k : PUnit → Prog (TpuEff nD τ sig (Elt F) Λ₀ .tc) α} {Q : α → sProp 𝕄} :
    env m K ⊢ iprop(Dra m c b -∗ (Dra m c (b + 1) -∗ wpc c (k ⟨⟩) Q)
      -∗ wpc c (.op (.waitDma2 x src dst hsrc hdst) k) Q) := by
  iintro HE HC Hk
  unfold env
  icases HE with ⟨HR, HL⟩
  iapply (step_src m K c hb (wpE_waitDma2_eq 𝒱₀ (c : Thread nD τ) none Set.univ) hx hk) $$ [HR HL HC]
  · isplitl [HR]; · iexact HR
    isplitl [HL] <;> iassumption
  iexact Hk

end waits

end Cert.Ring8
-- ==== Proof.Parts.lean ====
/-
# The parts of the body that exchange data

One theorem per printed part, named by its number: run after the payments and waits before it, the part makes its copies,
takes its waits and adds what has arrived, and leaves the device at the next count of payments (`Ctl`). Each is a chain of
the step lemmas of `Steps`, `Moves` and `Sends`.
-/
module

public import proofs.«01_k».proof.Proof.Sends

@[expose] public section

set_option maxRecDepth 65536

noncomputable section

namespace Cert.Ring8

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 58 → ℕ)

abbrev at0 {β : Sort _} (f : ∀ (a0 : Memref sig .tc .vmem S1x512x1024 .bf16) (_ : a0.IsWhole) (a1 : Memref sig .tc .vmem S1024x1024 .bf16) (_ : a1.IsWhole)
    (a2 : Memref sig .tc .vmem S1024x1024 .bf16) (_ : a2.IsWhole) (a3 : Memref sig .tc .vmem S1024x1024 .bf16) (_ : a3.IsWhole)
    (a4 : Memref sig .tc .vmem S1024x1024 .bf16) (_ : a4.IsWhole) (a5 : Memref sig .tc .vmem S1x512x1024 .f32) (_ : a5.IsWhole)
    (a6 : Memref sig .tc .vmem S8x512x1024 .bf16) (_ : a6.IsWhole) (a7 : Memref sig .tc .vmem S8x512x1024 .bf16) (_ : a7.IsWhole)
    (a8 : Memref sig .tc .vmem S3x512x1024 .bf16) (_ : a8.IsWhole) (a9 : Memref sig .tc .vmem S3x512x1024 .bf16) (_ : a9.IsWhole)
    (a10 : Memref sig .tc .vmem S512x1024 .bf16) (_ : a10.IsWhole) (a11 : DmaSems sig S3x2) (a12 : DmaSems sig S4x2) (a13 : DmaSems sig S8x2)
    (a14 a15 a16 a17 : DmaSems sig S3x2) (a18 a19 : DmaSems sig S1) (r0 : Sems sig S_), β) : β :=
  f (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _)
    cc0_scratch5 cc0_scratch6 cc0_scratch7 cc0_scratch8 cc0_scratch9 cc0_scratch10 cc0_scratch11 cc0_scratch12 cc0_scratch13 cc0_scoped0

section parts
variable {α : Type} (c : Dev nD) (v5 v10 v16 : BitVec 32)

/-! ## The parts that only move data

Each is read once, at a device `c`: from the permissions it needs and a continuation that goes on from those it leaves. -/

theorem part7 {k : PUnit → Prog (TpuEff nD τ sig (Elt F) Λ₀ .tc) α} {Q : α → sProp 𝕄} :
    env m K ⊢ iprop(Ctl (F := F) c 6 0 -∗ (Ctl (F := F) c 7 1 -∗ xPc c (slot c 7) 0 fullShare.right (XALL m) -∗ wpc c (k ⟨⟩) Q)
      -∗ wpc c (at0 (k0_part7 (F := F)) c v5 v10 >>= k) Q) := by
  unfold at0; rw [k0_part7_eq_skeleton]; unfold k0_part7_skel
  simp only [Prog.lift, Prog.bind_op, Prog.bind_ret, Prog.pure_eq_ret]
  iintro #HE HC Hk
  iapply (recv m K c (i := 6) (a := 0) (by decide) (by decide) (by decide) (R := xPc c (slot c 7) 0 fullShare (XALL m)) rfl ?_ ?_) $$ HE HC
  · revert c; decide +kernel
  · rfl
  iintro ⟨HC, Hx⟩
  ihave Hx := (Entails.of_eq (xPc_split c _ _ _ _)) $$ Hx
  icases Hx with ⟨Hx, Hy⟩
  iapply (send_agR m K c (i := 6) (a := 1) (by decide) (by decide) (dev7_eq c) ?_ ?_ (q := 0) rfl (by decide)
    (s := slot c 7) (by revert c; decide +kernel) (off8_eq c 7) (off8_eq c 7)) $$ HE HC Hx
  · rfl
  · revert c; decide +kernel
  iintro HC
  iapply Hk $$ HC Hy

theorem part8 {k : (Σ' (_ : BitVec 32), BitVec 32) → Prog (TpuEff nD τ sig (Elt F) Λ₀ .tc) α} {Q : α → sProp 𝕄} :
    env m K ⊢ iprop(Ctl (F := F) c 7 1 -∗ (∀ r, Ctl (F := F) c 8 3 -∗ xPc c (slot c 7) 1 fullShare.right (XALL m) -∗ xPc c (slot c 1) 0 fullShare (XALL m) -∗ dAny (F := F) (nb c 1) -∗ wpc c (k r) Q)
      -∗ wpc c (at0 (k0_part8 (F := F)) c v5 v10 v16 >>= k) Q) := by
  unfold at0; rw [k0_part8_eq_skeleton]; unfold k0_part8_skel
  simp only [Prog.lift, Prog.bind_op, Prog.bind_ret, Prog.pure_eq_ret]
  iintro #HE HC  Hk
  iapply (recv m K c (i := 7) (a := 1) (by decide) (by decide) (by decide) (R := xPc c (slot c 7) 1 fullShare (XALL m)) rfl ?_ ?_) $$ HE HC
  · revert c; decide +kernel
  · rfl
  iintro ⟨HC, Hx⟩
  ihave Hx := (Entails.of_eq (xPc_split c _ _ _ _)) $$ Hx
  icases Hx with ⟨Hx, Hy⟩
  iapply (send_agR m K c (i := 7) (a := 2) (by decide) (by decide) (dev8_eq c) ?_ ?_ (q := 1) rfl (by decide) (s := slot c 7) (by revert c; decide +kernel) (off10_eq c 7) (off10_eq c 7)) $$ HE HC Hx
  · rfl
  · revert c; decide +kernel
  iintro HC
  iapply (recv m K c (i := 8) (a := 2) (by decide) (by decide) (by decide) (R := iprop(xPc c (slot c 1) 0 fullShare (XALL m) ∗ dAny (nb c 1))) rfl ?_ ?_) $$ HE HC
  · revert c; decide +kernel
  · rfl
  iintro ⟨HC, Hz, Hd⟩
  iapply Hk $$ HC Hy Hz Hd

theorem part9 {r1 r2 : BitVec 32} {k : PUnit → Prog (TpuEff nD τ sig (Elt F) Λ₀ .tc) α} {Q : α → sProp 𝕄} :
    env m K ⊢ iprop(Ctl (F := F) c 8 3 -∗ xPc c (slot c 1) 0 fullShare (XALL m) -∗ dAny (F := F) (nb c 1) -∗ (Ctl (F := F) c 10 4 -∗ xPc c (slot c 1) 0 fullShare.right (XALL m) -∗ xPc c (slot c 1) 1 fullShare.right (XALL m) -∗ wpc c (k ⟨⟩) Q)
      -∗ wpc c (at0 (k0_part9 (F := F)) c v5 v10 v16 r1 r2 >>= k) Q) := by
  unfold at0; rw [k0_part9_eq_skeleton]; unfold k0_part9_skel
  simp only [Prog.lift, Prog.bind_op, Prog.bind_ret, Prog.pure_eq_ret]
  iintro #HE HC Hz Hd Hk
  ihave Hz := (Entails.of_eq (xPc_split c _ _ _ _)) $$ Hz
  icases Hz with ⟨Hz, Hy⟩
  iapply (send_agL m K c (i := 8) (a := 3) (by decide) (by decide) (dev9_eq c) ?_ ?_ (q := 0) rfl (p := fullShare.left) (A := dAny (nb c 1)) rfl rfl (by decide) (s := slot c 1) (by revert c; decide +kernel) (off8_eq c 1) (off8_eq c 1)) $$ HE HC Hz Hd
  · rfl
  · revert c; decide +kernel
  iintro HC
  iapply (recv m K c (i := 9) (a := 3) (by decide) (by decide) (by decide) (R := iprop(xPc c (slot c 1) 1 fullShare (XALL m) ∗ emp)) rfl ?_ ?_) $$ HE HC
  · revert c; decide +kernel
  · rfl
  iintro ⟨HC, Hx, -⟩
  ihave Hx := (Entails.of_eq (xPc_split c _ _ _ _)) $$ Hx
  icases Hx with ⟨Hx, Hx'⟩
  iapply (send_agL m K c (i := 9) (a := 4) (by decide) (by decide) (dev10_eq c) ?_ ?_ (q := 1) rfl (p := fullShare.left) (A := iprop(emp)) rfl rfl (by decide) (s := slot c 1) (by revert c; decide +kernel) (off10_eq c 1) (off10_eq c 1)) $$ HE HC Hx []
  · rfl
  · revert c; decide +kernel
  · iempintro
  iintro HC
  iapply Hk $$ HC Hy Hx'

theorem part14 {k : PUnit → Prog (TpuEff nD τ sig (Elt F) Λ₀ .tc) α} {Q : α → sProp 𝕄} :
    env m K ⊢ iprop(Ctl (F := F) c 10 5 -∗ xPc c (slot c 6) 0 fullShare (XALL m) -∗ (Ctl (F := F) c 12 6 -∗ xPc c (slot c 6) 0 fullShare.right (XALL m) -∗ xPc c (slot c 6) 1 fullShare.right (XALL m) -∗ wpc c (k ⟨⟩) Q)
      -∗ wpc c (at0 (k0_part14 (F := F)) c v5 v10 >>= k) Q) := by
  unfold at0; rw [k0_part14_eq_skeleton]; unfold k0_part14_skel
  simp only [Prog.lift, Prog.bind_op, Prog.bind_ret, Prog.pure_eq_ret]
  iintro #HE HC Hx Hk
  ihave Hx := (Entails.of_eq (xPc_split c _ _ _ _)) $$ Hx
  icases Hx with ⟨Hx, Hx'⟩
  iapply (send_agR m K c (i := 10) (a := 5) (by decide) (by decide) (dev11_eq c) ?_ ?_ (q := 0) rfl (by decide) (s := slot c 6) (by revert c; decide +kernel) (off8_eq c 6) (off8_eq c 6)) $$ HE HC Hx
  · rfl
  · revert c; decide +kernel
  iintro HC
  iapply (recv m K c (i := 11) (a := 5) (by decide) (by decide) (by decide) (R := xPc c (slot c 6) 1 fullShare (XALL m)) rfl ?_ ?_) $$ HE HC
  · revert c; decide +kernel
  · rfl
  iintro ⟨HC, Hy⟩
  ihave Hy := (Entails.of_eq (xPc_split c _ _ _ _)) $$ Hy
  icases Hy with ⟨Hy, Hy'⟩
  iapply (send_agR m K c (i := 11) (a := 6) (by decide) (by decide) (dev12_eq c) ?_ ?_ (q := 1) rfl (by decide) (s := slot c 6) (by revert c; decide +kernel) (off10_eq c 6) (off10_eq c 6)) $$ HE HC Hy
  · rfl
  · revert c; decide +kernel
  iintro HC
  iapply Hk $$ HC Hx' Hy'

theorem part15 {k : PUnit → Prog (TpuEff nD τ sig (Elt F) Λ₀ .tc) α} {Q : α → sProp 𝕄} :
    env m K ⊢ iprop(Ctl (F := F) c 12 6 -∗ (Ctl (F := F) c 13 7 -∗ xPc c (slot c 2) 0 fullShare.right (XALL m) -∗ wpc c (k ⟨⟩) Q)
      -∗ wpc c (at0 (k0_part15 (F := F)) c v5 v10 v16 >>= k) Q) := by
  unfold at0; rw [k0_part15_eq_skeleton]; unfold k0_part15_skel
  simp only [Prog.lift, Prog.bind_op, Prog.bind_ret, Prog.pure_eq_ret]
  iintro #HE HC  Hk
  iapply (recv m K c (i := 12) (a := 6) (by decide) (by decide) (by decide) (R := iprop(xPc c (slot c 2) 0 fullShare (XALL m) ∗ dAny (nb c 2))) rfl ?_ ?_) $$ HE HC
  · revert c; decide +kernel
  · rfl
  iintro ⟨HC, Hx, Hd⟩
  ihave Hx := (Entails.of_eq (xPc_split c _ _ _ _)) $$ Hx
  icases Hx with ⟨Hx, Hx'⟩
  iapply (send_agL m K c (i := 12) (a := 7) (by decide) (by decide) (dev13_eq c) ?_ ?_ (q := 0) rfl (p := fullShare.left) (A := dAny (nb c 2)) rfl rfl (by decide) (s := slot c 2) (by revert c; decide +kernel) (off8_eq c 2) (off8_eq c 2)) $$ HE HC Hx Hd
  · rfl
  · revert c; decide +kernel
  iintro HC
  iapply Hk $$ HC Hx'

theorem part20 {k : BitVec 32 → Prog (TpuEff nD τ sig (Elt F) Λ₀ .tc) α} {Q : α → sProp 𝕄} :
    env m K ⊢ iprop(Ctl (F := F) c 14 8 -∗ (∀ r, Ctl (F := F) c 14 11 -∗ xPc c (slot c 5) 0 fullShare (XALL m) -∗ xPc c (slot c 5) 1 fullShare (XALL m) -∗ xPc c (slot c 3) 0 fullShare (XALL m) -∗ dAny (F := F) (nb c 3) -∗ wpc c (k r) Q)
      -∗ wpc c (at0 (k0_part20 (F := F)) c v5 v10 >>= k) Q) := by
  unfold at0; rw [k0_part20_eq_skeleton]; unfold k0_part20_skel
  simp only [Prog.lift, Prog.bind_op, Prog.bind_ret, Prog.pure_eq_ret]
  iintro #HE HC  Hk
  iapply (recv m K c (i := 14) (a := 8) (by decide) (by decide) (by decide) (R := xPc c (slot c 5) 0 fullShare (XALL m)) rfl ?_ ?_) $$ HE HC
  · revert c; decide +kernel
  · rfl
  iintro ⟨HC, Hx⟩
  iapply (recv m K c (i := 14) (a := 9) (by decide) (by decide) (by decide) (R := xPc c (slot c 5) 1 fullShare (XALL m)) rfl ?_ ?_) $$ HE HC
  · revert c; decide +kernel
  · rfl
  iintro ⟨HC, Hy⟩
  iapply (recv m K c (i := 14) (a := 10) (by decide) (by decide) (by decide) (R := iprop(xPc c (slot c 3) 0 fullShare (XALL m) ∗ dAny (nb c 3))) rfl ?_ ?_) $$ HE HC
  · revert c; decide +kernel
  · rfl
  iintro ⟨HC, Hz, Hd⟩
  iapply Hk $$ HC Hx Hy Hz Hd

theorem part21 {r1 : BitVec 32} {k : PUnit → Prog (TpuEff nD τ sig (Elt F) Λ₀ .tc) α} {Q : α → sProp 𝕄} :
    env m K ⊢ iprop(Ctl (F := F) c 14 11 -∗ xPc c (slot c 3) 0 fullShare (XALL m) -∗ dAny (F := F) (nb c 3) -∗ (Ctl (F := F) c 15 12 -∗ xPc c (slot c 3) 0 fullShare.right (XALL m) -∗ xPc c (slot c 3) 1 fullShare (XALL m) -∗ wpc c (k ⟨⟩) Q)
      -∗ wpc c (at0 (k0_part21 (F := F)) c v5 v10 v16 r1 >>= k) Q) := by
  unfold at0; rw [k0_part21_eq_skeleton]; unfold k0_part21_skel
  simp only [Prog.lift, Prog.bind_op, Prog.bind_ret, Prog.pure_eq_ret]
  iintro #HE HC Hz Hd Hk
  ihave Hz := (Entails.of_eq (xPc_split c _ _ _ _)) $$ Hz
  icases Hz with ⟨Hz, Hz'⟩
  iapply (send_agL m K c (i := 14) (a := 11) (by decide) (by decide) (dev15_eq c) ?_ ?_ (q := 0) rfl (p := fullShare.left) (A := dAny (nb c 3)) rfl rfl (by decide) (s := slot c 3) (by revert c; decide +kernel) (off8_eq c 3) (off8_eq c 3)) $$ HE HC Hz Hd
  · rfl
  · revert c; decide +kernel
  iintro HC
  iapply (recv m K c (i := 15) (a := 11) (by decide) (by decide) (by decide) (R := iprop(xPc c (slot c 3) 1 fullShare (XALL m) ∗ emp)) rfl ?_ ?_) $$ HE HC
  · revert c; decide +kernel
  · rfl
  iintro ⟨HC, Hx, -⟩
  iapply Hk $$ HC Hz' Hx

theorem part34 {r1 : BitVec 32} {k : PUnit → Prog (TpuEff nD τ sig (Elt F) Λ₀ .tc) α} {Q : α → sProp 𝕄} :
    env m K ⊢ iprop(Ctl (F := F) c 20 12 -∗ pPc c (slot c 2) 0 (PARTS m c) -∗ (Ctl (F := F) c 20 13 -∗ rPc c 0 0 (ROUT m c) -∗ pPc c (slot c 2) 0 (PARTS m c) -∗ wpc c (k ⟨⟩) Q)
      -∗ wpc c (at0 (k0_part34 (F := F)) c v5 v10 r1 >>= k) Q) := by
  unfold at0; rw [k0_part34_eq_skeleton]; unfold k0_part34_skel
  simp only [Prog.lift, Prog.bind_op, Prog.bind_ret, Prog.pure_eq_ret]
  iintro #HE HC Hp Hk
  iapply (recv m K c (i := 20) (a := 12) (by decide) (by decide) (by decide) (R := rPc c 0 0 (RIN m c)) rfl ?_ ?_) $$ HE HC
  · revert c; decide +kernel
  · rfl
  iintro ⟨HC, Hx⟩
  iapply (fold_r m c (s := slot c 2) (q := 0) (t := 0) (by decide) rfl rfl (off11_eq c 2) rfl rfl (hw := fun u v _ => (fold_eq u v : k0_pay123 u v = _))) $$ [Hx Hp]
  · isplitl [Hx] <;> iassumption
  iintro %u %v %z ⟨Hx, Hp⟩
  iapply Hk $$ HC Hx Hp

theorem part35 {k : PUnit → Prog (TpuEff nD τ sig (Elt F) Λ₀ .tc) α} {Q : α → sProp 𝕄} :
    env m K ⊢ iprop(Ctl (F := F) c 20 13 -∗ rPc c 0 0 (ROUT m c) -∗ pPc c (slot c 2) 1 (PARTS m c) -∗ (Ctl (F := F) c 21 14 -∗ rPc c 0 1 (ROUT m c) -∗ pPc c (slot c 2) 1 (PARTS m c) -∗ wpc c (k ⟨⟩) Q)
      -∗ wpc c (at0 (k0_part35 (F := F)) c v5 v10 >>= k) Q) := by
  unfold at0; rw [k0_part35_eq_skeleton]; unfold k0_part35_skel
  simp only [Prog.lift, Prog.bind_op, Prog.bind_ret, Prog.pure_eq_ret]
  iintro #HE HC Hx Hp Hk
  iapply (send_rsR m K c (i := 20) (a := 13) (by decide) (by decide) (dev21_eq c) ?_ ?_ (q := 0) rfl (t := 0) (by decide) (by decide) rfl rfl) $$ HE HC Hx
  · rfl
  · revert c; decide +kernel
  iintro HC
  iapply (recv m K c (i := 21) (a := 13) (by decide) (by decide) (by decide) (R := rPc c 0 1 (RIN m c)) rfl ?_ ?_) $$ HE HC
  · revert c; decide +kernel
  · rfl
  iintro ⟨HC, Hy⟩
  iapply (fold_r m c (s := slot c 2) (q := 1) (t := 0) (by decide) rfl rfl (off12_eq c 2) rfl rfl (hw := fun u v _ => (fold_eq u v : k0_pay124 u v = _))) $$ [Hy Hp]
  · isplitl [Hy] <;> iassumption
  iintro %u %v %z ⟨Hy, Hp⟩
  iapply Hk $$ HC Hy Hp

theorem part36 {k : (Σ' (_ : BitVec 32), BitVec 32) → Prog (TpuEff nD τ sig (Elt F) Λ₀ .tc) α} {Q : α → sProp 𝕄} :
    env m K ⊢ iprop(Ctl (F := F) c 21 14 -∗ rPc c 0 1 (ROUT m c) -∗ (∀ r, Ctl (F := F) c 22 16 -∗ xPc c (slot c 4) 0 fullShare (XALL m) -∗ dAny (F := F) (nb c 4) -∗ xPc c (slot c 4) 1 fullShare (XALL m) -∗ wpc c (k r) Q)
      -∗ wpc c (at0 (k0_part36 (F := F)) c v5 v10 >>= k) Q) := by
  unfold at0; rw [k0_part36_eq_skeleton]; unfold k0_part36_skel
  simp only [Prog.lift, Prog.bind_op, Prog.bind_ret, Prog.pure_eq_ret]
  iintro #HE HC Hx Hk
  iapply (send_rsR m K c (i := 21) (a := 14) (by decide) (by decide) (dev22_eq c) ?_ ?_ (q := 1) rfl (t := 0) (by decide) (by decide) rfl rfl) $$ HE HC Hx
  · rfl
  · revert c; decide +kernel
  iintro HC
  iapply (recv m K c (i := 22) (a := 14) (by decide) (by decide) (by decide) (R := iprop(xPc c (slot c 4) 0 fullShare (XALL m) ∗ dAny (nb c 4))) rfl ?_ ?_) $$ HE HC
  · revert c; decide +kernel
  · rfl
  iintro ⟨HC, Hy, Hd⟩
  iapply (recv m K c (i := 22) (a := 15) (by decide) (by decide) (by decide) (R := iprop(xPc c (slot c 4) 1 fullShare (XALL m) ∗ emp)) rfl ?_ ?_) $$ HE HC
  · revert c; decide +kernel
  · rfl
  iintro ⟨HC, Hz, -⟩
  iapply Hk $$ HC Hy Hd Hz

theorem part41 {k : BitVec 32 → Prog (TpuEff nD τ sig (Elt F) Λ₀ .tc) α} {Q : α → sProp 𝕄} :
    env m K ⊢ iprop(Ctl (F := F) c 23 16 -∗ pPc c (slot c 6) 0 (PARTS m c) -∗ (∀ r, Ctl (F := F) c 24 17 -∗ pPc c (slot c 6) 0 (PARTS m c) -∗ wpc c (k r) Q)
      -∗ wpc c (at0 (k0_part41 (F := F)) c v5 v16 >>= k) Q) := by
  unfold at0; rw [k0_part41_eq_skeleton]; unfold k0_part41_skel
  simp only [Prog.lift, Prog.bind_op, Prog.bind_ret, Prog.pure_eq_ret]
  iintro #HE HC Hp Hk
  iapply (recv m K c (i := 23) (a := 16) (by decide) (by decide) (by decide) (R := lPc c 0 0 (LIN m c)) rfl ?_ ?_) $$ HE HC
  · revert c; decide +kernel
  · rfl
  iintro ⟨HC, Hx⟩
  iapply (fold_l m c (s := slot c 6) (q := 0) (t := 0) (by decide) rfl rfl (off11_eq c 6) rfl rfl (hw := fun u v _ => (fold_eq u v : k0_pay143 u v = _))) $$ [Hx Hp]
  · isplitl [Hx] <;> iassumption
  iintro %u %v %z ⟨Hx, Hp⟩
  iapply (send_rsL m K c (i := 23) (a := 17) (by decide) (by decide) (dev24_eq c) ?_ ?_ (q := 0) rfl (t := 0) (by decide) (by decide) rfl rfl) $$ HE HC Hx
  · rfl
  · revert c; decide +kernel
  iintro HC
  iapply Hk $$ HC Hp

theorem part42 {r1 : BitVec 32} {k : PUnit → Prog (TpuEff nD τ sig (Elt F) Λ₀ .tc) α} {Q : α → sProp 𝕄} :
    env m K ⊢ iprop(Ctl (F := F) c 24 17 -∗ pPc c (slot c 6) 1 (PARTS m c) -∗ (Ctl (F := F) c 24 18 -∗ lPc c 0 1 (LOUT m c) -∗ pPc c (slot c 6) 1 (PARTS m c) -∗ wpc c (k ⟨⟩) Q)
      -∗ wpc c (at0 (k0_part42 (F := F)) c v5 v16 r1 >>= k) Q) := by
  unfold at0; rw [k0_part42_eq_skeleton]; unfold k0_part42_skel
  simp only [Prog.lift, Prog.bind_op, Prog.bind_ret, Prog.pure_eq_ret]
  iintro #HE HC Hp Hk
  iapply (recv m K c (i := 24) (a := 17) (by decide) (by decide) (by decide) (R := lPc c 0 1 (LIN m c)) rfl ?_ ?_) $$ HE HC
  · revert c; decide +kernel
  · rfl
  iintro ⟨HC, Hx⟩
  iapply (fold_l m c (s := slot c 6) (q := 1) (t := 0) (by decide) rfl rfl (off12_eq c 6) rfl rfl (hw := fun u v _ => (fold_eq u v : k0_pay144 u v = _))) $$ [Hx Hp]
  · isplitl [Hx] <;> iassumption
  iintro %u %v %z ⟨Hx, Hp⟩
  iapply Hk $$ HC Hx Hp

theorem part48 {k : PUnit → Prog (TpuEff nD τ sig (Elt F) Λ₀ .tc) α} {Q : α → sProp 𝕄} :
    env m K ⊢ iprop(Ctl (F := F) c 26 19 -∗ pPc c (slot c 1) 1 (PARTS m c) -∗ (Ctl (F := F) c 27 20 -∗ pPc c (slot c 1) 1 (PARTS m c) -∗ wpc c (k ⟨⟩) Q)
      -∗ wpc c (at0 (k0_part48 (F := F)) c v5 v10 v16 >>= k) Q) := by
  unfold at0; rw [k0_part48_eq_skeleton]; unfold k0_part48_skel
  simp only [Prog.lift, Prog.bind_op, Prog.bind_ret, Prog.pure_eq_ret]
  iintro #HE HC Hp Hk
  iapply (recv m K c (i := 26) (a := 19) (by decide) (by decide) (by decide) (R := rPc c 1 1 (RIN m c)) rfl ?_ ?_) $$ HE HC
  · revert c; decide +kernel
  · rfl
  iintro ⟨HC, Hx⟩
  iapply (fold_r m c (s := slot c 1) (q := 1) (t := 1) (by decide) rfl rfl (off12_eq c 1) rfl rfl (hw := fun u v _ => (fold_eq u v : k0_pay166 u v = _))) $$ [Hx Hp]
  · isplitl [Hx] <;> iassumption
  iintro %u %v %z ⟨Hx, Hp⟩
  iapply (send_rsR m K c (i := 26) (a := 20) (by decide) (by decide) (dev27_eq c) ?_ ?_ (q := 1) rfl (t := 1) (by decide) (by decide) rfl rfl) $$ HE HC Hx
  · rfl
  · revert c; decide +kernel
  iintro HC
  iapply Hk $$ HC Hp

theorem part49 {k : PUnit → Prog (TpuEff nD τ sig (Elt F) Λ₀ .tc) α} {Q : α → sProp 𝕄} :
    env m K ⊢ iprop(Ctl (F := F) c 27 20 -∗ pPc c (slot c 7) 0 (PARTS m c) -∗ (Ctl (F := F) c 28 21 -∗ pPc c (slot c 7) 0 (PARTS m c) -∗ wpc c (k ⟨⟩) Q)
      -∗ wpc c (at0 (k0_part49 (F := F)) c v5 v16 >>= k) Q) := by
  unfold at0; rw [k0_part49_eq_skeleton]; unfold k0_part49_skel
  simp only [Prog.lift, Prog.bind_op, Prog.bind_ret, Prog.pure_eq_ret]
  iintro #HE HC Hp Hk
  iapply (recv m K c (i := 27) (a := 20) (by decide) (by decide) (by decide) (R := lPc c 1 0 (LIN m c)) rfl ?_ ?_) $$ HE HC
  · revert c; decide +kernel
  · rfl
  iintro ⟨HC, Hx⟩
  iapply (fold_l m c (s := slot c 7) (q := 0) (t := 1) (by decide) rfl rfl (off11_eq c 7) rfl rfl (hw := fun u v _ => (fold_eq u v : k0_pay167 u v = _))) $$ [Hx Hp]
  · isplitl [Hx] <;> iassumption
  iintro %u %v %z ⟨Hx, Hp⟩
  iapply (send_rsL m K c (i := 27) (a := 21) (by decide) (by decide) (dev28_eq c) ?_ ?_ (q := 0) rfl (t := 1) (by decide) (by decide) rfl rfl) $$ HE HC Hx
  · rfl
  · revert c; decide +kernel
  iintro HC
  iapply Hk $$ HC Hp

theorem part50 {k : PUnit → Prog (TpuEff nD τ sig (Elt F) Λ₀ .tc) α} {Q : α → sProp 𝕄} :
    env m K ⊢ iprop(Ctl (F := F) c 28 21 -∗ pPc c (slot c 7) 1 (PARTS m c) -∗ (Ctl (F := F) c 28 22 -∗ lPc c 1 1 (LOUT m c) -∗ pPc c (slot c 7) 1 (PARTS m c) -∗ wpc c (k ⟨⟩) Q)
      -∗ wpc c (at0 (k0_part50 (F := F)) c v5 v16 >>= k) Q) := by
  unfold at0; rw [k0_part50_eq_skeleton]; unfold k0_part50_skel
  simp only [Prog.lift, Prog.bind_op, Prog.bind_ret, Prog.pure_eq_ret]
  iintro #HE HC Hp Hk
  iapply (recv m K c (i := 28) (a := 21) (by decide) (by decide) (by decide) (R := lPc c 1 1 (LIN m c)) rfl ?_ ?_) $$ HE HC
  · revert c; decide +kernel
  · rfl
  iintro ⟨HC, Hx⟩
  iapply (fold_l m c (s := slot c 7) (q := 1) (t := 1) (by decide) rfl rfl (off12_eq c 7) rfl rfl (hw := fun u v _ => (fold_eq u v : k0_pay168 u v = _))) $$ [Hx Hp]
  · isplitl [Hx] <;> iassumption
  iintro %u %v %z ⟨Hx, Hp⟩
  iapply Hk $$ HC Hx Hp

theorem part51 {k : PUnit → Prog (TpuEff nD τ sig (Elt F) Λ₀ .tc) α} {Q : α → sProp 𝕄} :
    env m K ⊢ iprop(Ctl (F := F) c 28 22 -∗ lPc c 1 1 (LOUT m c) -∗ (Ctl (F := F) c 29 24 -∗ rPc c 2 0 (RIN m c) -∗ lPc c 2 0 (LIN m c) -∗ wpc c (k ⟨⟩) Q)
      -∗ wpc c (at0 (k0_part51 (F := F)) c v10 v16 >>= k) Q) := by
  unfold at0; rw [k0_part51_eq_skeleton]; unfold k0_part51_skel
  simp only [Prog.lift, Prog.bind_op, Prog.bind_ret, Prog.pure_eq_ret]
  iintro #HE HC Hx Hk
  iapply (send_rsL m K c (i := 28) (a := 22) (by decide) (by decide) (dev29_eq c) ?_ ?_ (q := 1) rfl (t := 1) (by decide) (by decide) rfl rfl) $$ HE HC Hx
  · rfl
  · revert c; decide +kernel
  iintro HC
  iapply (recv m K c (i := 29) (a := 22) (by decide) (by decide) (by decide) (R := rPc c 2 0 (RIN m c)) rfl ?_ ?_) $$ HE HC
  · revert c; decide +kernel
  · rfl
  iintro ⟨HC, Hr⟩
  iapply (recv m K c (i := 29) (a := 23) (by decide) (by decide) (by decide) (R := lPc c 2 0 (LIN m c)) rfl ?_ ?_) $$ HE HC
  · revert c; decide +kernel
  · rfl
  iintro ⟨HC, Hl⟩
  iapply Hk $$ HC Hr Hl

theorem part52 {k : PUnit → Prog (TpuEff nD τ sig (Elt F) Λ₀ .tc) α} {Q : α → sProp 𝕄} :
    env m K ⊢ iprop(Ctl (F := F) c 29 24 -∗ (Ctl (F := F) c 29 27 -∗ rPc c 2 1 (RIN m c) -∗ lPc c 2 1 (LIN m c) -∗ dPt c (DBUF m c) -∗ wpc c (k ⟨⟩) Q)
      -∗ wpc c (at0 (k0_part52 (F := F)) c v5 v16 >>= k) Q) := by
  unfold at0; rw [k0_part52_eq_skeleton]; unfold k0_part52_skel
  simp only [Prog.lift, Prog.bind_op, Prog.bind_ret, Prog.pure_eq_ret]
  iintro #HE HC  Hk
  iapply (recv m K c (i := 29) (a := 24) (by decide) (by decide) (by decide) (R := rPc c 2 1 (RIN m c)) rfl ?_ ?_) $$ HE HC
  · revert c; decide +kernel
  · rfl
  iintro ⟨HC, Hr⟩
  iapply (recv m K c (i := 29) (a := 25) (by decide) (by decide) (by decide) (R := lPc c 2 1 (LIN m c)) rfl ?_ ?_) $$ HE HC
  · revert c; decide +kernel
  · rfl
  iintro ⟨HC, Hl⟩
  iapply (recv m K c (i := 29) (a := 26) (by decide) (by decide) (by decide) (R := dPt c (DBUF m c)) rfl ?_ ?_) $$ HE HC
  · revert c; decide +kernel
  · rfl
  iintro ⟨HC, Hd⟩
  iapply Hk $$ HC Hr Hl Hd

end parts

end Cert.Ring8
-- ==== Proof.Waits.lean ====
/-
# The loads, the last sum and the last waits

The loads of the body, the store of the result, and the parts at the end that wait for a device's own copies to have been
read, one theorem per printed part.
-/
module

public import proofs.«01_k».proof.Proof.Parts

@[expose] public section

set_option maxRecDepth 65536

noncomputable section

namespace Cert.Ring8

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 58 → ℕ)

section parts
variable {α : Type} (c : Dev nD) (v5 v10 v16 : BitVec 32)

/-- A load of a whole reference. -/
theorem load_w {r : Ref sig .tc} {sh : Shape} {e : EltTy} {mr : Memref sig .tc .vmem sh e} {rr : LoadRect sh} {hl : mr.view.LoadsAt rr}
    {k : (rr.shape.Idx → Elt F e) → Prog (TpuEff nD τ sig (Elt F) Λ₀ .tc) α} {Q : α → sProp 𝕄} {f : Buf (Elt F) (mr.view.loc (c : Thread nD τ))}
    {v : rr.shape.Idx → Elt F e} (hv : mr.view.readAt (Elt F) rr f = v) :
    (mr.view.loc (c : Thread nD τ) ↦{fullShare} f)
      ⊢ iprop(((mr.view.loc (c : Thread nD τ) ↦{fullShare} f) -∗ wpc c (k v) Q) -∗ wpc c (.op (.load mr rr hl) k) Q) := by
  subst hv; exact wp_load 𝒱₀ (c : Thread nD τ) none Set.univ (Finset.subset_univ _)

theorem load_d {off : Fin 2 → ℕ} (hoff : off = ![0, 0]) {inb hl} {k : Vec F S512x1024 .bf16 → Prog (TpuEff nD τ sig (Elt F) Λ₀ .tc) α} {Q : α → sProp 𝕄} :
    dPt c (DBUF m c) ⊢ iprop((dPt c (DBUF m c) -∗ wpc c (k (DBUF m c)) Q)
      -∗ wpc c (.op (.load (Memref.whole cc0_scratch4) (Rect.unit (s := S512x1024) off S512x1024.size inb).toLoadRect hl) k) Q) := by
  subst hoff
  unfold dPt
  exact load_w (r := cc0_scratch4) c (mr := Memref.whole cc0_scratch4) (rr := (Rect.unit (s := S512x1024) ![0, 0] S512x1024.size inb).toLoadRect) (f := DBUF m c)
    (Memref.readAt_unit_zero (Elt F) cc0_scratch4 (by funext a; fin_cases a <;> rfl) _ _)

/-- The result is stored: its block is first loaded and not used. -/
theorem put_out {f : (cc0_stg5_0 : Ref sig .tc).ty.Contents (Elt F)} {i1 i2 l1 hx hm}
    {k : Vec F S1x512x1024 .f32 → PUnit → Prog (TpuEff nD τ sig (Elt F) Λ₀ .tc) α} {Q : α → sProp 𝕄} :
    (((c : Thread nD τ).loc cc0_stg5_0) ↦{fullShare} f)
      ⊢ iprop((∀ v, (((c : Thread nD τ).loc cc0_stg5_0) ↦{fullShare} (OUT m c : (cc0_stg5_0 : Ref sig .tc).ty.Contents (Elt F))) -∗ wpc c (k v ⟨⟩) Q)
      -∗ wpc c (.op (.load (Memref.whole cc0_stg5_0) (Rect.unit (s := S1x512x1024) ![0, 0, 0] S1x512x1024.size i1).toLoadRect l1) fun v =>
          .op (.store (Memref.whole cc0_stg5_0) (Rect.unit (s := S1x512x1024) ![0, 0, 0] S1x512x1024.size i2)
            (k0_pay169 (accR m 2 c) (accL m 2 c) (DBUF m c) (PB m c (slot c 0))) Finset.univ hx hm) (k v)) Q) := by
  iintro H Hk
  iapply (load_w (r := cc0_stg5_0) c (mr := Memref.whole cc0_stg5_0) (rr := (Rect.unit (s := S1x512x1024) ![0, 0, 0] S1x512x1024.size i1).toLoadRect) (f := f) rfl) $$ H
  iintro H
  iapply (wp_store 𝒱₀ (c : Thread nD τ) none Set.univ (m := Memref.whole cc0_stg5_0) (r := Rect.unit (s := S1x512x1024) ![0, 0, 0] S1x512x1024.size i2) (f := f) (Finset.subset_univ _)) $$ H
  iintro H
  ihave H := (Entails.of_eq (congrArg (fun g : (cc0_stg5_0 : Ref sig .tc).ty.Contents (Elt F) => (((c : Thread nD τ).loc cc0_stg5_0) ↦{fullShare} g : sProp 𝕄))
    ((Memref.write_access_unit_zero_univ (Elt F) cc0_stg5_0 (by funext a; fin_cases a <;> rfl) _ _ _).trans (show _ = OUT m c from rfl)))) $$ H
  iapply Hk $$ H

/-! ## The result, and the waits on the copies sent -/

theorem part53 {f : (cc0_stg5_0 : Ref sig .tc).ty.Contents (Elt F)} {k : PUnit → Prog (TpuEff nD τ sig (Elt F) Λ₀ .tc) α} {Q : α → sProp 𝕄} :
    env m K ⊢ iprop(Dra m c 0 -∗ rRow c 2 (RIN m c) -∗ lRow c 2 (LIN m c) -∗ dPt c (DBUF m c) -∗ pRow c (slot c 0) (PARTS m c)
      -∗ (((c : Thread nD τ).loc cc0_stg5_0) ↦{fullShare} f)
      -∗ (Dra m c 1 -∗ rRow c 2 (RIN m c) -∗ lRow c 2 (LIN m c) -∗ dPt c (DBUF m c) -∗ pRow c (slot c 0) (PARTS m c)
        -∗ (((c : Thread nD τ).loc cc0_stg5_0) ↦{fullShare} (OUT m c : (cc0_stg5_0 : Ref sig .tc).ty.Contents (Elt F))) -∗ wpc c (k ⟨⟩) Q)
      -∗ wpc c (at0 (k0_part53 (F := F)) c v5 >>= k) Q) := by
  unfold at0; rw [k0_part53_eq_skeleton]; unfold k0_part53_skel
  simp only [Prog.lift, Prog.bind_op, Prog.bind_ret, Prog.pure_eq_ret]
  iintro #HE HD Hr Hl Hd Hp Ho Hk
  iapply (load_r m c (s := 2) rfl) $$ Hr
  iintro Hr
  iapply (load_l m c (s := 2) rfl) $$ Hl
  iintro Hl
  iapply (load_d m c rfl) $$ Hd
  iintro Hd
  iapply (load_p m c (s := slot c 0) (off1_eq c)) $$ Hp
  iintro Hp
  iapply (put_out m c) $$ Ho
  iintro %v Ho
  iapply (srcw m K c (b := 0) (by decide) ?_ ?_) $$ HE HD
  · rfl
  · rfl
  iintro HD
  iapply Hk $$ HD Hr Hl Hd Hp Ho

theorem part54 {k : PUnit → Prog (TpuEff nD τ sig (Elt F) Λ₀ .tc) α} {Q : α → sProp 𝕄} :
    env m K ⊢ iprop(Dra m c 1 -∗ (Dra m c 4 -∗ wpc c (k ⟨⟩) Q) -∗ wpc c (at0 (k0_part54 (F := F)) c v5 >>= k) Q) := by
  unfold at0; rw [k0_part54_eq_skeleton]; unfold k0_part54_skel
  simp only [Prog.lift, Prog.bind_op, Prog.bind_ret, Prog.pure_eq_ret]
  iintro #HE HD Hk
  iapply (srcw m K c (b := 1) (by decide) ?_ ?_) $$ HE HD
  · rfl
  · rfl
  iintro HD
  iapply (srcw m K c (b := 2) (by decide) ?_ ?_) $$ HE HD
  · rfl
  · rfl
  iintro HD
  iapply (srcw m K c (b := 3) (by decide) ?_ ?_) $$ HE HD
  · rfl
  · rfl
  iintro HD
  iapply Hk $$ HD

theorem part55 {k : PUnit → Prog (TpuEff nD τ sig (Elt F) Λ₀ .tc) α} {Q : α → sProp 𝕄} :
    env m K ⊢ iprop(Dra m c 4 -∗ (Dra m c 7 -∗ wpc c (k ⟨⟩) Q) -∗ wpc c (at0 (k0_part55 (F := F)) c v5 >>= k) Q) := by
  unfold at0; rw [k0_part55_eq_skeleton]; unfold k0_part55_skel
  simp only [Prog.lift, Prog.bind_op, Prog.bind_ret, Prog.pure_eq_ret]
  iintro #HE HD Hk
  iapply (srcw m K c (b := 4) (by decide) ?_ ?_) $$ HE HD
  · rfl
  · rfl
  iintro HD
  iapply (srcw m K c (b := 5) (by decide) ?_ ?_) $$ HE HD
  · rfl
  · rfl
  iintro HD
  iapply (srcw m K c (b := 6) (by decide) ?_ ?_) $$ HE HD
  · rfl
  · rfl
  iintro HD
  iapply Hk $$ HD

theorem part56 {k : (BitVec 32) → Prog (TpuEff nD τ sig (Elt F) Λ₀ .tc) α} {Q : α → sProp 𝕄} :
    env m K ⊢ iprop(Dra m c 7 -∗ (∀ r, Dra m c 11 -∗ wpc c (k r) Q) -∗ wpc c (at0 (k0_part56 (F := F)) c v5 >>= k) Q) := by
  unfold at0; rw [k0_part56_eq_skeleton]; unfold k0_part56_skel
  simp only [Prog.lift, Prog.bind_op, Prog.bind_ret, Prog.pure_eq_ret]
  iintro #HE HD Hk
  iapply (srcw m K c (b := 7) (by decide) ?_ ?_) $$ HE HD
  · rfl
  · rfl
  iintro HD
  iapply (srcw m K c (b := 8) (by decide) ?_ ?_) $$ HE HD
  · rfl
  · rfl
  iintro HD
  iapply (srcw m K c (b := 9) (by decide) ?_ ?_) $$ HE HD
  · rfl
  · rfl
  iintro HD
  iapply (srcw m K c (b := 10) (by decide) ?_ ?_) $$ HE HD
  · rfl
  · rfl
  iintro HD
  iapply Hk $$ HD

theorem part57 {r1 : BitVec 32} {k : PUnit → Prog (TpuEff nD τ sig (Elt F) Λ₀ .tc) α} {Q : α → sProp 𝕄} :
    env m K ⊢ iprop(Dra m c 11 -∗ (Dra m c 14 -∗ wpc c (k ⟨⟩) Q) -∗ wpc c (at0 (k0_part57 (F := F)) c v5 r1 >>= k) Q) := by
  unfold at0; rw [k0_part57_eq_skeleton]; unfold k0_part57_skel
  simp only [Prog.lift, Prog.bind_op, Prog.bind_ret, Prog.pure_eq_ret]
  iintro #HE HD Hk
  iapply (srcw m K c (b := 11) (by decide) ?_ ?_) $$ HE HD
  · rfl
  · rfl
  iintro HD
  iapply (srcw m K c (b := 12) (by decide) ?_ ?_) $$ HE HD
  · rfl
  · rfl
  iintro HD
  iapply (srcw m K c (b := 13) (by decide) ?_ ?_) $$ HE HD
  · rfl
  · rfl
  iintro HD
  iapply Hk $$ HD

theorem part58 {k : PUnit → Prog (TpuEff nD τ sig (Elt F) Λ₀ .tc) α} {Q : α → sProp 𝕄} :
    env m K ⊢ iprop(Dra m c 14 -∗ (Dra m c 17 -∗ wpc c (k ⟨⟩) Q) -∗ wpc c (at0 (k0_part58 (F := F)) c v5 >>= k) Q) := by
  unfold at0; rw [k0_part58_eq_skeleton]; unfold k0_part58_skel
  simp only [Prog.lift, Prog.bind_op, Prog.bind_ret, Prog.pure_eq_ret]
  iintro #HE HD Hk
  iapply (srcw m K c (b := 14) (by decide) ?_ ?_) $$ HE HD
  · rfl
  · rfl
  iintro HD
  iapply (srcw m K c (b := 15) (by decide) ?_ ?_) $$ HE HD
  · rfl
  · rfl
  iintro HD
  iapply (srcw m K c (b := 16) (by decide) ?_ ?_) $$ HE HD
  · rfl
  · rfl
  iintro HD
  iapply Hk $$ HD

theorem part59 {k : PUnit → Prog (TpuEff nD τ sig (Elt F) Λ₀ .tc) α} {Q : α → sProp 𝕄} :
    env m K ⊢ iprop(Dra m c 17 -∗ (Dra m c 20 -∗ wpc c (k ⟨⟩) Q) -∗ wpc c (at0 (k0_part59 (F := F)) v5 >>= k) Q) := by
  unfold at0; rw [k0_part59_eq_skeleton]; unfold k0_part59_skel
  simp only [Prog.lift, Prog.bind_op, Prog.bind_ret, Prog.pure_eq_ret]
  iintro #HE HD Hk
  iapply (srcw m K c (b := 17) (by decide) ?_ ?_) $$ HE HD
  · rfl
  · rfl
  iintro HD
  iapply (srcw m K c (b := 18) (by decide) ?_ ?_) $$ HE HD
  · rfl
  · rfl
  iintro HD
  iapply (srcw m K c (b := 19) (by decide) ?_ ?_) $$ HE HD
  · rfl
  · rfl
  iintro HD
  iapply Hk $$ HD

theorem part60 {k : PUnit → Prog (TpuEff nD τ sig (Elt F) Λ₀ .tc) α} {Q : α → sProp 𝕄} :
    env m K ⊢ iprop(Dra m c 20 -∗ (Dra m c 23 -∗ wpc c (k ⟨⟩) Q) -∗ wpc c (at0 (k0_part60 (F := F)) c v5 >>= k) Q) := by
  unfold at0; rw [k0_part60_eq_skeleton]; unfold k0_part60_skel
  simp only [Prog.lift, Prog.bind_op, Prog.bind_ret, Prog.pure_eq_ret]
  iintro #HE HD Hk
  iapply (srcw m K c (b := 20) (by decide) ?_ ?_) $$ HE HD
  · rfl
  · rfl
  iintro HD
  iapply (srcw m K c (b := 21) (by decide) ?_ ?_) $$ HE HD
  · rfl
  · rfl
  iintro HD
  iapply (srcw m K c (b := 22) (by decide) ?_ ?_) $$ HE HD
  · rfl
  · rfl
  iintro HD
  iapply Hk $$ HD

theorem part61 {k : PUnit → Prog (TpuEff nD τ sig (Elt F) Λ₀ .tc) α} {Q : α → sProp 𝕄} :
    env m K ⊢ iprop(Dra m c 23 -∗ (Dra m c 26 -∗ wpc c (k ⟨⟩) Q) -∗ wpc c (at0 (k0_part61 (F := F)) v5 >>= k) Q) := by
  unfold at0; rw [k0_part61_eq_skeleton]; unfold k0_part61_skel
  simp only [Prog.lift, Prog.bind_op, Prog.bind_ret, Prog.pure_eq_ret]
  iintro #HE HD Hk
  iapply (srcw m K c (b := 23) (by decide) ?_ ?_) $$ HE HD
  · rfl
  · rfl
  iintro HD
  iapply (srcw m K c (b := 24) (by decide) ?_ ?_) $$ HE HD
  · rfl
  · rfl
  iintro HD
  iapply (srcw m K c (b := 25) (by decide) ?_ ?_) $$ HE HD
  · rfl
  · rfl
  iintro HD
  iapply Hk $$ HD

end parts

end Cert.Ring8
-- ==== Proof.Compute.lean ====
/-
# The parts of the body that compute

One theorem per printed part of the attention: a part without effects only hands its values on, and a part that loads or
stores a row of the scratch arrays does so with `partOf` of the row.
-/
module

public import proofs.«01_k».proof.Proof.Waits

@[expose] public section

set_option maxRecDepth 65536

noncomputable section

namespace Cert.Ring8

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 58 → ℕ)

section parts
variable {α : Type} (c : Dev nD)

/-! ## The parts that only compute -/

theorem part4 {v84 v85 v86 v89 v90 v91} {k} {Q : α → sProp 𝕄} :
    wpc c (k ⟨k0_pay13 v89 v90 v91, k0_pay14 v84 v85 v86, k0_pay15 v84 v85 v86, k0_pay16 v84, k0_pay17 v85, k0_pay18 v86, (constant S512x512 .f32 0x00000000#32)⟩) Q ⊢ wpc c ((at0 (k0_part4 (F := F)) v84 v85 v86 v89 v90 v91 : Prog (TpuEff nD τ sig (Elt F) Λ₀ .tc) _) >>= k) Q := BI.Entails.refl _

theorem part5 {v84 v85 v86 v135 v136 v137 cst_82} {k} {Q : α → sProp 𝕄} :
    wpc c (k ⟨k0_pay19 v135 v136 v137 cst_82, k0_pay20 v84 v85 v86, k0_pay21 v84 v85 v86, k0_pay22 v84⟩) Q ⊢ wpc c ((at0 (k0_part5 (F := F)) v84 v85 v86 v135 v136 v137 cst_82 : Prog (TpuEff nD τ sig (Elt F) Λ₀ .tc) _) >>= k) Q := BI.Entails.refl _

theorem part11 {v320 v321 v322} {k} {Q : α → sProp 𝕄} :
    wpc c (k ⟨k0_pay30 v320 v321 v322, k0_pay31 v320 v321 v322, k0_pay33 v320 v321, k0_pay34 v320 v321 v322⟩) Q ⊢ wpc c ((at0 (k0_part11 (F := F)) v320 v321 v322 : Prog (TpuEff nD τ sig (Elt F) Λ₀ .tc) _) >>= k) Q := BI.Entails.refl _

theorem part12 {v320 v321 v322 v397 v399} {k} {Q : α → sProp 𝕄} :
    wpc c (k ⟨k0_pay35 v397 v399, k0_pay36 v320 v321 v322, k0_pay37 v320 v321 v322, k0_pay38 v322, k0_pay39 v320 v321, k0_pay40 v320 v321⟩) Q ⊢ wpc c ((at0 (k0_part12 (F := F)) v320 v321 v322 v397 v399 : Prog (TpuEff nD τ sig (Elt F) Λ₀ .tc) _) >>= k) Q := BI.Entails.refl _

theorem part17 {v556 v557 v558 v561 v569 v570 cst_349} {k} {Q : α → sProp 𝕄} :
    wpc c (k ⟨k0_pay50 v561 v569 v570 cst_349, k0_pay51 v556 v557 v558, k0_pay52 v556 v557 v558, k0_pay53 v558, k0_pay54 v556 v557, k0_pay55 v556 v557, k0_pay56 (F := F)⟩) Q ⊢ wpc c ((at0 (k0_part17 (F := F)) v556 v557 v558 v561 v569 v570 cst_349 : Prog (TpuEff nD τ sig (Elt F) Λ₀ .tc) _) >>= k) Q := BI.Entails.refl _

theorem part18 {v556 v557 v558 v609 v613 v615 v616} {k} {Q : α → sProp 𝕄} :
    wpc c (k ⟨k0_pay57 v609 v613 v615 v616, k0_pay58 v556 v557 v558, k0_pay59 v556 v557 v558, k0_pay60 v558, k0_pay61 v556 v557, k0_pay62 v556 v557⟩) Q ⊢ wpc c ((at0 (k0_part18 (F := F)) v556 v557 v558 v609 v613 v615 v616 : Prog (TpuEff nD τ sig (Elt F) Λ₀ .tc) _) >>= k) Q := BI.Entails.refl _

theorem part23 {v768 v769 v770 v799 v800} {k} {Q : α → sProp 𝕄} :
    wpc c (k ⟨k0_pay72 v799 v800, k0_pay73 v768 v769 v770, k0_pay74 v768 v769 v770, k0_pay75 v770, k0_pay77 v768 v769, k0_pay78 v768 v769⟩) Q ⊢ wpc c ((at0 (k0_part23 (F := F)) v768 v769 v770 v799 v800 : Prog (TpuEff nD τ sig (Elt F) Λ₀ .tc) _) >>= k) Q := BI.Entails.refl _

theorem part24 {v768 v769 v770 v837 v845 v846} {k} {Q : α → sProp 𝕄} :
    wpc c (k ⟨k0_pay79 v837 v845 v846, k0_pay80 v768 v769 v770, k0_pay81 v768 v769 v770, k0_pay82 v770, k0_pay83 v768 v769, k0_pay84 v768 v769, (Scalar.ofBits .f32 0x3F800000#32)⟩) Q ⊢ wpc c ((at0 (k0_part24 (F := F)) v768 v769 v770 v837 v845 v846 : Prog (TpuEff nD τ sig (Elt F) Λ₀ .tc) _) >>= k) Q := BI.Entails.refl _

theorem part27 {v940 v941 v942 v961 v962 cst_546} {k} {Q : α → sProp 𝕄} :
    wpc c (k ⟨k0_pay93 v961 v962 cst_546, k0_pay94 v940 v941 v942, k0_pay95 v940 v941 v942, k0_pay96 v940, k0_pay97 v941, k0_pay98 v942⟩) Q ⊢ wpc c ((at0 (k0_part27 (F := F)) v940 v941 v942 v961 v962 cst_546 : Prog (TpuEff nD τ sig (Elt F) Λ₀ .tc) _) >>= k) Q := BI.Entails.refl _

theorem part28 {v940 v941 v942 v1007 v1008 v1009} {k} {Q : α → sProp 𝕄} :
    wpc c (k ⟨k0_pay99 v1007 v1008 v1009, k0_pay100 v940 v941 v942, k0_pay101 v940 v941 v942⟩) Q ⊢ wpc c ((at0 (k0_part28 (F := F)) v940 v941 v942 v1007 v1008 v1009 : Prog (TpuEff nD τ sig (Elt F) Λ₀ .tc) _) >>= k) Q := BI.Entails.refl _

theorem part31 {v1112 v1113 v1114 v1117 v1121 v1123 v1124} {k} {Q : α → sProp 𝕄} :
    wpc c (k ⟨k0_pay111 v1117 v1121 v1123 v1124, k0_pay112 v1112 v1113 v1114, k0_pay113 v1112 v1113 v1114, k0_pay114 v1114, k0_pay115 v1112 v1113, k0_pay116 v1112 v1113⟩) Q ⊢ wpc c ((at0 (k0_part31 (F := F)) v1112 v1113 v1114 v1117 v1121 v1123 v1124 : Prog (TpuEff nD τ sig (Elt F) Λ₀ .tc) _) >>= k) Q := BI.Entails.refl _

theorem part32 {v1112 v1113 v1114 v1165 v1169 v1170} {k} {Q : α → sProp 𝕄} :
    wpc c (k ⟨k0_pay117 v1165 v1169 v1170, k0_pay118 v1112 v1113 v1114, k0_pay119 v1112 v1113 v1114, k0_pay120 v1114, k0_pay121 v1112 v1113⟩) Q ⊢ wpc c ((at0 (k0_part32 (F := F)) v1112 v1113 v1114 v1165 v1169 v1170 : Prog (TpuEff nD τ sig (Elt F) Λ₀ .tc) _) >>= k) Q := BI.Entails.refl _

theorem part38 {v1348 v1349 v1350 v1383 v1384 v1385} {k} {Q : α → sProp 𝕄} :
    wpc c (k ⟨k0_pay134 v1383 v1384 v1385, k0_pay135 v1348 v1349 v1350, k0_pay136 v1348 v1349 v1350⟩) Q ⊢ wpc c ((at0 (k0_part38 (F := F)) v1348 v1349 v1350 v1383 v1384 v1385 : Prog (TpuEff nD τ sig (Elt F) Λ₀ .tc) _) >>= k) Q := BI.Entails.refl _

theorem part39 {v1348 v1349 v1350} {k} {Q : α → sProp 𝕄} :
    wpc c (k ⟨k0_pay137 v1348 v1349 v1350, k0_pay138 v1348 v1349 v1350, k0_pay140 v1348 v1349, k0_pay141 v1348 v1349 v1350⟩) Q ⊢ wpc c ((at0 (k0_part39 (F := F)) v1348 v1349 v1350 : Prog (TpuEff nD τ sig (Elt F) Λ₀ .tc) _) >>= k) Q := BI.Entails.refl _

theorem part44 {v1579 v1580 v1581 v1600 v1604 v1605} {k} {Q : α → sProp 𝕄} :
    wpc c (k ⟨k0_pay153 v1600 v1604 v1605, k0_pay154 v1579 v1580 v1581, k0_pay155 v1579 v1580 v1581, k0_pay156 v1581, k0_pay157 v1579 v1580⟩) Q ⊢ wpc c ((at0 (k0_part44 (F := F)) v1579 v1580 v1581 v1600 v1604 v1605 : Prog (TpuEff nD τ sig (Elt F) Λ₀ .tc) _) >>= k) Q := BI.Entails.refl _

theorem part45 {v1579 v1580 v1581 v1648 v1651} {k} {Q : α → sProp 𝕄} :
    wpc c (k ⟨k0_pay158 v1648 v1651, k0_pay159 v1579 v1580 v1581, k0_pay160 v1579 v1580 v1581, k0_pay161 v1581, k0_pay162 v1579 v1580⟩) Q ⊢ wpc c ((at0 (k0_part45 (F := F)) v1579 v1580 v1581 v1648 v1651 : Prog (TpuEff nD τ sig (Elt F) Λ₀ .tc) _) >>= k) Q := BI.Entails.refl _

/-! ## The parts that load a block, or store one -/

/-- The second half of a fold, the arrived half row having been loaded already. -/
theorem fold_r2 {q s : ℕ} {t : ℕ} (hq : q < 2) (hs : s = slot c (2 - t)) {o2 o3 o4 : Fin 3 → ℕ} (h2 : o2 = ![s, 256 * q, 0])
    (h3 : o3 = ![t, 256 * q, 0]) (h4 : o4 = ![t, 256 * q, 0]) {i2 i3 i4 l2 l3 hx hm} {Q : α → sProp 𝕄}
    {w : Vec F S1x256x1024 .bf16 → Vec F S1x256x1024 .bf16 → Vec F S1x256x1024 .bf16} (hw : ∀ v z, w v z = addv (fun x => accR m t c (hb q x)) v)
    {k : Vec F S1x256x1024 .bf16 → Vec F S1x256x1024 .bf16 → PUnit → Prog (TpuEff nD τ sig (Elt F) Λ₀ .tc) α} :
    iprop(rPc c t q (RIN m c) ∗ pPc c s q (PARTS m c))
      ⊢ iprop((∀ v, ∀ z, iprop(rPc c t q (ROUT m c) ∗ pPc c s q (PARTS m c)) -∗ wpc c (k v z ⟨⟩) Q)
      -∗ wpc c (.op (.load (Memref.whole cc0_scratch1) (Rect.unit (s := S8x512x1024) o2 S1x256x1024.size i2).toLoadRect l2) fun v =>
          .op (.load (Memref.whole cc0_scratch2) (Rect.unit (s := S3x512x1024) o3 S1x256x1024.size i3).toLoadRect l3) fun z =>
          .op (.store (Memref.whole cc0_scratch2) (Rect.unit (s := S3x512x1024) o4 S1x256x1024.size i4) (w v z) Finset.univ hx hm) (k v z)) Q) := by
  unfold rPc pPc
  iintro ⟨Hr, Hp⟩ Hk
  iapply (load_gen c (mr := Memref.whole cc0_scratch1) (r := (Rect.unit (s := S8x512x1024) o2 S1x256x1024.size i2).toLoadRect) (S := half 8 s q) (f := PARTS m c) (v := fun x => PB m c s (hb q x)) (on_half (n := 8) hq h2 i2) (funext fun x => PARTS_half m hq c h2 i2 x)) $$ Hp
  iintro Hp
  iapply (load_gen c (mr := Memref.whole cc0_scratch2) (r := (Rect.unit (s := S3x512x1024) o3 S1x256x1024.size i3).toLoadRect) (S := half 3 t q) (f := RIN m c) (v := fun x => accR m t c (hb q x)) (on_half (n := 3) hq h3 i3) (funext fun x => RIN_half m hq c h3 i3 x)) $$ Hr
  iintro Hr
  iapply (store_gen c (mr := Memref.whole cc0_scratch2) (r := Rect.unit (s := S3x512x1024) o4 S1x256x1024.size i4) (S := half 3 t q) (f := RIN m c) (G := ROUT m c) ((View.set_slice_whole _ _).trans (set_half (n := 3) hq h4 i4))
    ((hw _ _).trans (funext fun x => by subst hs; exact (ROUT_half m hq c h4 i4 x).symm))) $$ Hr
  iintro Hr
  iapply Hk
  isplitl [Hr] <;> iassumption

theorem dv_slot0 : xb m c = xb m (dv (slot c 0)) := by rw [show dv (slot c 0) = c by revert c; decide +kernel]

theorem part3 {v5 v16 v23 v25 v27 v56} {k} {Q : α → sProp 𝕄} :
    env m K ⊢ iprop(Ctl (F := F) c 4 0 -∗ xPc c (slot c 0) 0 fullShare.right.right (XALL m) -∗ xPc c (slot c 0) 1 fullShare (XALL m) -∗ (Ctl (F := F) c 6 0 -∗ xRow c (slot c 0) fullShare.right.right (XALL m) -∗ wpc c (k ⟨k0_pay7 v23 (xb m (dv (slot c 0))), k0_pay8 v25 (xb m (dv (slot c 0))), k0_pay9 v27 (xb m (dv (slot c 0))), k0_pay10 v27 (xb m (dv (slot c 0))), k0_pay11 v23 v25 (xb m (dv (slot c 0))), k0_pay12 (F := F)⟩) Q)
      -∗ wpc c ((at0 (k0_part3 (F := F)) c v5 v16 v23 v25 v27 v56 : Prog (TpuEff nD τ sig (Elt F) Λ₀ .tc) _) >>= k) Q) := by
  unfold at0; rw [k0_part3_eq_skeleton]; unfold k0_part3_skel
  simp only [Prog.lift, Prog.bind_op, Prog.bind_ret, Prog.pure_eq_ret]
  iintro #HE HC Hx Hy Hk
  ihave Hy := (Entails.of_eq (xPc_split c _ _ _ _)) $$ Hy
  icases Hy with ⟨Hy, Hy'⟩
  ihave Hy' := (Entails.of_eq (xPc_split c _ _ _ _)) $$ Hy'
  icases Hy' with ⟨Hy1, Hy2⟩
  iapply (send_agR m K c (i := 4) (a := 0) (by decide) (by decide) (dev5_eq c) ?_ ?_ (q := 1) rfl (by decide) (s := slot c 0) (by revert c; decide +kernel) (off5_eq c) (off5_eq c)) $$ HE HC Hy
  · rfl
  · revert c; decide +kernel
  iintro HC
  iapply (send_agL m K c (i := 5) (a := 0) (by decide) (by decide) (dev6_eq c) ?_ ?_ (q := 1) rfl (p := fullShare.right.left) (A := iprop(emp)) rfl rfl (by decide) (s := slot c 0) (by revert c; decide +kernel) (off5_eq c) (off5_eq c)) $$ HE HC Hy1 []
  · rfl
  · revert c; decide +kernel
  · iempintro
  iintro HC
  ihave Hrow : xRow c (slot c 0) fullShare.right.right (XALL m) $$ [Hx Hy2]
  · unfold xRow; isplitl [Hx] <;> iassumption
  iapply (load_x m c (s := slot c 0) (off6_eq c 0)) $$ Hrow
  iintro Hrow
  iapply Hk $$ HC Hrow

theorem part6 {v5 v29 v84 v85 v86 v102 v118 v134 v150 v166 v182 v183} {f} (hw : k0_pay23 v29 v84 v85 v86 v102 v118 v134 v150 v166 v182 v183 = PB m c (slot c 0)) {k : PUnit → Prog (TpuEff nD τ sig (Elt F) Λ₀ .tc) α} {Q : α → sProp 𝕄} :
    env m K ⊢ iprop(Ctl (F := F) c 6 0 -∗ pRow c (slot c 0) f -∗ (Ctl (F := F) c 6 0 -∗ pRow c (slot c 0) (PARTS m c) -∗ wpc c (k ⟨⟩) Q)
      -∗ wpc c (at0 (k0_part6 (F := F)) c v5 v29 v84 v85 v86 v102 v118 v134 v150 v166 v182 v183 >>= k) Q) := by
  unfold at0; rw [k0_part6_eq_skeleton]; unfold k0_part6_skel
  simp only [Prog.lift, Prog.bind_op, Prog.bind_ret, Prog.pure_eq_ret]
  iintro #HE HC Hp Hk
  iapply (put_p m c (s := slot c 0) (off6_eq c 0) (off6_eq c 0) (hw := fun _ => hw)) $$ Hp
  iintro %v Hp
  iapply Hk $$ HC Hp

theorem part10 {v5 v23 v25 v27} {k} {Q : α → sProp 𝕄} :
    env m K ⊢ iprop(Ctl (F := F) c 10 4 -∗ xRow c (slot c 7) fullShare.right (XALL m) -∗ (Ctl (F := F) c 10 4 -∗ xRow c (slot c 7) fullShare.right (XALL m) -∗ wpc c (k ⟨k0_pay25 v23 (xb m (dv (slot c 7))), k0_pay26 v25 (xb m (dv (slot c 7))), k0_pay27 v27 (xb m (dv (slot c 7))), k0_pay28 v23 v25 v27 (xb m (dv (slot c 7))), k0_pay29 v23 v25 v27 (xb m (dv (slot c 7)))⟩) Q)
      -∗ wpc c ((at0 (k0_part10 (F := F)) c v5 v23 v25 v27 : Prog (TpuEff nD τ sig (Elt F) Λ₀ .tc) _) >>= k) Q) := by
  unfold at0; rw [k0_part10_eq_skeleton]; unfold k0_part10_skel
  simp only [Prog.lift, Prog.bind_op, Prog.bind_ret, Prog.pure_eq_ret]
  iintro #HE HC Hrow Hk
  iapply (load_x m c (s := slot c 7) (off6_eq c 7)) $$ Hrow
  iintro Hrow
  iapply Hk $$ HC Hrow

theorem part13 {v5 v10 v29 v338 v354 v370 v386 v402 v418 v434 v437 v441 v445} {f} (hw : k0_pay41 v29 v338 v354 v370 v386 v402 v418 v434 v437 v441 v445 = PB m c (slot c 7)) {k : PUnit → Prog (TpuEff nD τ sig (Elt F) Λ₀ .tc) α} {Q : α → sProp 𝕄} :
    env m K ⊢ iprop(Ctl (F := F) c 10 4 -∗ pRow c (slot c 7) f -∗ (Ctl (F := F) c 10 5 -∗ pRow c (slot c 7) (PARTS m c) -∗ xPc c (slot c 6) 0 fullShare (XALL m) -∗ wpc c (k ⟨⟩) Q)
      -∗ wpc c (at0 (k0_part13 (F := F)) c v5 v10 v29 v338 v354 v370 v386 v402 v418 v434 v437 v441 v445 >>= k) Q) := by
  unfold at0; rw [k0_part13_eq_skeleton]; unfold k0_part13_skel
  simp only [Prog.lift, Prog.bind_op, Prog.bind_ret, Prog.pure_eq_ret]
  iintro #HE HC Hp Hk
  iapply (put_p m c (s := slot c 7) (off6_eq c 7) (off6_eq c 7) (hw := fun _ => hw)) $$ Hp
  iintro %v Hp
  iapply (recv m K c (i := 10) (a := 4) (by decide) (by decide) (by decide) (R := xPc c (slot c 6) 0 fullShare (XALL m)) rfl ?_ ?_) $$ HE HC
  · clear hw; revert c; decide +kernel
  · rfl
  iintro ⟨HC, Hx⟩
  iapply Hk $$ HC Hp Hx

theorem part16 {v5 v16 v23 v25 v27} {k} {Q : α → sProp 𝕄} :
    env m K ⊢ iprop(Ctl (F := F) c 13 7 -∗ xRow c (slot c 6) fullShare.right (XALL m) -∗ (Ctl (F := F) c 14 8 -∗ xRow c (slot c 6) fullShare.right (XALL m) -∗ xPc c (slot c 2) 1 fullShare.right (XALL m) -∗ wpc c (k ⟨k0_pay43 v23 (xb m (dv (slot c 6))), k0_pay44 v25 (xb m (dv (slot c 6))), k0_pay45 v27 (xb m (dv (slot c 6))), k0_pay46 v27 (xb m (dv (slot c 6))), k0_pay48 v23 v25 (xb m (dv (slot c 6))), k0_pay49 v23 v25 (xb m (dv (slot c 6))), (constant S512x128 .f32 0x00000000#32)⟩) Q)
      -∗ wpc c ((at0 (k0_part16 (F := F)) c v5 v16 v23 v25 v27 : Prog (TpuEff nD τ sig (Elt F) Λ₀ .tc) _) >>= k) Q) := by
  unfold at0; rw [k0_part16_eq_skeleton]; unfold k0_part16_skel
  simp only [Prog.lift, Prog.bind_op, Prog.bind_ret, Prog.pure_eq_ret]
  iintro #HE HC Hrow Hk
  iapply (recv m K c (i := 13) (a := 7) (by decide) (by decide) (by decide) (R := iprop(xPc c (slot c 2) 1 fullShare (XALL m) ∗ emp)) rfl ?_ ?_) $$ HE HC
  · revert c; decide +kernel
  · rfl
  iintro ⟨HC, Hx, -⟩
  ihave Hx := (Entails.of_eq (xPc_split c _ _ _ _)) $$ Hx
  icases Hx with ⟨Hx, Hx'⟩
  iapply (send_agL m K c (i := 13) (a := 8) (by decide) (by decide) (dev14_eq c) ?_ ?_ (q := 1) rfl (p := fullShare.left) (A := iprop(emp)) rfl rfl (by decide) (s := slot c 2) (by revert c; decide +kernel) (off10_eq c 2) (off10_eq c 2)) $$ HE HC Hx []
  · rfl
  · revert c; decide +kernel
  · iempintro
  iintro HC
  iapply (load_x m c (s := slot c 6) (off6_eq c 6)) $$ Hrow
  iintro Hrow
  iapply Hk $$ HC Hrow Hx'

theorem part19 {v5 v10 v29 v556 v557 v558 v574 v590 v606 v622 v638 v654 v657 v661 v662} {f} (hw : k0_pay63 v29 v556 v557 v558 v574 v590 v606 v622 v638 v654 v657 v661 v662 = PB m c (slot c 6)) {k : PUnit → Prog (TpuEff nD τ sig (Elt F) Λ₀ .tc) α} {Q : α → sProp 𝕄} :
    env m K ⊢ iprop(Ctl (F := F) c 14 8 -∗ pRow c (slot c 6) f -∗ (Ctl (F := F) c 14 8 -∗ pRow c (slot c 6) (PARTS m c) -∗ wpc c (k ⟨⟩) Q)
      -∗ wpc c (at0 (k0_part19 (F := F)) c v5 v10 v29 v556 v557 v558 v574 v590 v606 v622 v638 v654 v657 v661 v662 >>= k) Q) := by
  unfold at0; rw [k0_part19_eq_skeleton]; unfold k0_part19_skel
  simp only [Prog.lift, Prog.bind_op, Prog.bind_ret, Prog.pure_eq_ret]
  iintro #HE HC Hp Hk
  iapply (put_p m c (s := slot c 6) (off6_eq c 6) (off6_eq c 6) (hw := fun _ => hw)) $$ Hp
  iintro %v Hp
  iapply Hk $$ HC Hp

theorem part22 {v5 v23 v25 v27} {k} {Q : α → sProp 𝕄} :
    env m K ⊢ iprop(Ctl (F := F) c 15 12 -∗ xPc c (slot c 3) 0 fullShare.right (XALL m) -∗ xPc c (slot c 3) 1 fullShare (XALL m) -∗ (Ctl (F := F) c 16 12 -∗ xRow c (slot c 3) fullShare.right (XALL m) -∗ wpc c (k ⟨k0_pay65 v23 (xb m (dv (slot c 3))), k0_pay66 v25 (xb m (dv (slot c 3))), k0_pay67 v27 (xb m (dv (slot c 3))), k0_pay68 v23 v25 v27 (xb m (dv (slot c 3))), k0_pay70 v23 v25 v27 (xb m (dv (slot c 3))), k0_pay71 v23 v25 (xb m (dv (slot c 3)))⟩) Q)
      -∗ wpc c ((at0 (k0_part22 (F := F)) c v5 v23 v25 v27 : Prog (TpuEff nD τ sig (Elt F) Λ₀ .tc) _) >>= k) Q) := by
  unfold at0; rw [k0_part22_eq_skeleton]; unfold k0_part22_skel
  simp only [Prog.lift, Prog.bind_op, Prog.bind_ret, Prog.pure_eq_ret]
  iintro #HE HC Hz Hx Hk
  ihave Hx := (Entails.of_eq (xPc_split c _ _ _ _)) $$ Hx
  icases Hx with ⟨Hx, Hx'⟩
  iapply (send_agL m K c (i := 15) (a := 12) (by decide) (by decide) (dev16_eq c) ?_ ?_ (q := 1) rfl (p := fullShare.left) (A := iprop(emp)) rfl rfl (by decide) (s := slot c 3) (by revert c; decide +kernel) (off10_eq c 3) (off10_eq c 3)) $$ HE HC Hx []
  · rfl
  · revert c; decide +kernel
  · iempintro
  iintro HC
  ihave Hrow : xRow c (slot c 3) fullShare.right (XALL m) $$ [Hz Hx']
  · unfold xRow; isplitl [Hz] <;> iassumption
  iapply (load_x m c (s := slot c 3) (off6_eq c 3)) $$ Hrow
  iintro Hrow
  iapply Hk $$ HC Hrow

theorem part25 {v5 v10 v29 v786 v802 v818 v834 v850 v866 v882 v885 v889 v891 cst_500} {f} (hw : k0_pay85 v29 v786 v802 v818 v834 v850 v866 v882 v885 v889 v891 cst_500 = PB m c (slot c 3)) {k} {Q : α → sProp 𝕄} :
    env m K ⊢ iprop(Ctl (F := F) c 16 12 -∗ pRow c (slot c 3) f -∗ (∀ r, Ctl (F := F) c 17 12 -∗ pPc c (slot c 3) 1 (PARTS m c) -∗ wpc c (k r) Q)
      -∗ wpc c ((at0 (k0_part25 (F := F)) c v5 v10 v29 v786 v802 v818 v834 v850 v866 v882 v885 v889 v891 cst_500 : Prog (TpuEff nD τ sig (Elt F) Λ₀ .tc) _) >>= k) Q) := by
  unfold at0; rw [k0_part25_eq_skeleton]; unfold k0_part25_skel
  simp only [Prog.lift, Prog.bind_op, Prog.bind_ret, Prog.pure_eq_ret]
  iintro #HE HC Hp Hk
  iapply (put_p m c (s := slot c 3) (off6_eq c 3) (off6_eq c 3) (hw := fun _ => hw)) $$ Hp
  iintro %v Hp
  unfold pRow
  icases Hp with ⟨Hp, Hp'⟩
  iapply (send_rsR0 m K c (i := 16) (a := 12) (by decide) (by decide) (dev17_eq c) ?_ ?_ (q := 0) rfl (by decide) (by decide) (s := slot c 3) rfl (off8_eq c 3) rfl) $$ HE HC Hp
  · rfl
  · clear hw; revert c; decide +kernel
  iintro HC
  iapply Hk $$ HC Hp'

theorem part26 {v5 v23 v25 v27 v922} {k} {Q : α → sProp 𝕄} :
    env m K ⊢ iprop(Ctl (F := F) c 17 12 -∗ pPc c (slot c 3) 1 (PARTS m c) -∗ xRow c (slot c 5) fullShare (XALL m) -∗ (Ctl (F := F) c 18 12 -∗ xRow c (slot c 5) fullShare (XALL m) -∗ wpc c (k ⟨k0_pay87 v23 (xb m (dv (slot c 5))), k0_pay88 v25 (xb m (dv (slot c 5))), k0_pay89 v27 (xb m (dv (slot c 5))), k0_pay90 v23 v25 v27 (xb m (dv (slot c 5))), k0_pay91 v27 (xb m (dv (slot c 5))), k0_pay92 v23 v25 (xb m (dv (slot c 5))), (Scalar.ofBits .f32 0x3DB504F3#32)⟩) Q)
      -∗ wpc c ((at0 (k0_part26 (F := F)) c v5 v23 v25 v27 v922 : Prog (TpuEff nD τ sig (Elt F) Λ₀ .tc) _) >>= k) Q) := by
  unfold at0; rw [k0_part26_eq_skeleton]; unfold k0_part26_skel
  simp only [Prog.lift, Prog.bind_op, Prog.bind_ret, Prog.pure_eq_ret]
  iintro #HE HC Hp Hrow Hk
  iapply (send_rsR0 m K c (i := 17) (a := 12) (by decide) (by decide) (dev18_eq c) ?_ ?_ (q := 1) rfl (by decide) (by decide) (s := slot c 3) rfl (off10_eq c 3) rfl) $$ HE HC Hp
  · rfl
  · revert c; decide +kernel
  iintro HC
  iapply (load_x m c (s := slot c 5) (off6_eq c 5)) $$ Hrow
  iintro Hrow
  iapply Hk $$ HC Hrow

theorem part29 {v5 v16 v29 v940 v941 v942 v958 v974 v990 v1006 v1022 v1038 v1054} {f} (hw : k0_pay102 v29 v940 v941 v942 v958 v974 v990 v1006 v1022 v1038 v1054 = PB m c (slot c 5)) {k : PUnit → Prog (TpuEff nD τ sig (Elt F) Λ₀ .tc) α} {Q : α → sProp 𝕄} :
    env m K ⊢ iprop(Ctl (F := F) c 18 12 -∗ pRow c (slot c 5) f -∗ (Ctl (F := F) c 18 12 -∗ pRow c (slot c 5) (PARTS m c) -∗ wpc c (k ⟨⟩) Q)
      -∗ wpc c (at0 (k0_part29 (F := F)) c v5 v16 v29 v940 v941 v942 v958 v974 v990 v1006 v1022 v1038 v1054 >>= k) Q) := by
  unfold at0; rw [k0_part29_eq_skeleton]; unfold k0_part29_skel
  simp only [Prog.lift, Prog.bind_op, Prog.bind_ret, Prog.pure_eq_ret]
  iintro #HE HC Hp Hk
  iapply (put_p m c (s := slot c 5) (off6_eq c 5) (off6_eq c 5) (hw := fun _ => hw)) $$ Hp
  iintro %v Hp
  iapply Hk $$ HC Hp

theorem part30 {v5 v16 v23 v25 v27} {k} {Q : α → sProp 𝕄} :
    env m K ⊢ iprop(Ctl (F := F) c 18 12 -∗ pRow c (slot c 5) (PARTS m c) -∗ xRow c (slot c 2) fullShare.right (XALL m) -∗ (Ctl (F := F) c 20 12 -∗ xRow c (slot c 2) fullShare.right (XALL m) -∗ wpc c (k ⟨k0_pay104 v23 (xb m (dv (slot c 2))), k0_pay105 v25 (xb m (dv (slot c 2))), k0_pay106 v27 (xb m (dv (slot c 2))), k0_pay107 v27 (xb m (dv (slot c 2))), k0_pay108 v23 v25 (xb m (dv (slot c 2))), k0_pay109 v23 v25 (xb m (dv (slot c 2))), k0_pay110 (F := F)⟩) Q)
      -∗ wpc c ((at0 (k0_part30 (F := F)) c v5 v16 v23 v25 v27 : Prog (TpuEff nD τ sig (Elt F) Λ₀ .tc) _) >>= k) Q) := by
  unfold at0; rw [k0_part30_eq_skeleton]; unfold k0_part30_skel
  simp only [Prog.lift, Prog.bind_op, Prog.bind_ret, Prog.pure_eq_ret]
  iintro #HE HC Hp Hrow Hk
  unfold pRow
  icases Hp with ⟨Hp, Hp'⟩
  iapply (send_rsL0 m K c (i := 18) (a := 12) (by decide) (by decide) (dev19_eq c) ?_ ?_ (q := 0) rfl (by decide) (by decide) (s := slot c 5) rfl (off8_eq c 5) rfl) $$ HE HC Hp
  · rfl
  · revert c; decide +kernel
  iintro HC
  iapply (send_rsL0 m K c (i := 19) (a := 12) (by decide) (by decide) (dev20_eq c) ?_ ?_ (q := 1) rfl (by decide) (by decide) (s := slot c 5) rfl (off10_eq c 5) rfl) $$ HE HC Hp'
  · rfl
  · revert c; decide +kernel
  iintro HC
  iapply (load_x m c (s := slot c 2) (off6_eq c 2)) $$ Hrow
  iintro Hrow
  iapply Hk $$ HC Hrow

theorem part33 {v5 v10 v29 v1112 v1113 v1114 v1130 v1146 v1162 v1178 v1194 v1210 v1213 v1216} {f} (hw : k0_pay122 v29 v1112 v1113 v1114 v1130 v1146 v1162 v1178 v1194 v1210 v1213 v1216 = PB m c (slot c 2)) {k} {Q : α → sProp 𝕄} :
    env m K ⊢ iprop(Ctl (F := F) c 20 12 -∗ pRow c (slot c 2) f -∗ (∀ r, Ctl (F := F) c 20 12 -∗ pRow c (slot c 2) (PARTS m c) -∗ wpc c (k r) Q)
      -∗ wpc c ((at0 (k0_part33 (F := F)) c v5 v10 v29 v1112 v1113 v1114 v1130 v1146 v1162 v1178 v1194 v1210 v1213 v1216 : Prog (TpuEff nD τ sig (Elt F) Λ₀ .tc) _) >>= k) Q) := by
  unfold at0; rw [k0_part33_eq_skeleton]; unfold k0_part33_skel
  simp only [Prog.lift, Prog.bind_op, Prog.bind_ret, Prog.pure_eq_ret]
  iintro #HE HC Hp Hk
  iapply (put_p m c (s := slot c 2) (off6_eq c 2) (off6_eq c 2) (hw := fun _ => hw)) $$ Hp
  iintro %v Hp
  iapply Hk $$ HC Hp

theorem part37 {v23 v25 v27 v1340 c8_i32_755} {k} {Q : α → sProp 𝕄} :
    env m K ⊢ iprop(Ctl (F := F) c 22 16 -∗ xRow c (slot c 4) fullShare (XALL m) -∗ (Ctl (F := F) c 22 16 -∗ xRow c (slot c 4) fullShare (XALL m) -∗ wpc c (k ⟨k0_pay126 v23 (xb m (dv (slot c 4))), k0_pay127 v25 (xb m (dv (slot c 4))), k0_pay128 v27 (xb m (dv (slot c 4))), k0_pay129 v23 v25 v27 (xb m (dv (slot c 4))), k0_pay130 v23 v25 v27 (xb m (dv (slot c 4))), k0_pay131 v23 (xb m (dv (slot c 4))), k0_pay132 v25 (xb m (dv (slot c 4))), k0_pay133 v27 (xb m (dv (slot c 4)))⟩) Q)
      -∗ wpc c ((at0 (k0_part37 (F := F)) c v23 v25 v27 v1340 c8_i32_755 : Prog (TpuEff nD τ sig (Elt F) Λ₀ .tc) _) >>= k) Q) := by
  unfold at0; rw [k0_part37_eq_skeleton]; unfold k0_part37_skel
  simp only [Prog.lift, Prog.bind_op, Prog.bind_ret, Prog.pure_eq_ret]
  iintro #HE HC Hrow Hk
  iapply (load_x m c (s := slot c 4) (off6_eq c 4)) $$ Hrow
  iintro Hrow
  iapply Hk $$ HC Hrow

theorem part40 {v5 v16 v29 v1366 v1382 v1398 v1414 v1430 v1446 v1462 v1473 v1475} {f} (hw : k0_pay142 v29 v1366 v1382 v1398 v1414 v1430 v1446 v1462 v1473 v1475 = PB m c (slot c 4)) {k : PUnit → Prog (TpuEff nD τ sig (Elt F) Λ₀ .tc) α} {Q : α → sProp 𝕄} :
    env m K ⊢ iprop(Ctl (F := F) c 22 16 -∗ pRow c (slot c 4) f -∗ dAny (F := F) (nb c 4) -∗ (Ctl (F := F) c 23 16 -∗ wpc c (k ⟨⟩) Q)
      -∗ wpc c (at0 (k0_part40 (F := F)) c v5 v16 v29 v1366 v1382 v1398 v1414 v1430 v1446 v1462 v1473 v1475 >>= k) Q) := by
  unfold at0; rw [k0_part40_eq_skeleton]; unfold k0_part40_skel
  simp only [Prog.lift, Prog.bind_op, Prog.bind_ret, Prog.pure_eq_ret]
  iintro #HE HC Hp Hd Hk
  iapply (put_p m c (s := slot c 4) (off6_eq c 4) (off6_eq c 4) (hw := fun _ => hw)) $$ Hp
  iintro %v Hp
  iapply (send_direct m K c (i := 22) (a := 16) (by decide) (by decide) (dev23_eq c) ?_ ?_ rfl (s := slot c 4) rfl (off13_eq c)) $$ HE HC Hp Hd
  · rfl
  · clear hw; revert c; decide +kernel
  iintro HC
  iapply Hk $$ HC

theorem part43 {v5 v23 v25 v27} {k} {Q : α → sProp 𝕄} :
    env m K ⊢ iprop(Ctl (F := F) c 24 18 -∗ lPc c 0 1 (LOUT m c) -∗ xRow c (slot c 1) fullShare.right (XALL m) -∗ (Ctl (F := F) c 25 18 -∗ xRow c (slot c 1) fullShare.right (XALL m) -∗ wpc c (k ⟨k0_pay146 v23 (xb m (dv (slot c 1))), k0_pay147 v25 (xb m (dv (slot c 1))), k0_pay148 v27 (xb m (dv (slot c 1))), k0_pay149 v23 v25 v27 (xb m (dv (slot c 1))), k0_pay150 v27 (xb m (dv (slot c 1))), k0_pay151 v23 v25 (xb m (dv (slot c 1))), k0_pay152 v23 v25 (xb m (dv (slot c 1)))⟩) Q)
      -∗ wpc c ((at0 (k0_part43 (F := F)) c v5 v23 v25 v27 : Prog (TpuEff nD τ sig (Elt F) Λ₀ .tc) _) >>= k) Q) := by
  unfold at0; rw [k0_part43_eq_skeleton]; unfold k0_part43_skel
  simp only [Prog.lift, Prog.bind_op, Prog.bind_ret, Prog.pure_eq_ret]
  iintro #HE HC Hx Hrow Hk
  iapply (send_rsL m K c (i := 24) (a := 18) (by decide) (by decide) (dev25_eq c) ?_ ?_ (q := 1) rfl (t := 0) (by decide) (by decide) rfl rfl) $$ HE HC Hx
  · rfl
  · revert c; decide +kernel
  iintro HC
  iapply (load_x m c (s := slot c 1) (off6_eq c 1)) $$ Hrow
  iintro Hrow
  iapply Hk $$ HC Hrow

theorem part46 {v5 v10 v29 v1597 v1613 v1629 v1645 v1661 v1677 v1693 v1696 v1697} {f} (hw : k0_pay163 v29 v1597 v1613 v1629 v1645 v1661 v1677 v1693 v1696 v1697 = PB m c (slot c 1)) {k} {Q : α → sProp 𝕄} :
    env m K ⊢ iprop(Ctl (F := F) c 25 18 -∗ pRow c (slot c 1) f -∗ (∀ r, Ctl (F := F) c 25 19 -∗ pRow c (slot c 1) (PARTS m c) -∗ rPc c 1 0 (RIN m c) -∗ wpc c (k ⟨k0_pay164 (fun x => accR m 1 c (hb 0 x)), r⟩) Q)
      -∗ wpc c ((at0 (k0_part46 (F := F)) c v5 v10 v29 v1597 v1613 v1629 v1645 v1661 v1677 v1693 v1696 v1697 : Prog (TpuEff nD τ sig (Elt F) Λ₀ .tc) _) >>= k) Q) := by
  unfold at0; rw [k0_part46_eq_skeleton]; unfold k0_part46_skel
  simp only [Prog.lift, Prog.bind_op, Prog.bind_ret, Prog.pure_eq_ret]
  iintro #HE HC Hp Hk
  iapply (put_p m c (s := slot c 1) (off6_eq c 1) (off6_eq c 1) (hw := fun _ => hw)) $$ Hp
  iintro %v Hp
  iapply (recv m K c (i := 25) (a := 18) (by decide) (by decide) (by decide) (R := rPc c 1 0 (RIN m c)) rfl ?_ ?_) $$ HE HC
  · clear hw; revert c; decide +kernel
  · rfl
  iintro ⟨HC, Hr⟩
  unfold rPc
  iapply (load_gen c (mr := Memref.whole cc0_scratch2) (r := (Rect.unit (s := S3x512x1024) ![1, 0, 0] S1x256x1024.size inb_S3x512x1024_S1x256x1024_1_0_0).toLoadRect) (S := half 3 1 0) (f := RIN m c)
    (v := fun x => accR m 1 c (hb 0 x)) (on_half (n := 3) (q := 0) (by decide) rfl _) (funext fun x => RIN_half m (q := 0) (by decide) c rfl _ x)) $$ Hr
  iintro Hr
  iapply Hk $$ HC Hp Hr

theorem part47 {v10 v1730 : BitVec 32} {k : PUnit → Prog (TpuEff nD τ sig (Elt F) Λ₀ .tc) α} {Q : α → sProp 𝕄} :
    env m K ⊢ iprop(Ctl (F := F) c 25 19 -∗ rPc c 1 0 (RIN m c) -∗ pPc c (slot c 1) 0 (PARTS m c) -∗ (Ctl (F := F) c 26 19 -∗ pPc c (slot c 1) 0 (PARTS m c) -∗ wpc c (k ⟨⟩) Q)
      -∗ wpc c (at0 (k0_part47 (F := F)) c v10 (k0_pay164 (fun x => accR m 1 c (hb 0 x))) v1730 >>= k) Q) := by
  unfold at0; rw [k0_part47_eq_skeleton]; unfold k0_part47_skel
  simp only [Prog.lift, Prog.bind_op, Prog.bind_ret, Prog.pure_eq_ret]
  iintro #HE HC Hr Hp Hk
  iapply (fold_r2 m c (s := slot c 1) (q := 0) (t := 1) (by decide) rfl (off11_eq c 1) rfl rfl (hw := fun v _ => (fold_eq _ v : k0_pay165 (k0_pay164 _) v = _))) $$ [Hr Hp]
  · isplitl [Hr] <;> iassumption
  iintro %v %z ⟨Hr, Hp⟩
  iapply (send_rsR m K c (i := 25) (a := 19) (by decide) (by decide) (dev26_eq c) ?_ ?_ (q := 0) rfl (t := 1) (by decide) (by decide) rfl rfl) $$ HE HC Hr
  · rfl
  · revert c; decide +kernel
  iintro HC
  iapply Hk $$ HC Hp

theorem part2 {v5 v10 v16} {f} {k} {Q : α → sProp 𝕄} :
    env m K ⊢ iprop(Ctl (F := F) c 2 0 -∗ (((c : Thread nD τ).loc cc0_stg2_0) ↦{fullShare} stg2 m c) -∗ (((c : Thread nD τ).loc cc0_stg0_0) ↦{fullShare} stg0 m c) -∗ xRow c (slot c 0) fullShare f -∗ dAny (F := F) (nb c 0) -∗ (∀ r, Ctl (F := F) c 4 0 -∗ (((c : Thread nD τ).loc cc0_stg2_0) ↦{fullShare} stg2 m c) -∗ (((c : Thread nD τ).loc cc0_stg0_0) ↦{fullShare} stg0 m c) -∗ xPc c (slot c 0) 0 fullShare.right.right (XALL m) -∗ xPc c (slot c 0) 1 fullShare (XALL m) -∗ wpc c (k ⟨wo m c, r⟩) Q)
      -∗ wpc c ((at0 (k0_part2 (F := F)) c v5 v10 v16 : Prog (TpuEff nD τ sig (Elt F) Λ₀ .tc) _) >>= k) Q) := by
  unfold at0; rw [k0_part2_eq_skeleton]; unfold k0_part2_skel
  simp only [Prog.lift, Prog.bind_op, Prog.bind_ret, Prog.pure_eq_ret]
  iintro #HE HC H2 H0 Hx Hd Hk
  iapply (load_w (r := cc0_stg2_0) c (mr := Memref.whole cc0_stg2_0) (rr := (Rect.unit (s := S1024x1024) ![0, 0] S1024x1024.size inb_S1024x1024_S1024x1024_0_0).toLoadRect) (f := stg2 m c) rfl) $$ H2
  iintro H2
  iapply (load_w (r := cc0_stg0_0) c (mr := Memref.whole cc0_stg0_0) (rr := (Rect.unit (s := S1x512x1024) ![0, 0, 0] S1x512x1024.size inb_S1x512x1024_S1x512x1024_0_0_0).toLoadRect) (f := stg0 m c) rfl) $$ H0
  iintro H0
  iapply (put_x m c (s := slot c 0) (off1_eq c) (off1_eq c) (hw := fun _ => (dv_slot0 m c : xb m c = _))) $$ Hx
  iintro %v Hx
  unfold xRow
  icases Hx with ⟨Hx, Hy⟩
  ihave Hx := (Entails.of_eq (xPc_split c _ _ _ _)) $$ Hx
  icases Hx with ⟨Hx, Hx'⟩
  ihave Hx' := (Entails.of_eq (xPc_split c _ _ _ _)) $$ Hx'
  icases Hx' with ⟨Hx', Hx2⟩
  iapply (send_agR m K c (i := 2) (a := 0) (by decide) (by decide) (dev3_eq c) ?_ ?_ (q := 0) rfl (by decide) (s := slot c 0) (by revert c; decide +kernel) (off3_eq c) (off3_eq c)) $$ HE HC Hx
  · rfl
  · revert c; decide +kernel
  iintro HC
  iapply (send_agL m K c (i := 3) (a := 0) (by decide) (by decide) (dev4_eq c) ?_ ?_ (q := 0) rfl (p := fullShare.right.left) (A := dAny (nb c 0)) rfl rfl (by decide) (s := slot c 0) (by revert c; decide +kernel) (off3_eq c) (off3_eq c)) $$ HE HC Hx' Hd
  · rfl
  · revert c; decide +kernel
  iintro HC
  iapply Hk $$ HC H2 H0 Hx2 Hy

end parts

end Cert.Ring8
-- ==== Proof.Ends.lean ====
/-
# The two ends of the body

Before the barrier the scratch arrays are cut into rows, all of which but the device's own block are given to its two
neighbours; after the last wait all the rows are at home again and are put together.
-/
module

public import proofs.«01_k».proof.Proof.Compute

@[expose] public section

set_option maxRecDepth 65536

noncomputable section

namespace Cert.Ring8

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 58 → ℕ)

omit [FloatOps F] in
theorem bigSep_img {I J : Type} [DecidableEq I] [DecidableEq J] {s : Finset I} {g : I → J} (h : Set.InjOn g s) (Φ : J → sProp 𝕄) :
    bigSep (s.image g) Φ = bigSep s (fun i => Φ (g i)) := Finset.fold_image h

/-! ## The cells of a device by their use -/

theorem own_img : ∀ c : Dev nD, Finset.Ico 6 64 = (Finset.Ico 0 27).image (fun b => sno (sOrd b))
    ∪ ((Finset.Ico 0 27).image (fun b => pno (psrc c (rOrd b)) (rOrd b)) ∪ {62, 63, 20 + 2 * slot c 0, 21 + 2 * slot c 0}) := by decide +kernel
theorem own_dis : ∀ c : Dev nD, Disjoint ((Finset.Ico 0 27).image (fun b => sno (sOrd b)))
    ((Finset.Ico 0 27).image (fun b => pno (psrc c (rOrd b)) (rOrd b)) ∪ {62, 63, 20 + 2 * slot c 0, 21 + 2 * slot c 0}) := by decide +kernel
theorem own_dis' : ∀ c : Dev nD, Disjoint ((Finset.Ico 0 27).image (fun b => pno (psrc c (rOrd b)) (rOrd b)))
    {62, 63, 20 + 2 * slot c 0, 21 + 2 * slot c 0} := by decide +kernel
theorem sno_inj : ∀ a : Fin 27, ∀ b : Fin 27, sno (sOrd a) = sno (sOrd b) → a = b := by decide +kernel
theorem sOrd_inj : ∀ a : Fin 27, ∀ b : Fin 27, sOrd a = sOrd b → a = b := by decide +kernel
theorem rOrd_inj : ∀ a : Fin 27, ∀ b : Fin 27, rOrd a = rOrd b → a = b := by decide +kernel
theorem pno_inj : ∀ c : Dev nD, ∀ a : Fin 27, ∀ b : Fin 27, pno (psrc c (rOrd a)) (rOrd a) = pno (psrc c (rOrd b)) (rOrd b) → a = b := by decide +kernel
theorem sOrd_img : Finset.Ico 2 29 = (Finset.Ico 0 27).image sOrd := by decide +kernel
theorem rOrd_img : Finset.Ico 2 29 = (Finset.Ico 0 27).image rOrd := by decide +kernel
theorem own_fresh : ∀ c : Dev nD, (62 : ℕ) ∉ ({63, 20 + 2 * slot c 0, 21 + 2 * slot c 0} : Finset ℕ) ∧ (63 : ℕ) ∉ ({20 + 2 * slot c 0, 21 + 2 * slot c 0} : Finset ℕ)
    ∧ 20 + 2 * slot c 0 ∉ ({21 + 2 * slot c 0} : Finset ℕ) := by decide +kernel

theorem injOn_of {g : ℕ → ℕ} (h : ∀ a : Fin 27, ∀ b : Fin 27, g a = g b → a = b) : Set.InjOn g (Finset.Ico 0 27 : Finset ℕ) := by
  intro a ha b hb e
  have ha' := (Finset.mem_Ico.mp (Finset.mem_coe.mp ha)).2
  have hb' := (Finset.mem_Ico.mp (Finset.mem_coe.mp hb)).2
  exact congrArg Fin.val (h ⟨a, ha'⟩ ⟨b, hb'⟩ e)

omit [FloatOps F] in
/-- The 58 cells of a device: its sources', its arrivals', the two barriers and the two that nothing credits. -/
theorem own_eq (c : Dev nD) (Φ : ℕ → sProp 𝕄) :
    (bigSep Finset.univ fun k : Fin 58 => Φ (6 + k))
      = iprop((bigSep (Finset.Ico 0 27) fun b => Φ (sno (sOrd b))) ∗ (bigSep (Finset.Ico 0 27) fun b => Φ (pno (psrc c (rOrd b)) (rOrd b)))
          ∗ Φ 62 ∗ Φ 63 ∗ Φ (20 + 2 * slot c 0) ∗ Φ (21 + 2 * slot c 0)) := by
  have h0 : (bigSep Finset.univ fun k : Fin 58 => Φ (6 + k)) = bigSep (Finset.Ico 6 64) Φ := by
    rw [show Finset.Ico 6 64 = Finset.univ.image (fun k : Fin 58 => 6 + k.val) by decide +kernel]
    exact (bigSep_img (fun a _ b _ e => Fin.ext (by have e' : 6 + a.val = 6 + b.val := e; omega)) Φ).symm
  have e1 := bigSep_union (own_dis c) (Φ := Φ)
  have e2 := bigSep_union (own_dis' c) (Φ := Φ)
  rw [h0, own_img c]
  refine e1.trans ?_
  rw [e2, bigSep_img (injOn_of sno_inj), bigSep_img (injOn_of (g := fun b => pno (psrc c (rOrd b)) (rOrd b)) (pno_inj c)),
    sep_ins (own_fresh c).1, sep_ins (own_fresh c).2.1, sep_ins (own_fresh c).2.2, bigSep_singleton]
  rfl

/-! ## Whole arrays and their rows -/

omit [FloatOps F] in
theorem rows8 (c : Dev nD) (Φ : ℕ → sProp 𝕄) : bigSep (Finset.range 8) Φ = iprop(Φ (slot c 0) ∗ Φ (slot c 1) ∗ Φ (slot c 2) ∗ Φ (slot c 3)
    ∗ Φ (slot c 4) ∗ Φ (slot c 5) ∗ Φ (slot c 6) ∗ Φ (slot c 7)) :=
  bigSep_eq_bigSepL_of_eq [slot c 0, slot c 1, slot c 2, slot c 3, slot c 4, slot c 5, slot c 6, slot c 7]
    (by revert c; decide) (by revert c; decide) Φ
omit [FloatOps F] in
theorem rows3 (Φ : ℕ → sProp 𝕄) : bigSep (Finset.range 3) Φ = iprop(Φ 0 ∗ Φ 1 ∗ Φ 2) :=
  bigSep_eq_bigSepL_of_eq [0, 1, 2] (by decide) (by decide) Φ

theorem cover (n : ℕ) : (Finset.range n).biUnion (row n) = Finset.univ := by
  ext i; simp only [Finset.mem_biUnion, Finset.mem_univ, iff_true, Finset.mem_range, mem_row]; exact ⟨_, (i 0).isLt, rfl⟩

section whole
omit [FloatOps F]
theorem x_whole (c : Dev nD) (f : FVec F S8x512x1024 .bf16) :
    (((c : Thread nD τ).loc cc0_scratch0) ↦{fullShare} (f : Buf (Elt F) ((c : Thread nD τ).loc cc0_scratch0)) : sProp 𝕄)
      = bigSep (Finset.range 8) fun s => xRow c s fullShare f := by
  simp only [xRow_pt]
  refine (congrArg (fun S => (((c : Thread nD τ).loc cc0_scratch0) ↦[S]{fullShare} (f : Buf (Elt F) ((c : Thread nD τ).loc cc0_scratch0)) : sProp 𝕄)) (cover 8).symm).trans ?_
  exact pointsTo_biUnion (ℓ := (c : Thread nD τ).loc cc0_scratch0) (Finset.range 8) (fun s => row 8 s) (fun t _ t' _ h => row_disjoint h)
theorem p_whole (c : Dev nD) (f : FVec F S8x512x1024 .bf16) :
    (((c : Thread nD τ).loc cc0_scratch1) ↦{fullShare} (f : Buf (Elt F) ((c : Thread nD τ).loc cc0_scratch1)) : sProp 𝕄)
      = bigSep (Finset.range 8) fun s => pRow c s f := by
  simp only [pRow_pt]
  refine (congrArg (fun S => (((c : Thread nD τ).loc cc0_scratch1) ↦[S]{fullShare} (f : Buf (Elt F) ((c : Thread nD τ).loc cc0_scratch1)) : sProp 𝕄)) (cover 8).symm).trans ?_
  exact pointsTo_biUnion (ℓ := (c : Thread nD τ).loc cc0_scratch1) (Finset.range 8) (fun s => row 8 s) (fun t _ t' _ h => row_disjoint h)
theorem r_whole (c : Dev nD) (f : FVec F S3x512x1024 .bf16) :
    (((c : Thread nD τ).loc cc0_scratch2) ↦{fullShare} (f : Buf (Elt F) ((c : Thread nD τ).loc cc0_scratch2)) : sProp 𝕄)
      = bigSep (Finset.range 3) fun s => rRow c s f := by
  simp only [rRow_pt]
  refine (congrArg (fun S => (((c : Thread nD τ).loc cc0_scratch2) ↦[S]{fullShare} (f : Buf (Elt F) ((c : Thread nD τ).loc cc0_scratch2)) : sProp 𝕄)) (cover 3).symm).trans ?_
  exact pointsTo_biUnion (ℓ := (c : Thread nD τ).loc cc0_scratch2) (Finset.range 3) (fun s => row 3 s) (fun t _ t' _ h => row_disjoint h)
theorem l_whole (c : Dev nD) (f : FVec F S3x512x1024 .bf16) :
    (((c : Thread nD τ).loc cc0_scratch3) ↦{fullShare} (f : Buf (Elt F) ((c : Thread nD τ).loc cc0_scratch3)) : sProp 𝕄)
      = bigSep (Finset.range 3) fun s => lRow c s f := by
  simp only [lRow_pt]
  refine (congrArg (fun S => (((c : Thread nD τ).loc cc0_scratch3) ↦[S]{fullShare} (f : Buf (Elt F) ((c : Thread nD τ).loc cc0_scratch3)) : sProp 𝕄)) (cover 3).symm).trans ?_
  exact pointsTo_biUnion (ℓ := (c : Thread nD τ).loc cc0_scratch3) (Finset.range 3) (fun s => row 3 s) (fun t _ t' _ h => row_disjoint h)

/-- Rows held at two contents are the whole at some. -/
theorem r_join (c : Dev nD) (f g : FVec F S3x512x1024 .bf16) : iprop(rRow c 0 f ∗ rRow c 1 f ∗ rRow c 2 g)
    ⊢ (iprop(∃ h : Buf (Elt F) ((c : Thread nD τ).loc cc0_scratch2), ((c : Thread nD τ).loc cc0_scratch2) ↦{fullShare} h) : sProp 𝕄) := by
  classical
  have e0 : ∀ s, s ≠ 2 → rRow c s f = rRow c s (fun i => if (i 0).val = 2 then g i else f i) := fun s hs => by
    rw [rRow_pt, rRow_pt]
    refine pointsTo_congr fun i hi => ?_
    have h := mem_row.mp hi
    exact (if_neg (by rw [h]; exact hs)).symm
  have e2 : rRow c 2 g = rRow c 2 (fun i => if (i 0).val = 2 then g i else f i) := by
    rw [rRow_pt, rRow_pt]
    refine pointsTo_congr fun i hi => ?_
    exact (if_pos (mem_row.mp hi)).symm
  rw [e0 0 (by decide), e0 1 (by decide), e2, ← rows3 (fun s => rRow c s _), ← r_whole]
  iintro H; iexists _; iexact H
theorem l_join (c : Dev nD) (f g : FVec F S3x512x1024 .bf16) : iprop(lRow c 0 f ∗ lRow c 1 f ∗ lRow c 2 g)
    ⊢ (iprop(∃ h : Buf (Elt F) ((c : Thread nD τ).loc cc0_scratch3), ((c : Thread nD τ).loc cc0_scratch3) ↦{fullShare} h) : sProp 𝕄) := by
  classical
  have e0 : ∀ s, s ≠ 2 → lRow c s f = lRow c s (fun i => if (i 0).val = 2 then g i else f i) := fun s hs => by
    rw [lRow_pt, lRow_pt]
    refine pointsTo_congr fun i hi => ?_
    have h := mem_row.mp hi
    exact (if_neg (by rw [h]; exact hs)).symm
  have e2 : lRow c 2 g = lRow c 2 (fun i => if (i 0).val = 2 then g i else f i) := by
    rw [lRow_pt, lRow_pt]
    refine pointsTo_congr fun i hi => ?_
    exact (if_pos (mem_row.mp hi)).symm
  rw [e0 0 (by decide), e0 1 (by decide), e2, ← rows3 (fun s => lRow c s _), ← l_whole]
  iintro H; iexists _; iexact H
end whole

/-! ## The barrier's payloads -/

theorem toR_list : toR = [2, 4, 6, 7, 10, 11, 16, 17, 20, 21, 25, 26].toFinset := by decide
theorem toL_list : toL = [3, 5, 8, 9, 12, 13, 14, 15, 18, 19, 23, 24, 27, 28].toFinset := by decide
theorem back_R : ∀ c : Dev nD, ∀ j ∈ toR, pdst (pdst c 0) j = c := by decide +kernel
theorem back_L : ∀ c : Dev nD, ∀ j ∈ toL, pdst (pdst c 1) j = c := by decide +kernel

omit [FloatOps F] in
theorem barPay_0 (c : Dev nD) : barPay (F := F) (pdst c 0) 0 = iprop(
    (∃ f, xPc c (slot c 7) 0 fullShare f) ∗ (∃ f, xPc c (slot c 7) 1 fullShare f) ∗ (∃ f, xPc c (slot c 6) 0 fullShare f) ∗ (∃ f, xPc c (slot c 6) 1 fullShare f)
    ∗ (∃ f, xPc c (slot c 5) 0 fullShare f) ∗ (∃ f, xPc c (slot c 5) 1 fullShare f)
    ∗ (∃ f, rPc c 0 0 f) ∗ (∃ f, rPc c 0 1 f) ∗ (∃ f, rPc c 1 0 f) ∗ (∃ f, rPc c 1 1 f) ∗ (∃ f, rPc c 2 0 f) ∗ (∃ f, rPc c 2 1 f)) := by
  unfold barPay
  rw [if_pos rfl]
  exact (bigSep_congr fun j hj => by rw [back_R c j hj]).trans (bigSep_eq_bigSepL_of_eq _ toR_list (by decide) _)
omit [FloatOps F] in
theorem barPay_1 (c : Dev nD) : barPay (F := F) (pdst c 1) 1 = iprop(
    (∃ f, xPc c (slot c 1) 0 fullShare f) ∗ (∃ f, xPc c (slot c 1) 1 fullShare f) ∗ (∃ f, xPc c (slot c 2) 0 fullShare f) ∗ (∃ f, xPc c (slot c 2) 1 fullShare f)
    ∗ (∃ f, xPc c (slot c 3) 0 fullShare f) ∗ (∃ f, xPc c (slot c 3) 1 fullShare f) ∗ (∃ f, xPc c (slot c 4) 0 fullShare f) ∗ (∃ f, xPc c (slot c 4) 1 fullShare f)
    ∗ (∃ f, lPc c 0 0 f) ∗ (∃ f, lPc c 0 1 f) ∗ (∃ f, lPc c 1 0 f) ∗ (∃ f, lPc c 1 1 f) ∗ (∃ f, lPc c 2 0 f) ∗ (∃ f, lPc c 2 1 f)) := by
  unfold barPay
  rw [if_neg (by decide)]
  exact (bigSep_congr fun j hj => by rw [back_L c j hj]).trans (bigSep_eq_bigSepL_of_eq _ toL_list (by decide) _)

/-- The scratch arrays on entry: the device's own row of the gathered array and what it pays its neighbours. -/
theorem entry_pay (c : Dev nD) (fx : FVec F S8x512x1024 .bf16) (fr fl : FVec F S3x512x1024 .bf16) :
    iprop((bigSep (Finset.range 8) fun s => xRow c s fullShare fx) ∗ (bigSep (Finset.range 3) fun s => rRow c s fr) ∗ bigSep (Finset.range 3) fun s => lRow c s fl)
      ⊢ (iprop(xRow c (slot c 0) fullShare fx ∗ barPay (pdst c 0) 0 ∗ barPay (pdst c 1) 1) : sProp 𝕄) := by
  rw [barPay_0, barPay_1, rows8 c, rows3, rows3]
  unfold xRow rRow lRow
  iintro ⟨⟨H0, ⟨A1, B1⟩, ⟨A2, B2⟩, ⟨A3, B3⟩, ⟨A4, B4⟩, ⟨A5, B5⟩, ⟨A6, B6⟩, A7, B7⟩, ⟨⟨R0, S0⟩, ⟨R1, S1⟩, R2, S2⟩, ⟨L0, M0⟩, ⟨L1, M1⟩, L2, M2⟩
  isplitl [H0]; · iexact H0
  isplitl [A7 B7 A6 B6 A5 B5 R0 S0 R1 S1 R2 S2]
  · isplitl [A7]; · iexists _; iexact A7
    isplitl [B7]; · iexists _; iexact B7
    isplitl [A6]; · iexists _; iexact A6
    isplitl [B6]; · iexists _; iexact B6
    isplitl [A5]; · iexists _; iexact A5
    isplitl [B5]; · iexists _; iexact B5
    isplitl [R0]; · iexists _; iexact R0
    isplitl [S0]; · iexists _; iexact S0
    isplitl [R1]; · iexists _; iexact R1
    isplitl [S1]; · iexists _; iexact S1
    isplitl [R2]; · iexists _; iexact R2
    iexists _; iexact S2
  · isplitl [A1]; · iexists _; iexact A1
    isplitl [B1]; · iexists _; iexact B1
    isplitl [A2]; · iexists _; iexact A2
    isplitl [B2]; · iexists _; iexact B2
    isplitl [A3]; · iexists _; iexact A3
    isplitl [B3]; · iexists _; iexact B3
    isplitl [A4]; · iexists _; iexact A4
    isplitl [B4]; · iexists _; iexact B4
    isplitl [L0]; · iexists _; iexact L0
    isplitl [M0]; · iexists _; iexact M0
    isplitl [L1]; · iexists _; iexact L1
    isplitl [M1]; · iexists _; iexact M1
    isplitl [L2]; · iexists _; iexact L2
    iexists _; iexact M2

theorem dst_split : Finset.Ico 2 29 = insert 22 (toR ∪ toL) := by decide
theorem dst_dis : Disjoint toR toL := by decide

/-- What the barrier brought is where the copies go. -/
theorem bar_dst (c : Dev nD) : iprop(barPay c 0 ∗ barPay c 1) ⊢ (bigSep (Finset.Ico 2 29) fun j => dstP j (pdst c j) : sProp 𝕄) := by
  have e : bigSep (toR ∪ toL) (fun j => dstP (F := F) j (pdst c j))
      = iprop((bigSep toR fun j => dstP j (pdst c j)) ∗ bigSep toL fun j => dstP j (pdst c j)) := bigSep_union dst_dis
  rw [dst_split, sep_ins (by decide), e]
  unfold barPay
  rw [if_pos rfl, if_neg (by decide)]
  iintro ⟨HA, HB⟩
  isplitr
  · unfold dstP
    rw [if_neg (by decide), if_neg (by decide), if_neg (by decide), if_neg (by decide)]; iempintro
  isplitl [HA] <;> iassumption

/-- The state after the barrier, from the tokens and what the barrier brought. -/
theorem ctl_start (c : Dev nD) : iprop((∃ W, owes (c : Thread nD τ) (oweFrom c 2) W) ∗ (bigSep (Finset.Ico 2 29) fun j => payTok c j)
    ∗ (bigSep (Finset.Ico 0 27) fun b => rcvTok c (rOrd b)) ∗ barPay c 0 ∗ barPay c 1) ⊢ Ctl (F := F) c 2 0 := by
  unfold Ctl
  rw [Finset.Ico_self 2, Finset.Ico_self 0, bigSep_empty, bigSep_empty]
  iintro ⟨HO, HT, HR, HB⟩
  isplitl [HO]; · iexact HO
  isplitl [HT]; · iexact HT
  isplitl [HB]; · iapply bar_dst; iexact HB
  isplitr; · iempintro
  isplitl [HR]; · iexact HR
  iempintro

/-- Once every copy is made and has arrived, the source waits are left. -/
theorem ctl_end (c : Dev nD) : Ctl (F := F) c 29 27 ⊢ iprop(Dra m c 0 ∗ bigSep (Finset.Ico 0 27) fun b => semVal (rcell c (rOrd b)) 0) := by
  unfold Ctl Dra
  rw [Finset.Ico_self 29, Finset.Ico_self 27, Finset.Ico_self 0, sOrd_img, bigSep_img (injOn_of sOrd_inj)]
  simp only [bigSep_empty]
  iintro ⟨HO, -, -, HS, -, HZ⟩
  isplitl [HO HS]
  · isplitl [HO]; · iexact HO
    isplitl [HS]; · iexact HS
    iempintro
  iexact HZ

/-! ## The rows at the end -/

theorem slot_8 (c : Dev nD) : slot c 8 = slot c 0 := by unfold slot; omega

omit [FloatOps F] in
theorem x_halves (e : Dev nD) (s : ℕ) (f : FVec F S8x512x1024 .bf16) :
    iprop((xPc e s 0 fullShare.left f ∗ xPc e s 1 fullShare.left f) ∗ xRow e s fullShare.right f) ⊢ xRow e s fullShare f := by
  unfold xRow
  rw [xPc_split e s 0 fullShare, xPc_split e s 1 fullShare]
  iintro ⟨⟨A, B⟩, C, D⟩
  isplitl [A C]
  · isplitl [A] <;> iassumption
  · isplitl [B] <;> iassumption
omit [FloatOps F] in
theorem x_un (e : Dev nD) (s : ℕ) (p : PosShare TreeShare) (f : FVec F S8x512x1024 .bf16) : xRow e s p f ⊢ (iprop(xPc e s 0 p f ∗ xPc e s 1 p f) : sProp 𝕄) :=
  BI.Entails.refl _
omit [FloatOps F] in
theorem x_thirds (e : Dev nD) (s : ℕ) (f : FVec F S8x512x1024 .bf16) :
    iprop((xPc e s 0 fullShare.left f ∗ xPc e s 1 fullShare.left f) ∗ (xPc e s 0 fullShare.right.left f ∗ xPc e s 1 fullShare.right.left f)
        ∗ xRow e s fullShare.right.right f) ⊢ xRow e s fullShare f := by
  iintro ⟨H, ⟨A, B⟩, HR⟩
  ihave HR := (x_un e s fullShare.right.right f) $$ HR
  icases HR with ⟨C, D⟩
  iapply (x_halves e s f)
  isplitl [H]; · iexact H
  unfold xRow
  rw [xPc_split e s 0 fullShare.right, xPc_split e s 1 fullShare.right]
  isplitl [A C]
  · isplitl [A] <;> iassumption
  · isplitl [B] <;> iassumption

theorem spay_list (c : Dev nD) : (bigSep (Finset.Ico 0 27) fun k => spay m (sOrd k) c) = iprop(
    xPc c (slot c 8) 0 fullShare.left (XALL m) ∗ xPc c (slot c 8) 1 fullShare.left (XALL m)
    ∗ xPc c (slot c 7) 0 fullShare.left (XALL m) ∗ xPc c (slot c 7) 1 fullShare.left (XALL m)
    ∗ xPc c (slot c 6) 0 fullShare.left (XALL m) ∗ xPc c (slot c 6) 1 fullShare.left (XALL m)
    ∗ xPc c (slot c 0) 0 fullShare.right.left (XALL m) ∗ xPc c (slot c 0) 1 fullShare.right.left (XALL m)
    ∗ xPc c (slot c 1) 0 fullShare.left (XALL m) ∗ xPc c (slot c 1) 1 fullShare.left (XALL m)
    ∗ xPc c (slot c 2) 0 fullShare.left (XALL m) ∗ xPc c (slot c 2) 1 fullShare.left (XALL m)
    ∗ xPc c (slot c 3) 0 fullShare.left (XALL m) ∗ xPc c (slot c 3) 1 fullShare.left (XALL m)
    ∗ pPc c (slot c 3) 0 (PARTS m c) ∗ pPc c (slot c 3) 1 (PARTS m c)
    ∗ rPc c 0 0 (ROUT m c) ∗ rPc c 0 1 (ROUT m c) ∗ rPc c 1 0 (ROUT m c) ∗ rPc c 1 1 (ROUT m c)
    ∗ pPc c (slot c 5) 0 (PARTS m c) ∗ pPc c (slot c 5) 1 (PARTS m c)
    ∗ lPc c 0 0 (LOUT m c) ∗ lPc c 0 1 (LOUT m c) ∗ lPc c 1 0 (LOUT m c) ∗ lPc c 1 1 (LOUT m c)
    ∗ (pPc c (slot c 4) 0 (PARTS m c) ∗ pPc c (slot c 4) 1 (PARTS m c))) :=
  bigSep_eq_bigSepL_of_eq (List.range 27) (by decide) (by decide) _

/-- The rows the device holds after its last wait, and the four scratch arrays they make up. -/
def held (c : Dev nD) : sProp 𝕄 :=
  iprop(xRow c (slot c 0) fullShare.right.right (XALL m) ∗ xRow c (slot c 7) fullShare.right (XALL m) ∗ xRow c (slot c 6) fullShare.right (XALL m)
    ∗ xRow c (slot c 3) fullShare.right (XALL m) ∗ xRow c (slot c 5) fullShare (XALL m) ∗ xRow c (slot c 2) fullShare.right (XALL m)
    ∗ xRow c (slot c 4) fullShare (XALL m) ∗ xRow c (slot c 1) fullShare.right (XALL m)
    ∗ pRow c (slot c 0) (PARTS m c) ∗ pRow c (slot c 7) (PARTS m c) ∗ pRow c (slot c 6) (PARTS m c) ∗ pRow c (slot c 2) (PARTS m c)
    ∗ pRow c (slot c 1) (PARTS m c) ∗ rRow c 2 (RIN m c) ∗ lRow c 2 (LIN m c))

def arrays (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

theorem exit_rows (c : Dev nD) : iprop((bigSep (Finset.Ico 0 27) fun k => spay m (sOrd k) c) ∗ held m c) ⊢ arrays (F := F) c := by
  rw [spay_list, slot_8]
  unfold held arrays
  iintro ⟨⟨Xa0, Xa1, Xb0, Xb1, Xc0, Xc1, Xd0, Xd1, Xe0, Xe1, Xf0, Xf1, Xg0, Xg1, P30, P31, R00, R01, R10, R11, P50, P51, L00, L01, L10, L11, P4⟩,
    X0, X7, X6, X3, X5, X2, X4, X1, P0, P7, P6, P2, P1, R2, L2⟩
  isplitl [Xa0 Xa1 Xb0 Xb1 Xc0 Xc1 Xd0 Xd1 Xe0 Xe1 Xf0 Xf1 Xg0 Xg1 X0 X7 X6 X3 X5 X2 X4 X1]
  · iexists (XALL m : FVec F S8x512x1024 .bf16)
    iapply (Entails.of_eq ((rows8 c (fun s => xRow c s fullShare (XALL m))).symm.trans (x_whole c (XALL m)).symm))
    isplitl [Xa0 Xa1 Xd0 Xd1 X0]
    · iapply x_thirds
      isplitl [Xa0 Xa1]
      · isplitl [Xa0] <;> iassumption
      isplitl [Xd0 Xd1]
      · isplitl [Xd0] <;> iassumption
      iexact X0
    isplitl [Xe0 Xe1 X1]
    · iapply x_halves
      isplitl [Xe0 Xe1]
      · isplitl [Xe0] <;> iassumption
      iexact X1
    isplitl [Xf0 Xf1 X2]
    · iapply x_halves
      isplitl [Xf0 Xf1]
      · isplitl [Xf0] <;> iassumption
      iexact X2
    isplitl [Xg0 Xg1 X3]
    · iapply x_halves
      isplitl [Xg0 Xg1]
      · isplitl [Xg0] <;> iassumption
      iexact X3
    isplitl [X4]; · iexact X4
    isplitl [X5]; · iexact X5
    isplitl [Xc0 Xc1 X6]
    · iapply x_halves
      isplitl [Xc0 Xc1]
      · isplitl [Xc0] <;> iassumption
      iexact X6
    · iapply x_halves
      isplitl [Xb0 Xb1]
      · isplitl [Xb0] <;> iassumption
      iexact X7
  isplitl [P30 P31 P50 P51 P4 P0 P7 P6 P2 P1]
  · iexists (PARTS m c : FVec F S8x512x1024 .bf16)
    iapply (Entails.of_eq ((rows8 c (fun s => pRow c s (PARTS m c))).symm.trans (p_whole c (PARTS m c)).symm))
    isplitl [P0]; · iexact P0
    isplitl [P1]; · iexact P1
    isplitl [P2]; · iexact P2
    isplitl [P30 P31]
    · unfold pRow; isplitl [P30] <;> iassumption
    isplitl [P4]
    · unfold pRow; iexact P4
    isplitl [P50 P51]
    · unfold pRow; isplitl [P50] <;> iassumption
    isplitl [P6]; · iexact P6
    iexact P7
  isplitl [R00 R01 R10 R11 R2]
  · iapply (r_join c (ROUT m c) (RIN m c))
    isplitl [R00 R01]
    · unfold rRow; isplitl [R00] <;> iassumption
    isplitl [R10 R11]
    · unfold rRow; isplitl [R10] <;> iassumption
    iexact R2
  · iapply (l_join c (LOUT m c) (LIN m c))
    isplitl [L00 L01]
    · unfold lRow; isplitl [L00] <;> iassumption
    isplitl [L10 L11]
    · unfold lRow; isplitl [L10] <;> iassumption
    iexact L2

end Cert.Ring8
-- ==== Proof.Body.lean ====
/-
# The whole body

The parts one after another: from the tokens of the launch, the staged blocks and the scratch arrays to the output block,
the scratch arrays again and every semaphore at zero.
-/
module

public import proofs.«01_k».proof.Proof.Ends

@[expose] public section

set_option maxRecDepth 65536

noncomputable section

namespace Cert.Ring8

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 58 → ℕ)

section run
variable {α : Type} (c : Dev nD)

omit [FloatOps F] in
theorem x_mk {e : Dev nD} {s : ℕ} {p : PosShare TreeShare} {f : FVec F S8x512x1024 .bf16} :
    xPc e s 0 p f ⊢ (iprop(xPc e s 1 p f -∗ xRow e s p f) : sProp 𝕄) := by
  iintro A B; unfold xRow; isplitl [A] <;> iassumption
omit [FloatOps F] in
theorem p_mk {e : Dev nD} {s : ℕ} {f : FVec F S8x512x1024 .bf16} : pPc e s 0 f ⊢ (iprop(pPc e s 1 f -∗ pRow e s f) : sProp 𝕄) := by
  iintro A B; unfold pRow; isplitl [A] <;> iassumption
omit [FloatOps F] in
theorem p_un {e : Dev nD} {s : ℕ} {f : FVec F S8x512x1024 .bf16} : pRow e s f ⊢ (iprop(pPc e s 0 f ∗ pPc e s 1 f) : sProp 𝕄) := BI.Entails.refl _
omit [FloatOps F] in
theorem r_mk {e : Dev nD} {s : ℕ} {f : FVec F S3x512x1024 .bf16} : rPc e s 0 f ⊢ (iprop(rPc e s 1 f -∗ rRow e s f) : sProp 𝕄) := by
  iintro A B; unfold rRow; isplitl [A] <;> iassumption
omit [FloatOps F] in
theorem l_mk {e : Dev nD} {s : ℕ} {f : FVec F S3x512x1024 .bf16} : lPc e s 0 f ⊢ (iprop(lPc e s 1 f -∗ lRow e s f) : sProp 𝕄) := by
  iintro A B; unfold lRow; isplitl [A] <;> iassumption

theorem env_un : env m K ⊢ (iprop(records m K ∗ levAts L lv) : sProp 𝕄) := BI.Entails.refl _

/-- The tokens of the launch for device `c`. -/
def start (c : Dev nD) : sProp 𝕄 :=
  iprop(dutyTok ER (pcell c 0) 0 (pd 0) ∗ dutyTok ER (pcell c 1) 0 (pd 1) ∗ dutyTok ER (pcell c 29) 0 (pd 29) ∗ dutyTok ER (pcell c 30) 0 (pd 30)
    ∗ cred (tallyAt (cell c 63) () 2) ∗ cred (tallyAt (cell c 62) () 2) ∗ atPos ER (cell c 63) 0 ∅ 0 ∗ atPos ER (cell c 62) 0 ∅ 0
    ∗ atPos ER (cell c (20 + 2 * slot c 0)) 0 ∅ 0 ∗ atPos ER (cell c (21 + 2 * slot c 0)) 0 ∅ 0
    ∗ (bigSep (Finset.Ico 2 29) fun j => payTok c j) ∗ bigSep (Finset.Ico 0 27) fun b => rcvTok c (rOrd b))

/-- The device reads its number, meets its two neighbours at the barrier and loads three of its weights. -/
theorem part1 {k : _ → Prog (TpuEff nD τ sig (Elt F) Λ₀ .tc) α} {Q : α → sProp 𝕄} :
    env m K ⊢ iprop((∃ W, owes (c : Thread nD τ) (oweFrom c 0) W) -∗ dutyTok ER (pcell c 0) 0 (pd 0) -∗ dutyTok ER (pcell c 1) 0 (pd 1)
      -∗ barPay (F := F) (pdst c 0) (pd 0) -∗ barPay (F := F) (pdst c 1) (pd 1) -∗ cred (tallyAt (cell c 63) () 2) -∗ atPos ER (cell c 63) 0 ∅ 0
      -∗ (((c : Thread nD τ).loc cc0_stg1_0) ↦{fullShare} stg1 m c) -∗ (((c : Thread nD τ).loc cc0_stg3_0) ↦{fullShare} stg3 m c)
      -∗ (((c : Thread nD τ).loc cc0_stg4_0) ↦{fullShare} stg4 m c)
      -∗ (∀ v5 v10 v16, (∃ W, owes (c : Thread nD τ) (oweFrom c 2) W) -∗ semVal (cell c 63) 0 -∗ barPay c 0 -∗ barPay c 1
        -∗ (((c : Thread nD τ).loc cc0_stg1_0) ↦{fullShare} stg1 m c) -∗ (((c : Thread nD τ).loc cc0_stg3_0) ↦{fullShare} stg3 m c)
        -∗ (((c : Thread nD τ).loc cc0_stg4_0) ↦{fullShare} stg4 m c) -∗ wpc c (k ⟨c, v5, v10, v16, wq m c, wk m c, wv m c⟩) Q)
      -∗ wpc c (at0 (k0_part1 (F := F)) >>= k) Q) := by
  unfold at0; rw [k0_part1_eq_skeleton]; unfold k0_part1_skel
  unfold wpc
  simp only [semSignalWord, semWaitWord, Prog.lift, Prog.bind_op, Prog.bind_ret, Prog.pure_eq_ret]
  rw [wp_deviceId]
  iintro #HE ⟨%W, HO⟩ Ht0 Ht1 Hb0 Hb1 Hc Hat H1 H3 H4 Hk
  ihave HE' := (env_un m K) $$ HE
  icases HE' with ⟨#HR, #HL⟩
  iapply (step_signal m K c (i := 0) (Or.inl (by decide)) (dev1_eq c) ?_ (W := W)) $$ [HO Ht0 Hb0]
  · rfl
  · isplitr; · iexact HR
    isplitl [HO]; · iexact HO
    isplitl [Ht0]; · iexact Ht0
    rw [if_pos (by decide)]; iexact Hb0
  iintro HO
  iapply (step_signal m K c (i := 1) (Or.inl (by decide)) (dev2_eq c) ?_ (W := W)) $$ [HO Ht1 Hb1]
  · rfl
  · isplitr; · iexact HR
    isplitl [HO]; · iexact HO
    isplitl [Ht1]; · iexact Ht1
    rw [if_pos (by decide)]; iexact Hb1
  iintro HO
  iapply (step_bar m K c (i := 2) (n := 63) (Or.inl ⟨rfl, rfl⟩) (wpE_semWait_eq 𝒱₀ (c : Thread nD τ) none Set.univ) ?_ ?_ (W := W)) $$ [HO Hc Hat]
  · rfl
  · rfl
  · isplitr; · iexact HR
    isplitr; · iexact HL
    isplitl [HO]; · iexact HO
    isplitl [Hc] <;> iassumption
  iintro ⟨HO, HZ, HB⟩
  ihave HB := (Entails.of_eq (if_pos (rfl : 63 = 63))) $$ HB
  icases HB with ⟨HB0, HB1⟩
  iapply (load_w (r := cc0_stg1_0) c (mr := Memref.whole cc0_stg1_0) (rr := (Rect.unit (s := S1024x1024) ![0, 0] S1024x1024.size inb_S1024x1024_S1024x1024_0_0).toLoadRect) (f := stg1 m c) rfl) $$ H1
  iintro H1
  iapply (load_w (r := cc0_stg3_0) c (mr := Memref.whole cc0_stg3_0) (rr := (Rect.unit (s := S1024x1024) ![0, 0] S1024x1024.size inb_S1024x1024_S1024x1024_0_0).toLoadRect) (f := stg3 m c) rfl) $$ H3
  iintro H3
  iapply (load_w (r := cc0_stg4_0) c (mr := Memref.whole cc0_stg4_0) (rr := (Rect.unit (s := S1024x1024) ![0, 0] S1024x1024.size inb_S1024x1024_S1024x1024_0_0).toLoadRect) (f := stg4 m c) rfl) $$ H4
  iintro H4
  iapply Hk $$ HO HZ HB0 HB1 H1 H3 H4

/-- The first sixty parts after the barrier. -/
theorem run60 {v5 v10 v16 : BitVec 32} {fx : FVec F S8x512x1024 .bf16} {f0 f1 f2 f3 f4 f5 f6 f7 : FVec F S8x512x1024 .bf16}
    {f : (cc0_stg5_0 : Ref sig .tc).ty.Contents (Elt F)}
    {k : (Σ' (_ : Dev nD) (_ : BitVec 32) (_ : BitVec 32), BitVec 32) → Prog (TpuEff nD τ sig (Elt F) Λ₀ .tc) α} {Q : α → sProp 𝕄} :
    env m K ⊢ iprop(Ctl (F := F) c 2 0 -∗ (((c : Thread nD τ).loc cc0_stg2_0) ↦{fullShare} stg2 m c) -∗ (((c : Thread nD τ).loc cc0_stg0_0) ↦{fullShare} stg0 m c)
      -∗ (((c : Thread nD τ).loc cc0_stg5_0) ↦{fullShare} f) -∗ xRow c (slot c 0) fullShare fx -∗ dAny (F := F) (nb c 0)
      -∗ pRow c (slot c 0) f0 -∗ pRow c (slot c 1) f1 -∗ pRow c (slot c 2) f2 -∗ pRow c (slot c 3) f3
      -∗ pRow c (slot c 4) f4 -∗ pRow c (slot c 5) f5 -∗ pRow c (slot c 6) f6 -∗ pRow c (slot c 7) f7
      -∗ (Dra m c 23 -∗ (bigSep (Finset.Ico 0 27) fun b => semVal (rcell c (rOrd b)) 0)
          -∗ (((c : Thread nD τ).loc cc0_stg2_0) ↦{fullShare} stg2 m c) -∗ (((c : Thread nD τ).loc cc0_stg0_0) ↦{fullShare} stg0 m c)
          -∗ (((c : Thread nD τ).loc cc0_stg5_0) ↦{fullShare} (OUT m c : (cc0_stg5_0 : Ref sig .tc).ty.Contents (Elt F))) -∗ dPt c (DBUF m c) -∗ held m c -∗ wpc c (k ⟨c, v5, v10, v16⟩) Q)
      -∗ wpc c (do
        let ⟨v29, v56⟩ : Σ' (v29 : FVec F S1024x1024 .bf16), BitVec 32 ← (at0 (k0_part2 (F := F)) c v5 v10 v16 : Prog (TpuEff nD τ sig (Elt F) Λ₀ .tc) _)
        let ⟨v84, v85, v86, v89, v90, v91⟩ : Σ' (v84 : FVec F S512x1024 .bf16) (v85 : FVec F S512x1024 .bf16) (v86 : FVec F S512x1024 .bf16) (v89 : FVec F S512x128 .bf16) (v90 : FVec F S512x512 .f32), FVec F S512x512 .f32 ← (at0 (k0_part3 (F := F)) c v5 v16 (wq m c) (wk m c) (wv m c) v56 : Prog (TpuEff nD τ sig (Elt F) Λ₀ .tc) _)
        let ⟨v102, v118, v134, v135, v136, v137, cst_82⟩ : Σ' (v102 : FVec F S512x128 .bf16) (v118 : FVec F S512x128 .bf16) (v134 : FVec F S512x128 .bf16) (v135 : FVec F S512x128 .bf16) (v136 : FVec F S512x128 .bf16) (v137 : FVec F S512x128 .bf16), FVec F S512x512 .f32 ← (at0 (k0_part4 (F := F)) v84 v85 v86 v89 v90 v91 : Prog (TpuEff nD τ sig (Elt F) Λ₀ .tc) _)
        let ⟨v150, v166, v182, v183⟩ : Σ' (v150 : FVec F S512x128 .bf16) (v166 : FVec F S512x128 .bf16) (v182 : FVec F S512x128 .bf16), FVec F S512x128 .bf16 ← (at0 (k0_part5 (F := F)) v84 v85 v86 v135 v136 v137 cst_82 : Prog (TpuEff nD τ sig (Elt F) Λ₀ .tc) _)
        (at0 (k0_part6 (F := F)) c v5 v29 v84 v85 v86 v102 v118 v134 v150 v166 v182 v183 : Prog (TpuEff nD τ sig (Elt F) Λ₀ .tc) _)
        (at0 (k0_part7 (F := F)) c v5 v10 : Prog (TpuEff nD τ sig (Elt F) Λ₀ .tc) _)
        let ⟨v280, c0_i32_172⟩ : Σ' (v280 : BitVec 32), BitVec 32 ← (at0 (k0_part8 (F := F)) c v5 v10 v16 : Prog (TpuEff nD τ sig (Elt F) Λ₀ .tc) _)
        (at0 (k0_part9 (F := F)) c v5 v10 v16 v280 c0_i32_172 : Prog (TpuEff nD τ sig (Elt F) Λ₀ .tc) _)
        let ⟨v320, v321, v322, v338, v354⟩ : Σ' (v320 : FVec F S512x1024 .bf16) (v321 : FVec F S512x1024 .bf16) (v322 : FVec F S512x1024 .bf16) (v338 : FVec F S512x128 .bf16), FVec F S512x128 .bf16 ← (at0 (k0_part10 (F := F)) c v5 (wq m c) (wk m c) (wv m c) : Prog (TpuEff nD τ sig (Elt F) Λ₀ .tc) _)
        let ⟨v370, v386, v397, v399⟩ : Σ' (v370 : FVec F S512x128 .bf16) (v386 : FVec F S512x128 .bf16) (v397 : FVec F S512x1 .f32), FVec F S512x128 .f32 ← (at0 (k0_part11 (F := F)) v320 v321 v322 : Prog (TpuEff nD τ sig (Elt F) Λ₀ .tc) _)
        let ⟨v402, v418, v434, v437, v441, v445⟩ : Σ' (v402 : FVec F S512x128 .bf16) (v418 : FVec F S512x128 .bf16) (v434 : FVec F S512x128 .bf16) (v437 : FVec F S512x128 .bf16) (v441 : FVec F S512x512 .f32), FVec F S512x1 .f32 ← (at0 (k0_part12 (F := F)) v320 v321 v322 v397 v399 : Prog (TpuEff nD τ sig (Elt F) Λ₀ .tc) _)
        (at0 (k0_part13 (F := F)) c v5 v10 v29 v338 v354 v370 v386 v402 v418 v434 v437 v441 v445 : Prog (TpuEff nD τ sig (Elt F) Λ₀ .tc) _)
        (at0 (k0_part14 (F := F)) c v5 v10 : Prog (TpuEff nD τ sig (Elt F) Λ₀ .tc) _)
        (at0 (k0_part15 (F := F)) c v5 v10 v16 : Prog (TpuEff nD τ sig (Elt F) Λ₀ .tc) _)
        let ⟨v556, v557, v558, v561, v569, v570, cst_349⟩ : Σ' (v556 : FVec F S512x1024 .bf16) (v557 : FVec F S512x1024 .bf16) (v558 : FVec F S512x1024 .bf16) (v561 : FVec F S512x128 .bf16) (v569 : FVec F S512x1 .f32) (v570 : FVec F S512x512 .bf16), FVec F S512x128 .f32 ← (at0 (k0_part16 (F := F)) c v5 v16 (wq m c) (wk m c) (wv m c) : Prog (TpuEff nD τ sig (Elt F) Λ₀ .tc) _)
        let ⟨v574, v590, v606, v609, v613, v615, v616⟩ : Σ' (v574 : FVec F S512x128 .bf16) (v590 : FVec F S512x128 .bf16) (v606 : FVec F S512x128 .bf16) (v609 : FVec F S512x128 .bf16) (v613 : FVec F S512x512 .f32) (v615 : FVec F S512x1 .f32), FVec F S512x1 .f32 ← (at0 (k0_part17 (F := F)) v556 v557 v558 v561 v569 v570 cst_349 : Prog (TpuEff nD τ sig (Elt F) Λ₀ .tc) _)
        let ⟨v622, v638, v654, v657, v661, v662⟩ : Σ' (v622 : FVec F S512x128 .bf16) (v638 : FVec F S512x128 .bf16) (v654 : FVec F S512x128 .bf16) (v657 : FVec F S512x128 .bf16) (v661 : FVec F S512x512 .f32), FVec F S512 .f32 ← (at0 (k0_part18 (F := F)) v556 v557 v558 v609 v613 v615 v616 : Prog (TpuEff nD τ sig (Elt F) Λ₀ .tc) _)
        (at0 (k0_part19 (F := F)) c v5 v10 v29 v556 v557 v558 v574 v590 v606 v622 v638 v654 v657 v661 v662 : Prog (TpuEff nD τ sig (Elt F) Λ₀ .tc) _)
        let c1_i32_427 : BitVec 32 ← (at0 (k0_part20 (F := F)) c v5 v10 : Prog (TpuEff nD τ sig (Elt F) Λ₀ .tc) _)
        (at0 (k0_part21 (F := F)) c v5 v10 v16 c1_i32_427 : Prog (TpuEff nD τ sig (Elt F) Λ₀ .tc) _)
        let ⟨v768, v769, v770, v786, v799, v800⟩ : Σ' (v768 : FVec F S512x1024 .bf16) (v769 : FVec F S512x1024 .bf16) (v770 : FVec F S512x1024 .bf16) (v786 : FVec F S512x128 .bf16) (v799 : FVec F S512x128 .f32), FVec F S512x128 .f32 ← (at0 (k0_part22 (F := F)) c v5 (wq m c) (wk m c) (wv m c) : Prog (TpuEff nD τ sig (Elt F) Λ₀ .tc) _)
        let ⟨v802, v818, v834, v837, v845, v846⟩ : Σ' (v802 : FVec F S512x128 .bf16) (v818 : FVec F S512x128 .bf16) (v834 : FVec F S512x128 .bf16) (v837 : FVec F S512x128 .bf16) (v845 : FVec F S512x1 .f32), FVec F S512x512 .bf16 ← (at0 (k0_part23 (F := F)) v768 v769 v770 v799 v800 : Prog (TpuEff nD τ sig (Elt F) Λ₀ .tc) _)
        let ⟨v850, v866, v882, v885, v889, v891, cst_500⟩ : Σ' (v850 : FVec F S512x128 .bf16) (v866 : FVec F S512x128 .bf16) (v882 : FVec F S512x128 .bf16) (v885 : FVec F S512x128 .bf16) (v889 : FVec F S512x512 .f32) (v891 : FVec F S512x1 .f32), F .f32 ← (at0 (k0_part24 (F := F)) v768 v769 v770 v837 v845 v846 : Prog (TpuEff nD τ sig (Elt F) Λ₀ .tc) _)
        let v922 : BitVec 32 ← (at0 (k0_part25 (F := F)) c v5 v10 v29 v786 v802 v818 v834 v850 v866 v882 v885 v889 v891 cst_500 : Prog (TpuEff nD τ sig (Elt F) Λ₀ .tc) _)
        let ⟨v940, v941, v942, v958, v961, v962, cst_546⟩ : Σ' (v940 : FVec F S512x1024 .bf16) (v941 : FVec F S512x1024 .bf16) (v942 : FVec F S512x1024 .bf16) (v958 : FVec F S512x128 .bf16) (v961 : FVec F S512x128 .bf16) (v962 : FVec F S512x512 .f32), F .f32 ← (at0 (k0_part26 (F := F)) c v5 (wq m c) (wk m c) (wv m c) v922 : Prog (TpuEff nD τ sig (Elt F) Λ₀ .tc) _)
        let ⟨v974, v990, v1006, v1007, v1008, v1009⟩ : Σ' (v974 : FVec F S512x128 .bf16) (v990 : FVec F S512x128 .bf16) (v1006 : FVec F S512x128 .bf16) (v1007 : FVec F S512x128 .bf16) (v1008 : FVec F S512x128 .bf16), FVec F S512x128 .bf16 ← (at0 (k0_part27 (F := F)) v940 v941 v942 v961 v962 cst_546 : Prog (TpuEff nD τ sig (Elt F) Λ₀ .tc) _)
        let ⟨v1022, v1038, v1054⟩ : Σ' (v1022 : FVec F S512x128 .bf16) (v1038 : FVec F S512x128 .bf16), FVec F S512x128 .bf16 ← (at0 (k0_part28 (F := F)) v940 v941 v942 v1007 v1008 v1009 : Prog (TpuEff nD τ sig (Elt F) Λ₀ .tc) _)
        (at0 (k0_part29 (F := F)) c v5 v16 v29 v940 v941 v942 v958 v974 v990 v1006 v1022 v1038 v1054 : Prog (TpuEff nD τ sig (Elt F) Λ₀ .tc) _)
        let ⟨v1112, v1113, v1114, v1117, v1121, v1123, v1124⟩ : Σ' (v1112 : FVec F S512x1024 .bf16) (v1113 : FVec F S512x1024 .bf16) (v1114 : FVec F S512x1024 .bf16) (v1117 : FVec F S512x128 .bf16) (v1121 : FVec F S512x512 .f32) (v1123 : FVec F S512x1 .f32), FVec F S512x1 .f32 ← (at0 (k0_part30 (F := F)) c v5 v16 (wq m c) (wk m c) (wv m c) : Prog (TpuEff nD τ sig (Elt F) Λ₀ .tc) _)
        let ⟨v1130, v1146, v1162, v1165, v1169, v1170⟩ : Σ' (v1130 : FVec F S512x128 .bf16) (v1146 : FVec F S512x128 .bf16) (v1162 : FVec F S512x128 .bf16) (v1165 : FVec F S512x128 .bf16) (v1169 : FVec F S512x512 .f32), FVec F S512 .f32 ← (at0 (k0_part31 (F := F)) v1112 v1113 v1114 v1117 v1121 v1123 v1124 : Prog (TpuEff nD τ sig (Elt F) Λ₀ .tc) _)
        let ⟨v1178, v1194, v1210, v1213, v1216⟩ : Σ' (v1178 : FVec F S512x128 .bf16) (v1194 : FVec F S512x128 .bf16) (v1210 : FVec F S512x128 .bf16) (v1213 : FVec F S512x128 .bf16), FVec F S512x512 .f32 ← (at0 (k0_part32 (F := F)) v1112 v1113 v1114 v1165 v1169 v1170 : Prog (TpuEff nD τ sig (Elt F) Λ₀ .tc) _)
        let v1254 : BitVec 32 ← (at0 (k0_part33 (F := F)) c v5 v10 v29 v1112 v1113 v1114 v1130 v1146 v1162 v1178 v1194 v1210 v1213 v1216 : Prog (TpuEff nD τ sig (Elt F) Λ₀ .tc) _)
        (at0 (k0_part34 (F := F)) c v5 v10 v1254 : Prog (TpuEff nD τ sig (Elt F) Λ₀ .tc) _)
        (at0 (k0_part35 (F := F)) c v5 v10 : Prog (TpuEff nD τ sig (Elt F) Λ₀ .tc) _)
        let ⟨v1340, c8_i32_755⟩ : Σ' (v1340 : BitVec 32), BitVec 32 ← (at0 (k0_part36 (F := F)) c v5 v10 : Prog (TpuEff nD τ sig (Elt F) Λ₀ .tc) _)
        let ⟨v1348, v1349, v1350, v1366, v1382, v1383, v1384, v1385⟩ : Σ' (v1348 : FVec F S512x1024 .bf16) (v1349 : FVec F S512x1024 .bf16) (v1350 : FVec F S512x1024 .bf16) (v1366 : FVec F S512x128 .bf16) (v1382 : FVec F S512x128 .bf16) (v1383 : FVec F S512x128 .bf16) (v1384 : FVec F S512x128 .bf16), FVec F S512x128 .bf16 ← (at0 (k0_part37 (F := F)) c (wq m c) (wk m c) (wv m c) v1340 c8_i32_755 : Prog (TpuEff nD τ sig (Elt F) Λ₀ .tc) _)
        let ⟨v1398, v1414, v1430⟩ : Σ' (v1398 : FVec F S512x128 .bf16) (v1414 : FVec F S512x128 .bf16), FVec F S512x128 .bf16 ← (at0 (k0_part38 (F := F)) v1348 v1349 v1350 v1383 v1384 v1385 : Prog (TpuEff nD τ sig (Elt F) Λ₀ .tc) _)
        let ⟨v1446, v1462, v1473, v1475⟩ : Σ' (v1446 : FVec F S512x128 .bf16) (v1462 : FVec F S512x128 .bf16) (v1473 : FVec F S512x1 .f32), FVec F S512x128 .f32 ← (at0 (k0_part39 (F := F)) v1348 v1349 v1350 : Prog (TpuEff nD τ sig (Elt F) Λ₀ .tc) _)
        (at0 (k0_part40 (F := F)) c v5 v16 v29 v1366 v1382 v1398 v1414 v1430 v1446 v1462 v1473 v1475 : Prog (TpuEff nD τ sig (Elt F) Λ₀ .tc) _)
        let v1537 : BitVec 32 ← (at0 (k0_part41 (F := F)) c v5 v16 : Prog (TpuEff nD τ sig (Elt F) Λ₀ .tc) _)
        (at0 (k0_part42 (F := F)) c v5 v16 v1537 : Prog (TpuEff nD τ sig (Elt F) Λ₀ .tc) _)
        let ⟨v1579, v1580, v1581, v1597, v1600, v1604, v1605⟩ : Σ' (v1579 : FVec F S512x1024 .bf16) (v1580 : FVec F S512x1024 .bf16) (v1581 : FVec F S512x1024 .bf16) (v1597 : FVec F S512x128 .bf16) (v1600 : FVec F S512x128 .bf16) (v1604 : FVec F S512x512 .f32), FVec F S512 .f32 ← (at0 (k0_part43 (F := F)) c v5 (wq m c) (wk m c) (wv m c) : Prog (TpuEff nD τ sig (Elt F) Λ₀ .tc) _)
        let ⟨v1613, v1629, v1645, v1648, v1651⟩ : Σ' (v1613 : FVec F S512x128 .bf16) (v1629 : FVec F S512x128 .bf16) (v1645 : FVec F S512x128 .bf16) (v1648 : FVec F S512x128 .bf16), FVec F S512x512 .f32 ← (at0 (k0_part44 (F := F)) v1579 v1580 v1581 v1600 v1604 v1605 : Prog (TpuEff nD τ sig (Elt F) Λ₀ .tc) _)
        let ⟨v1661, v1677, v1693, v1696, v1697⟩ : Σ' (v1661 : FVec F S512x128 .bf16) (v1677 : FVec F S512x128 .bf16) (v1693 : FVec F S512x128 .bf16) (v1696 : FVec F S512x128 .bf16), FVec F S512x512 .f32 ← (at0 (k0_part45 (F := F)) v1579 v1580 v1581 v1648 v1651 : Prog (TpuEff nD τ sig (Elt F) Λ₀ .tc) _)
        let ⟨v1729, v1730⟩ : Σ' (v1729 : FVec F S256x1024 .f32), BitVec 32 ← (at0 (k0_part46 (F := F)) c v5 v10 v29 v1597 v1613 v1629 v1645 v1661 v1677 v1693 v1696 v1697 : Prog (TpuEff nD τ sig (Elt F) Λ₀ .tc) _)
        (at0 (k0_part47 (F := F)) c v10 v1729 v1730 : Prog (TpuEff nD τ sig (Elt F) Λ₀ .tc) _)
        (at0 (k0_part48 (F := F)) c v5 v10 v16 : Prog (TpuEff nD τ sig (Elt F) Λ₀ .tc) _)
        (at0 (k0_part49 (F := F)) c v5 v16 : Prog (TpuEff nD τ sig (Elt F) Λ₀ .tc) _)
        (at0 (k0_part50 (F := F)) c v5 v16 : Prog (TpuEff nD τ sig (Elt F) Λ₀ .tc) _)
        (at0 (k0_part51 (F := F)) c v10 v16 : Prog (TpuEff nD τ sig (Elt F) Λ₀ .tc) _)
        (at0 (k0_part52 (F := F)) c v5 v16 : Prog (TpuEff nD τ sig (Elt F) Λ₀ .tc) _)
        (at0 (k0_part53 (F := F)) c v5 : Prog (TpuEff nD τ sig (Elt F) Λ₀ .tc) _)
        (at0 (k0_part54 (F := F)) c v5 : Prog (TpuEff nD τ sig (Elt F) Λ₀ .tc) _)
        (at0 (k0_part55 (F := F)) c v5 : Prog (TpuEff nD τ sig (Elt F) Λ₀ .tc) _)
        let v1998 : BitVec 32 ← (at0 (k0_part56 (F := F)) c v5 : Prog (TpuEff nD τ sig (Elt F) Λ₀ .tc) _)
        (at0 (k0_part57 (F := F)) c v5 v1998 : Prog (TpuEff nD τ sig (Elt F) Λ₀ .tc) _)
        (at0 (k0_part58 (F := F)) c v5 : Prog (TpuEff nD τ sig (Elt F) Λ₀ .tc) _)
        (at0 (k0_part59 (F := F)) v5 : Prog (TpuEff nD τ sig (Elt F) Λ₀ .tc) _)
        (at0 (k0_part60 (F := F)) c v5 : Prog (TpuEff nD τ sig (Elt F) Λ₀ .tc) _)
        k ⟨c, v5, v10, v16⟩) Q) := by
  iintro #HE HC S2 S0 S5 X0 D0 P0 P1 P2 P3 P4 P5 P6 P7 Hk

  iapply (part2 m K c) $$ HE HC S2 S0 X0 D0
  iintro %r2 HC S2 S0 X00 X01
  iapply (part3 m K c) $$ HE HC X00 X01
  iintro HC X0
  iapply (part4 c)
  iapply (part5 c)
  iapply (part6 m K c ?_) $$ HE HC P0
  · rfl
  iintro HC P0
  iapply (part7 m K c v5 v10) $$ HE HC
  iintro HC X70
  iapply (part8 m K c v5 v10 v16) $$ HE HC
  iintro %r8 HC X71 X10 D1
  rcases r8 with ⟨r8, r8'⟩
  iapply (part9 m K c v5 v10 v16) $$ HE HC X10 D1
  iintro HC X10 X11
  ihave X7 := x_mk $$ X70 X71
  iapply (part10 m K c) $$ HE HC X7
  iintro HC X7
  iapply (part11 c)
  iapply (part12 c)
  iapply (part13 m K c ?_) $$ HE HC P7
  · rfl
  iintro HC P7 X60
  iapply (part14 m K c v5 v10) $$ HE HC X60
  iintro HC X60 X61
  iapply (part15 m K c v5 v10 v16) $$ HE HC
  iintro HC X20
  ihave X6 := x_mk $$ X60 X61
  iapply (part16 m K c) $$ HE HC X6
  iintro HC X6 X21
  iapply (part17 c)
  iapply (part18 c)
  iapply (part19 m K c ?_) $$ HE HC P6
  · rfl
  iintro HC P6
  iapply (part20 m K c v5 v10) $$ HE HC
  iintro %r20 HC X50 X51 X30 D3
  iapply (part21 m K c v5 v10 v16) $$ HE HC X30 D3
  iintro HC X30 X31
  iapply (part22 m K c) $$ HE HC X30 X31
  iintro HC X3
  iapply (part23 c)
  iapply (part24 c)
  iapply (part25 m K c ?_) $$ HE HC P3
  · rfl
  iintro %r25 HC P31
  ihave X5 := x_mk $$ X50 X51
  iapply (part26 m K c) $$ HE HC P31 X5
  iintro HC X5
  iapply (part27 c)
  iapply (part28 c)
  iapply (part29 m K c ?_) $$ HE HC P5
  · rfl
  iintro HC P5
  ihave X2 := x_mk $$ X20 X21
  iapply (part30 m K c) $$ HE HC P5 X2
  iintro HC X2
  iapply (part31 c)
  iapply (part32 c)
  iapply (part33 m K c ?_) $$ HE HC P2
  · rfl
  iintro %r33 HC P2
  ihave P2 := p_un $$ P2
  icases P2 with ⟨P20, P21⟩
  iapply (part34 m K c v5 v10) $$ HE HC P20
  iintro HC R00 P20
  iapply (part35 m K c v5 v10) $$ HE HC R00 P21
  iintro HC R01 P21
  iapply (part36 m K c v5 v10) $$ HE HC R01
  iintro %r36 HC X40 D4 X41
  rcases r36 with ⟨r36, r36'⟩
  ihave X4 := x_mk $$ X40 X41
  iapply (part37 m K c) $$ HE HC X4
  iintro HC X4
  iapply (part38 c)
  iapply (part39 c)
  iapply (part40 m K c ?_) $$ HE HC P4 D4
  · rfl
  iintro HC
  ihave P6 := p_un $$ P6
  icases P6 with ⟨P60, P61⟩
  iapply (part41 m K c v5 v16) $$ HE HC P60
  iintro %r41 HC P60
  iapply (part42 m K c v5 v16) $$ HE HC P61
  iintro HC L01 P61
  ihave X1 := x_mk $$ X10 X11
  iapply (part43 m K c) $$ HE HC L01 X1
  iintro HC X1
  iapply (part44 c)
  iapply (part45 c)
  iapply (part46 m K c ?_) $$ HE HC P1
  · rfl
  iintro %r46 HC P1 R10
  ihave P1 := p_un $$ P1
  icases P1 with ⟨P10, P11⟩
  iapply (part47 m K c) $$ HE HC R10 P10
  iintro HC P10
  iapply (part48 m K c v5 v10 v16) $$ HE HC P11
  iintro HC P11
  ihave P7 := p_un $$ P7
  icases P7 with ⟨P70, P71⟩
  iapply (part49 m K c v5 v16) $$ HE HC P70
  iintro HC P70
  iapply (part50 m K c v5 v16) $$ HE HC P71
  iintro HC L11 P71
  iapply (part51 m K c v10 v16) $$ HE HC L11
  iintro HC R20 L20
  iapply (part52 m K c v5 v16) $$ HE HC
  iintro HC R21 L21 DB
  ihave HD := (ctl_end m c) $$ HC
  icases HD with ⟨HD, HZ⟩
  ihave R2 := r_mk $$ R20 R21
  ihave L2 := l_mk $$ L20 L21
  iapply (part53 m K c v5) $$ HE HD R2 L2 DB P0 S5
  iintro HD R2 L2 DB P0 S5
  iapply (part54 m K c v5) $$ HE HD
  iintro HD
  iapply (part55 m K c v5) $$ HE HD
  iintro HD
  iapply (part56 m K c v5) $$ HE HD
  iintro %r56 HD
  iapply (part57 m K c v5) $$ HE HD
  iintro HD
  iapply (part58 m K c v5) $$ HE HD
  iintro HD
  iapply (part59 m K c v5) $$ HE HD
  iintro HD
  iapply (part60 m K c v5) $$ HE HD
  iintro HD
  ihave P7 := p_mk $$ P70 P71
  ihave P6 := p_mk $$ P60 P61
  ihave P2 := p_mk $$ P20 P21
  ihave P1 := p_mk $$ P10 P11
  iapply Hk $$ HD HZ S2 S0 S5 DB [X0 X7 X6 X3 X5 X2 X4 X1 P0 P7 P6 P2 P1 R2 L2]
  unfold held
  isplitl [X0]; · iexact X0
  isplitl [X7]; · iexact X7
  isplitl [X6]; · iexact X6
  isplitl [X3]; · iexact X3
  isplitl [X5]; · iexact X5
  isplitl [X2]; · iexact X2
  isplitl [X4]; · iexact X4
  isplitl [X1]; · iexact X1
  isplitl [P0]; · iexact P0
  isplitl [P7]; · iexact P7
  isplitl [P6]; · iexact P6
  isplitl [P2]; · iexact P2
  isplitl [P1]; · iexact P1
  isplitl [R2]; · iexact R2
  iexact L2

/-- The whole of the first sixty parts. -/
theorem part62_eq : (at0 (k0_part62 (F := F)) : Prog (TpuEff nD τ sig (Elt F) Λ₀ .tc) _) = at0 (k0_part62_skel (F := F)) := rfl

end run

end Cert.Ring8
-- ==== Proof.Whole.lean ====
/-
# The body of the kernel on one device

The parts put together, with the last barrier and the scratch arrays and semaphores given back.
-/
module

public import proofs.«01_k».proof.Proof.Body

@[expose] public section

set_option maxRecDepth 65536

noncomputable section

namespace Cert.Ring8

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 58 → ℕ)

section run
variable (c : Dev nD)

theorem wpc_bind {α β : Type} {p : Prog (TpuEff nD τ sig (Elt F) Λ₀ .tc) α} {k : α → Prog (TpuEff nD τ sig (Elt F) Λ₀ .tc) β} {Q : β → sProp 𝕄} :
    wpc c p (fun a => wpc c (k a) Q) ⊢ wpc c (p >>= k) Q := Entails.of_eq (Sem.wp_bind _ _ _ p k Q).symm

theorem wpc_ret {α : Type} {a : α} {Q : α → sProp 𝕄} : iprop(|={Set.univ}=> Q a) ⊢ wpc c (.ret a) Q := BI.Entails.refl _

theorem nb_0 (c : Dev nD) : nb c 0 = c := by revert c; decide

theorem duties_idle {n : ℕ} (hn : n = 20 + 2 * slot c 0 ∨ n = 21 + 2 * slot c 0) : ∀ r, 0 ≤ r → (Rd (F := F) m).duties (cell c n) r = ∅ := by
  intro r _
  have hs := slot_lt c 0
  rcases Nat.eq_zero_or_pos r with h | h
  · subst h
    rw [duties_cell m c (by omega), dutN, if_neg (by omega), if_neg]
    rcases hn with rfl | rfl <;> (clear hs; revert c; decide +kernel)
  · exact duties_later m _ r h

theorem close_idle {n : ℕ} (hn : n = 20 + 2 * slot c 0 ∨ n = 21 + 2 * slot c 0) :
    env m K ⊢ iprop(atPos ER (cell c n) 0 ∅ 0 -∗ |={Set.univ}=> semVal (cell c n) 0) := by
  have hs := slot_lt c 0
  iintro #HE Hat
  ihave HE' := (env_un m K) $$ HE
  icases HE' with ⟨#HR, #HL⟩
  iapply (Rounds.cell_close ER (Rd m) (g := cell c n) (κ := nm K c n) (Set.mem_univ _) (fun h => h) (R := 0) (duties_idle m c hn))
  isplitr
  · iapply (inv_cell m K c (by omega) (by omega)); iexact HR
  iexact Hat

theorem part62 {f : (cc0_stg5_0 : Ref sig .tc).ty.Contents (Elt F)} {Q : (Σ' (_ : Dev nD) (_ : BitVec 32) (_ : BitVec 32), BitVec 32) → sProp 𝕄} :
    env m K ⊢ iprop((∃ W, owes (c : Thread nD τ) (oweFrom c 0) W) -∗ dutyTok ER (pcell c 0) 0 (pd 0) -∗ dutyTok ER (pcell c 1) 0 (pd 1)
      -∗ cred (tallyAt (cell c 63) () 2) -∗ atPos ER (cell c 63) 0 ∅ 0
      -∗ (bigSep (Finset.Ico 2 29) fun j => payTok c j) -∗ (bigSep (Finset.Ico 0 27) fun b => rcvTok c (rOrd b))
      -∗ (((c : Thread nD τ).loc cc0_stg0_0) ↦{fullShare} stg0 m c) -∗ (((c : Thread nD τ).loc cc0_stg1_0) ↦{fullShare} stg1 m c)
      -∗ (((c : Thread nD τ).loc cc0_stg2_0) ↦{fullShare} stg2 m c) -∗ (((c : Thread nD τ).loc cc0_stg3_0) ↦{fullShare} stg3 m c)
      -∗ (((c : Thread nD τ).loc cc0_stg4_0) ↦{fullShare} stg4 m c) -∗ (((c : Thread nD τ).loc cc0_stg5_0) ↦{fullShare} f)
      -∗ arrays (F := F) c -∗ dAny (F := F) c
      -∗ (∀ v5 v10 v16, Dra m c 23 -∗ (bigSep (Finset.Ico 0 27) fun b => semVal (rcell c (rOrd b)) 0) -∗ semVal (cell c 63) 0
          -∗ (((c : Thread nD τ).loc cc0_stg0_0) ↦{fullShare} stg0 m c) -∗ (((c : Thread nD τ).loc cc0_stg1_0) ↦{fullShare} stg1 m c)
          -∗ (((c : Thread nD τ).loc cc0_stg2_0) ↦{fullShare} stg2 m c) -∗ (((c : Thread nD τ).loc cc0_stg3_0) ↦{fullShare} stg3 m c)
          -∗ (((c : Thread nD τ).loc cc0_stg4_0) ↦{fullShare} stg4 m c) -∗ (((c : Thread nD τ).loc cc0_stg5_0) ↦{fullShare} (OUT m c : (cc0_stg5_0 : Ref sig .tc).ty.Contents (Elt F)))
          -∗ dPt c (DBUF m c) -∗ held m c -∗ Q ⟨c, v5, v10, v16⟩)
      -∗ wpc c (at0 (k0_part62 (F := F))) Q) := by
  rw [part62_eq]
  unfold at0 k0_part62_skel
  iintro #HE HO Ht0 Ht1 Hc Hat HT HR S0 S1 S2 S3 S4 S5 HA D Hk
  unfold arrays
  icases HA with ⟨⟨%fx, HX⟩, ⟨%fp, HP⟩, ⟨%fr, HRr⟩, %fl, HL⟩
  ihave HX := (Entails.of_eq (x_whole c fx)) $$ HX
  ihave HRr := (Entails.of_eq (r_whole c fr)) $$ HRr
  ihave HL := (Entails.of_eq (l_whole c fl)) $$ HL
  ihave HP := (Entails.of_eq ((p_whole c fp).trans (rows8 c _))) $$ HP
  icases HP with ⟨P0, P1, P2, P3, P4, P5, P6, P7⟩
  ihave HH := (entry_pay c fx fr fl) $$ [HX HRr HL]
  · isplitl [HX]; · iexact HX
    isplitl [HRr] <;> iassumption
  icases HH with ⟨X0, Hb0, Hb1⟩
  ihave Hb0 := (Entails.of_eq (show barPay (F := F) (pdst c 0) 0 = barPay (pdst c 0) (pd 0) from rfl)) $$ Hb0
  ihave Hb1 := (Entails.of_eq (show barPay (F := F) (pdst c 1) 1 = barPay (pdst c 1) (pd 1) from rfl)) $$ Hb1
  iapply (part1 m K c) $$ HE HO Ht0 Ht1 Hb0 Hb1 Hc Hat S1 S3 S4
  iintro %v5 %v10 %v16 HO HZ HB0 HB1 S1 S3 S4
  ihave HC := (ctl_start (F := F) c) $$ [HO HT HR HB0 HB1]
  · isplitl [HO]; · iexact HO
    isplitl [HT]; · iexact HT
    isplitl [HR]; · iexact HR
    isplitl [HB0] <;> iassumption
  iapply (run60 m K c (v5 := v5) (v10 := v10) (v16 := v16) (k := fun r => pure r)) $$ HE HC S2 S0 S5 X0 [D] P0 P1 P2 P3 P4 P5 P6 P7
  · rw [nb_0 c]; iexact D
  iintro HD HZ' S2 S0 S5 D HH
  iapply (wpc_ret c)
  imodintro
  iapply Hk $$ HD HZ' HZ S0 S1 S2 S3 S4 S5 D HH

/-- The body on device `c`. -/
theorem body_run {f : (cc0_stg5_0 : Ref sig .tc).ty.Contents (Elt F)} {Q : PUnit → sProp 𝕄} :
    env m K ⊢ iprop((∃ W, owes (c : Thread nD τ) (oweFrom c 0) W) -∗ start c
      -∗ (((c : Thread nD τ).loc cc0_stg0_0) ↦{fullShare} stg0 m c) -∗ (((c : Thread nD τ).loc cc0_stg1_0) ↦{fullShare} stg1 m c)
      -∗ (((c : Thread nD τ).loc cc0_stg2_0) ↦{fullShare} stg2 m c) -∗ (((c : Thread nD τ).loc cc0_stg3_0) ↦{fullShare} stg3 m c)
      -∗ (((c : Thread nD τ).loc cc0_stg4_0) ↦{fullShare} stg4 m c) -∗ (((c : Thread nD τ).loc cc0_stg5_0) ↦{fullShare} f)
      -∗ arrays (F := F) c -∗ dAny (F := F) c
      -∗ ((∃ W, owes (c : Thread nD τ) 0 W) -∗ (bigSep Finset.univ fun k : Fin 58 => semVal (cell c (6 + k)) 0)
          -∗ (((c : Thread nD τ).loc cc0_stg0_0) ↦{fullShare} stg0 m c) -∗ (((c : Thread nD τ).loc cc0_stg1_0) ↦{fullShare} stg1 m c)
          -∗ (((c : Thread nD τ).loc cc0_stg2_0) ↦{fullShare} stg2 m c) -∗ (((c : Thread nD τ).loc cc0_stg3_0) ↦{fullShare} stg3 m c)
          -∗ (((c : Thread nD τ).loc cc0_stg4_0) ↦{fullShare} stg4 m c) -∗ (((c : Thread nD τ).loc cc0_stg5_0) ↦{fullShare} (OUT m c : (cc0_stg5_0 : Ref sig .tc).ty.Contents (Elt F)))
          -∗ arrays (F := F) c -∗ dAny (F := F) c -∗ Q ⟨⟩)
      -∗ wpc c (at0 (cc0_body (F := F))) Q) := by
  unfold at0; rw [cc0_body_eq_skeleton]; unfold cc0_body_skel
  iintro #HE HO HS S0 S1 S2 S3 S4 S5 HA D Hk
  unfold start
  icases HS with ⟨Ht0, Ht1, Ht29, Ht30, Hc63, Hc62, Hat63, Hat62, Hi0, Hi1, HT, HR⟩
  iapply (wpc_bind c)
  iapply (part62 m K c) $$ HE HO Ht0 Ht1 Hc63 Hat63 HT HR S0 S1 S2 S3 S4 S5 HA D
  iintro %v5 %v10 %v16 HD HZ' HZ S0 S1 S2 S3 S4 S5 D HH
  iapply (part61 m K c v5) $$ HE HD
  iintro HD
  simp only [semSignalWord, semWaitWord, Prog.lift, Prog.bind_op, Prog.bind_ret, Prog.pure_eq_ret]
  iapply (srcw m K c (b := 26) (by decide) ?_ ?_) $$ HE HD
  · rfl
  · rfl
  iintro HD
  unfold Dra
  icases HD with ⟨⟨%W, HO⟩, -, HD⟩
  ihave HE' := (env_un m K) $$ HE
  icases HE' with ⟨#HRc, #HLv⟩
  iapply (step_signal m K c (i := 29) (Or.inr (by decide)) (dev30_eq c) ?_ (W := W)) $$ [HO Ht29]
  · rfl
  · isplitr; · iexact HRc
    isplitl [HO]; · iexact HO
    isplitl [Ht29]; · iexact Ht29
    rw [if_neg (by decide)]; iempintro
  iintro HO
  iapply (step_signal m K c (i := 30) (Or.inr (by decide)) (dev31_eq c) ?_ (W := W)) $$ [HO Ht30]
  · rfl
  · isplitr; · iexact HRc
    isplitl [HO]; · iexact HO
    isplitl [Ht30]; · iexact Ht30
    rw [if_neg (by decide)]; iempintro
  iintro HO
  iapply (step_bar m K c (i := 31) (n := 62) (Or.inr ⟨rfl, rfl⟩) (wpE_semWait_eq 𝒱₀ (c : Thread nD τ) none Set.univ) ?_ ?_ (W := W)) $$ [HO Hc62 Hat62]
  · rfl
  · rfl
  · isplitr; · iexact HRc
    isplitr; · iexact HLv
    isplitl [HO]; · iexact HO
    isplitl [Hc62] <;> iassumption
  iintro ⟨HO, HZ62, -⟩
  iapply (wpc_ret c)
  imod (close_idle m K c (n := 20 + 2 * slot c 0) (Or.inl rfl)) $$ HE Hi0 with HI0
  imod (close_idle m K c (n := 21 + 2 * slot c 0) (Or.inr rfl)) $$ HE Hi1 with HI1
  imodintro
  ihave HD := (Entails.of_eq (bigSep_sep' _ _ _)) $$ HD
  icases HD with ⟨Hsp, Hsv⟩
  ihave HAr := (exit_rows m c) $$ [Hsp HH]
  · isplitl [Hsp] <;> iassumption
  ihave HO := (Entails.of_eq (congrArg (fun O => (iprop(∃ W, owes (c : Thread nD τ) O W) : sProp 𝕄)) (oweFrom_end c))) $$ HO
  iapply Hk $$ HO [HZ' HZ HZ62 HI0 HI1 Hsv] S0 S1 S2 S3 S4 S5 HAr [D]
  · iapply (Entails.of_eq (own_eq c (fun n => semVal (cell c n) 0)).symm)
    isplitl [Hsv]; · iexact Hsv
    isplitl [HZ']; · iexact HZ'
    isplitl [HZ62]; · iexact HZ62
    isplitl [HZ]; · iexact HZ
    isplitl [HI0] <;> iassumption
  · unfold dAny; iexists _; iexact D

end run

end Cert.Ring8
-- ==== Proof.Ghost.lean ====
/-
# The ghost state at the launch

The tokens are minted by the device that spends them, so nothing is dealt around afterwards. Of every cell the launch makes
an invariant, under names it picks, and a device keeps its own cells' positions and the tokens of its own payments; its
credits are those of the two barriers and of the copies that arrive at it.
-/
module

public import proofs.«01_k».proof.Proof.Whole

@[expose] public section

set_option maxRecDepth 65536

noncomputable section

namespace Cert.Ring8

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 58 → ℕ)

section ghost

/-! ## Cells and tokens -/

theorem kcell_injective : Function.Injective (kcell : Dev nD × Fin 58 → GSem nD τ sig) := by
  rintro ⟨c, k⟩ ⟨c', k'⟩ h
  have h1 : c = c' := congrArg (fun g : GSem nD τ sig => g.1.1) h
  have h2 : 6 + k.val = 6 + k'.val := cl_inj (by omega) (by omega) (congrArg Prod.snd h)
  subst h1
  have : k = k' := Fin.ext (by omega)
  subst this; rfl

def allCells : Finset (GSem nD τ sig) := Finset.univ.map ⟨kcell, kcell_injective⟩

/-- The tokens device `c` spends: of payment `k` for `k < 31`, and then of the sources of its copies. -/
def tokN (c : Dev nD) (k : ℕ) : GSem nD τ sig × ℕ × Fin 2 :=
  if k < 31 then (pcell c k, 0, pd k) else (scell c (k - 29), 0, 0)
/-- Who spends a token, read off the token. -/
def tokInv (x : GSem nD τ sig × ℕ × Fin 2) : Dev nD × ℕ :=
  if no x.1.2 = 63 then (psrc x.1.1.1 x.2.2.val, x.2.2.val)
  else if no x.1.2 = 62 then (psrc x.1.1.1 (29 + x.2.2.val), 29 + x.2.2.val)
  else if sj (no x.1.2) ≠ 99 then (x.1.1.1, sj (no x.1.2) + 29)
  else (psrc x.1.1.1 (rj x.1.1.1 (no x.1.2)), rj x.1.1.1 (no x.1.2))
theorem tokInv_tokN : ∀ c : Dev nD, ∀ k : Fin 58, tokInv (tokN c k) = (c, k.val) := by decide +kernel

abbrev tokOf (x : Dev nD × Fin 58) : GSem nD τ sig × ℕ × Fin 2 := tokN x.1 x.2.val
theorem tokOf_injective : Function.Injective tokOf := by
  rintro ⟨c, k⟩ ⟨c', k'⟩ h
  have e : (c, k.val) = (c', k'.val) := by rw [← tokInv_tokN c k, ← tokInv_tokN c' k']; exact congrArg tokInv h
  have h1 : c = c' := congrArg Prod.fst e
  have h2 : k = k' := Fin.ext (congrArg Prod.snd e)
  subst h1; subst h2; rfl
def allToks : Finset (GSem nD τ sig × ℕ × Fin 2) := Finset.univ.map ⟨tokOf, tokOf_injective⟩

def u₀ : UU := (initOf (Pipeline.cells cfgs cellOf_inj) (Pipeline.launchToks cfgs cellOf_inj), initOf allCells allToks)

/-- What device `c` may spend. -/
def toks (c : Dev nD) : sProp 𝕄 := bigSep Finset.univ fun k : Fin 58 => dutyTok ER (tokN c k).1 (tokN c k).2.1 (tokN c k).2.2

/-- What the launch deals device `c`. -/
def G (c : Dev nD) : sProp 𝕄 :=
  iprop((bigSep Finset.univ fun k : Fin 58 => roundState ER (Rd m) (kcell (c, k)) 0)
    ∗ (bigSep Finset.univ fun k : Fin 58 => iprop(atPos ER (kcell (c, k)) 0 ∅ 0 ∗ reached ER (kcell (c, k)) 0)) ∗ toks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 58 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Semaphores -/

/-- The kernel's own semaphores: its copies' and the second barrier's. -/
abbrev osem : Fin 57 → SemLoc sig := fun k => cl (6 + k.val)
theorem ownSemFacts : Pipeline.OwnSemFacts cfg0.spec osem := by decide +kernel

theorem unscopedSems0_eq (c : Dev nD) : (unscopedSems0 c : sProp 𝕄) = semVal (cell c 63) 0 := by
  unfold unscopedSems0; rw [bigSep_eq_bigSepL_of_eq [SemLoc.reg barS] (by decide) (by decide)]; rfl

theorem fin_Ico (n : ℕ) (Φ : ℕ → sProp 𝕄) : (bigSep Finset.univ fun k : Fin n => Φ (6 + k.val)) = bigSep (Finset.Ico 6 (6 + n)) Φ := by
  have e : Finset.Ico 6 (6 + n) = (Finset.univ : Finset (Fin n)).image fun k => 6 + k.val := by
    ext x
    simp only [Finset.mem_Ico, Finset.mem_image, Finset.mem_univ, true_and]
    exact ⟨fun h => ⟨⟨x - 6, by omega⟩, by dsimp only; omega⟩, fun ⟨k, h⟩ => by have := k.isLt; omega⟩
  rw [e, bigSep_img (fun a _ b _ h => Fin.ext (by have h' : 6 + a.val = 6 + b.val := h; omega))]

theorem sems0_eq (c : Dev nD) :
    (bigSep Finset.univ fun k : Fin 58 => semVal (kcell (c, k)) 0 : sProp 𝕄)
      = iprop(unscopedSems0 c ∗ Pipeline.ownSems0 (Ix := Unit) (Name := ℕ) (U := UU) (Lvl := ℕ) (Val := Elt F) (τ := τ) osem c) := by
  rw [unscopedSems0_eq]
  unfold Pipeline.ownSems0
  have e58 : (bigSep Finset.univ fun k : Fin 58 => (semVal (kcell (c, k)) 0 : sProp 𝕄)) = bigSep (Finset.Ico 6 (6 + 58)) (fun n => semVal (cell c n) 0) :=
    fin_Ico 58 fun n => semVal (cell c n) 0
  have e57 : (bigSep Finset.univ fun k : Fin 57 => (semVal ((c : Thread nD τ), osem k) 0 : sProp 𝕄)) = bigSep (Finset.Ico 6 (6 + 57)) (fun n => semVal (cell c n) 0) :=
    fin_Ico 57 fun n => semVal (cell c n) 0
  rw [e58, e57, show 6 + 58 = (6 + 57) + 1 from rfl, Ico_top (by decide), sep_ins (by simp)]

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Fin 58 => semVal (kcell (c, k)) 0) ∗ bigSep Finset.univ fun k : Fin 58 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## What a device keeps -/

/-- Its positions and its tokens. -/
def linear (c : Dev nD) : sProp 𝕄 := iprop((bigSep Finset.univ fun k : Fin 58 => atPos ER (kcell (c, k)) 0 ∅ 0) ∗ toks c)
def G' (c : Dev nD) : sProp 𝕄 := iprop(∃ K, records m K ∗ linear (F := F) c)

theorem keep_intro (c : Dev nD) : iprop(records m K ∗ linear c) ⊢ G' m c := by
  unfold G'
  iintro H
  iexists K
  iexact H

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 58 => iprop(∃ κ : ℕ, cellInv ER (Rd m) κ (kcell ck))),
    bigSep_congr (s := Finset.univ) (fun (c : Dev nD) _ => bigSep_sep' Finset.univ (fun k : Fin 58 => (atPos ER (kcell (c, k)) 0 ∅ 0 : sProp 𝕄)) (fun k => reached ER (kcell (c, k)) 0)),
    bigSep_sep', ← bigSep_univ_prod (fun ck : Dev nD × Fin 58 => (reached ER (kcell ck) 0 : sProp 𝕄))]
  iintro ⟨HI, ⟨Hat, #HR⟩, Htok⟩
  ihave HK := (BI.bigSep_exists_pi Finset.univ (fun (ck : Dev nD × Fin 58) (κ : ℕ) => (cellInv ER (Rd m) κ (kcell ck) : sProp 𝕄))) $$ HI
  icases HK with ⟨%K, #HI⟩
  iapply (with_persistent (R := records m K) fun c _ => keep_intro m K c)
  isplitr
  · unfold records; isplitl; · iexact HI
    iexact HR
  · iapply (Entails.of_eq (bigSep_sep' Finset.univ (fun c : Dev nD => bigSep Finset.univ fun k : Fin 58 => (atPos ER (kcell (c, k)) 0 ∅ 0 : sProp 𝕄)) toks).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## Credits -/

theorem pcell_iff (c d : Dev nD) (j : Fin 31) (n : Fin 64) : (pcell d j = cell c n) ↔ (d = psrc c j ∧ pno (psrc c j) j = n.val) := by
  have hp : ∀ d : Dev nD, ∀ j : Fin 31, pno d j < 64 := by decide +kernel
  unfold pcell
  constructor
  · intro h
    have h1 : pdst d j = c := congrArg (fun g : GSem nD τ sig => g.1.1) h
    have h2 : pno d j = n.val := cl_inj (hp d j) n.isLt (congrArg Prod.snd h)
    subst h1
    rw [psrc_pdst d j]
    exact ⟨rfl, h2⟩
  · rintro ⟨rfl, h⟩
    rw [pdst_psrc c j, h]

/-- What a device owes at the launch. -/
def O₀ (d : Dev nD) : CellTallies nD τ sig Unit := oweFrom d 0

/-- What all devices together owe the cell of number `n` on `c`. -/
theorem credit_at (c : Dev nD) (n : Fin 64) (S : Finset ℕ) (hS : (Finset.Ico 0 31).filter (fun j => pno (psrc c j) j = n.val) = S) :
    (tallyOn (cell c n) (launchCredit (Pipeline.owing O₀) 0 (cell c n)) : CellTallies nD τ sig Unit)
      = tallyAt (cell c n) () (∑ j ∈ S, pamt j) := by
  unfold tallyAt
  refine congrArg _ (Finsupp.ext fun u => ?_)
  cases u
  rw [Pipeline.launchCredit_owing, Finsupp.single_eq_same]
  unfold O₀ oweFrom
  rw [Finset.sum_congr rfl fun d _ => show (∑ j ∈ Finset.Ico 0 31, tallyAt (pcell d j) () (pamt j)) (cell c n) () = ∑ j ∈ Finset.Ico 0 31, if d = psrc c j ∧ pno (psrc c j) j = n.val then pamt j else 0 from ?_,
    Finset.sum_comm, ← hS, Finset.sum_filter]
  · refine Finset.sum_congr rfl fun j hj => ?_
    by_cases h : pno (psrc c j) j = n.val
    · simp only [h, and_true, if_true, Finset.sum_ite_eq', Finset.mem_univ]
    · simp only [h, and_false, if_false, Finset.sum_const_zero]
  · rw [Finset.sum_apply, Finsupp.finset_sum_apply]
    refine Finset.sum_congr rfl fun j hj => ?_
    have hj' : j < 31 := (Finset.mem_Ico.mp hj).2
    rw [tallyAt_apply]
    have := pcell_iff c d ⟨j, hj'⟩ n
    by_cases h : pcell d j = cell c n
    · rw [if_pos ⟨h.symm, rfl⟩, if_pos (this.mp h)]
    · rw [if_neg fun h' => h h'.1.symm, if_neg fun h' => h (this.mpr h')]

theorem filt63 : ∀ c : Dev nD, (Finset.Ico 0 31).filter (fun j => pno (psrc c j) j = 63) = {0, 1} := by decide +kernel
theorem filt62 : ∀ c : Dev nD, (Finset.Ico 0 31).filter (fun j => pno (psrc c j) j = 62) = {29, 30} := by decide +kernel
theorem filtR : ∀ c : Dev nD, ∀ b : Fin 27, (Finset.Ico 0 31).filter (fun j => pno (psrc c j) j = pno (psrc c (rOrd b)) (rOrd b)) = {rOrd b} := by decide +kernel
theorem pnoR_lt : ∀ c : Dev nD, ∀ b : Fin 27, pno (psrc c (rOrd b)) (rOrd b) < 62 := by decide +kernel

/-- The numbers of the cells `c` waits on. -/
def recvNos (c : Dev nD) : Finset ℕ := (Finset.Ico 0 27).image fun b => pno (psrc c (rOrd b)) (rOrd b)

theorem sum63 : ∑ j ∈ ({0, 1} : Finset ℕ), pamt j = 2 := by rw [Finset.sum_pair (by decide), pamt, pamt, if_pos (by decide), if_pos (by decide)]
theorem sum62 : ∑ j ∈ ({29, 30} : Finset ℕ), pamt j = 2 := by rw [Finset.sum_pair (by decide), pamt, pamt, if_pos (by decide), if_pos (by decide)]
theorem sumR (b : Fin 27) : ∑ j ∈ ({rOrd b} : Finset ℕ), pamt j = amt (rOrd b) := by
  have := rOrd_rng b
  rw [Finset.sum_singleton, pamt, if_neg (by omega)]

theorem recvNos_lt (c : Dev nD) : ∀ n ∈ recvNos c, n < 62 := by
  intro n hn
  obtain ⟨b, hb, rfl⟩ := Finset.mem_image.mp hn
  exact pnoR_lt c ⟨b, (Finset.mem_Ico.mp hb).2⟩

/-- What the launch credits the cell of number `n` on `c` with. -/
def crd (c : Dev nD) (n : ℕ) : sProp 𝕄 := cred (tallyOn (cell c n) (launchCredit (Pipeline.owing O₀) 0 (cell c n)))
theorem crd_eq (c : Dev nD) (n : Fin 64) (S : Finset ℕ) (hS : (Finset.Ico 0 31).filter (fun j => pno (psrc c j) j = n.val) = S) :
    crd (F := F) c n = cred (tallyAt (cell c n) () (∑ j ∈ S, pamt j)) := by unfold crd; rw [credit_at c n S hS]
theorem cred63 (c : Dev nD) : crd (F := F) c 63 = cred (tallyAt (cell c 63) () 2) := by
  have h := crd_eq (F := F) c ⟨63, by decide⟩ {0, 1} (filt63 c)
  rw [sum63] at h
  exact h
theorem cred62 (c : Dev nD) : crd (F := F) c 62 = cred (tallyAt (cell c 62) () 2) := by
  have h := crd_eq (F := F) c ⟨62, by decide⟩ {29, 30} (filt62 c)
  rw [sum62] at h
  exact h
theorem credR (c : Dev nD) (b : Fin 27) : crd (F := F) c (pno (psrc c (rOrd b)) (rOrd b)) = cred (tallyAt (rcell c (rOrd b)) () (amt (rOrd b))) := by
  have h := crd_eq (F := F) c ⟨pno (psrc c (rOrd b)) (rOrd b), by have := pnoR_lt c b; omega⟩ {rOrd b} (filtR c b)
  rw [sumR] at h
  exact h

/-- Those and the two barriers'. -/
@[irreducible] def waitNos (c : Dev nD) : Finset ℕ := insert 63 (insert 62 (recvNos c))
theorem waitNos_inj (c : Dev nD) : Set.InjOn cl (waitNos c : Set ℕ) := by
  have hb : ∀ n ∈ waitNos c, n < 64 := by
    intro n hn
    unfold waitNos at hn
    rcases Finset.mem_insert.mp hn with h | h
    · omega
    rcases Finset.mem_insert.mp h with h | h
    · omega
    · have := recvNos_lt c _ h; omega
  intro a ha b hb' h
  exact cl_inj (hb a (Finset.mem_coe.mp ha)) (hb b (Finset.mem_coe.mp hb')) h
theorem waitNos_sep (c : Dev nD) (Φ : ℕ → sProp 𝕄) : bigSep (waitNos c) Φ
    = iprop(Φ 63 ∗ Φ 62 ∗ bigSep (Finset.Ico 0 27) fun b => Φ (pno (psrc c (rOrd b)) (rOrd b))) := by
  have h62 : 62 ∉ recvNos c := fun h => by have := recvNos_lt c _ h; omega
  have h63 : 63 ∉ insert 62 (recvNos c) := fun h => by
    rcases Finset.mem_insert.mp h with h | h
    · omega
    · have := recvNos_lt c _ h; omega
  unfold waitNos
  rw [sep_ins h63, sep_ins h62, recvNos, bigSep_img (injOn_of fun a b h => pno_inj c a b h)]

theorem sems_at (S : Finset ℕ) (h : Set.InjOn cl (S : Set ℕ)) (Φ : SemLoc sig → sProp 𝕄) : bigSep Finset.univ Φ ⊢ bigSep S fun n => Φ (cl n) := by
  rw [← bigSep_img h Φ]
  exact bigSep_subset (Finset.subset_univ _)

theorem creds_all (c : Dev nD) : (Pipeline.launchCred O₀ c : sProp 𝕄) ⊢ bigSep (waitNos c) (crd (F := F) c) := by
  have h := sems_at (F := F) (waitNos c) (waitNos_inj c) fun sm => cred (tallyOn ((c : Thread nD τ), sm) (launchCredit (Pipeline.owing O₀) 0 ((c : Thread nD τ), sm)))
  exact h

theorem creds_list (c : Dev nD) : bigSep (waitNos c) (crd (F := F) c) =
    (iprop(cred (tallyAt (cell c 63) () 2) ∗ cred (tallyAt (cell c 62) () 2)
        ∗ bigSep (Finset.Ico 0 27) fun b => cred (tallyAt (rcell c (rOrd b)) () (amt (rOrd b)))) : sProp 𝕄) := by
  rw [waitNos_sep, cred63, cred62]
  have h : ∀ b ∈ Finset.Ico 0 27, crd (F := F) c (pno (psrc c (rOrd b)) (rOrd b)) = cred (tallyAt (rcell c (rOrd b)) () (amt (rOrd b))) :=
    fun b hb => credR c ⟨b, (Finset.mem_Ico.mp hb).2⟩
  rw [bigSep_congr h]

theorem creds (c : Dev nD) : (Pipeline.launchCred O₀ c : sProp 𝕄)
    ⊢ (iprop(cred (tallyAt (cell c 63) () 2) ∗ cred (tallyAt (cell c 62) () 2)
        ∗ bigSep (Finset.Ico 0 27) fun b => cred (tallyAt (rcell c (rOrd b)) () (amt (rOrd b)))) : sProp 𝕄) := by
  rw [← creds_list]
  exact creds_all c

/-! ## What the body starts from -/

theorem toks_eq (c : Dev nD) : toks (F := F) c
    = iprop(dutyTok ER (pcell c 0) 0 (pd 0) ∗ dutyTok ER (pcell c 1) 0 (pd 1) ∗ dutyTok ER (pcell c 29) 0 (pd 29) ∗ dutyTok ER (pcell c 30) 0 (pd 30)
      ∗ (bigSep (Finset.Ico 2 29) fun j => dutyTok ER (pcell c j) 0 0) ∗ bigSep (Finset.Ico 2 29) fun j => dutyTok ER (scell c j) 0 0) := by
  have e : (Finset.univ : Finset (Fin 58)).image (fun k : Fin 58 => k.val)
      = insert 0 (insert 1 (insert 29 (insert 30 (Finset.Ico 2 29 ∪ (Finset.Ico 2 29).image (· + 29))))) := by decide +kernel
  have h0 : 0 ∉ insert 1 (insert 29 (insert 30 (Finset.Ico 2 29 ∪ (Finset.Ico 2 29).image (· + 29)))) := by decide +kernel
  have h1 : 1 ∉ insert 29 (insert 30 (Finset.Ico 2 29 ∪ (Finset.Ico 2 29).image (· + 29))) := by decide +kernel
  have h2 : 29 ∉ insert 30 (Finset.Ico 2 29 ∪ (Finset.Ico 2 29).image (· + 29)) := by decide +kernel
  have h3 : 30 ∉ Finset.Ico 2 29 ∪ (Finset.Ico 2 29).image (· + 29) := by decide +kernel
  have h4 : Disjoint (Finset.Ico 2 29) ((Finset.Ico 2 29).image (· + 29)) := by decide +kernel
  have hu {Φ : ℕ → sProp 𝕄} : bigSep (Finset.Ico 2 29 ∪ (Finset.Ico 2 29).image (· + 29)) Φ
      = iprop(bigSep (Finset.Ico 2 29) Φ ∗ bigSep (Finset.Ico 2 29) fun j => Φ (j + 29)) := by
    rw [bigSep_union h4, bigSep_img (fun a _ b _ h => by have h' : a + 29 = b + 29 := h; omega)]
    rfl
  unfold toks
  rw [← bigSep_img (g := fun k : Fin 58 => k.val) (fun a _ b _ h => Fin.ext h) (fun n => (dutyTok ER (tokN c n).1 (tokN c n).2.1 (tokN c n).2.2 : sProp 𝕄)),
    e, sep_ins h0, sep_ins h1, sep_ins h2, sep_ins h3, hu,
    bigSep_congr (s := Finset.Ico 2 29) (Φ := fun j => (dutyTok ER (tokN c j).1 (tokN c j).2.1 (tokN c j).2.2 : sProp 𝕄)) (Ψ := fun j => dutyTok ER (pcell c j) 0 0)
      (fun j hj => by
        have := Finset.mem_Ico.mp hj
        rw [tokN, if_pos (by omega)]
        dsimp only
        rw [show pd j = 0 by unfold pd; rw [if_neg (by omega)]]),
    bigSep_congr (s := Finset.Ico 2 29) (Φ := fun j => (dutyTok ER (tokN c (j + 29)).1 (tokN c (j + 29)).2.1 (tokN c (j + 29)).2.2 : sProp 𝕄)) (Ψ := fun j => dutyTok ER (scell c j) 0 0)
      (fun j hj => by
        have := Finset.mem_Ico.mp hj
        rw [tokN, if_neg (by omega), Nat.add_sub_cancel])]
  rfl

theorem start_mk (c : Dev nD) : iprop(linear c ∗ Pipeline.launchCred O₀ c) ⊢ start (F := F) c := by
  unfold linear start
  have hown := own_eq (F := F) c fun n => atPos ER (cell c n) 0 ∅ 0
  rw [toks_eq, show (bigSep Finset.univ fun k : Fin 58 => (atPos ER (kcell (c, k)) 0 ∅ 0 : sProp 𝕄)) = _ from hown]
  have hT : (bigSep (Finset.Ico 2 29) fun j => payTok (F := F) c j) = iprop((bigSep (Finset.Ico 2 29) fun j => dutyTok ER (pcell c j) 0 0)
      ∗ (bigSep (Finset.Ico 2 29) fun j => dutyTok ER (scell c j) 0 0) ∗ bigSep (Finset.Ico 0 27) fun b => atPos ER (cell c (sno (sOrd b))) 0 ∅ 0) := by
    unfold payTok
    rw [bigSep_sep', bigSep_sep']
    have : (bigSep (Finset.Ico 2 29) fun j => (atPos ER (scell c j) 0 ∅ 0 : sProp 𝕄)) = bigSep (Finset.Ico 0 27) fun b => atPos ER (cell c (sno (sOrd b))) 0 ∅ 0 := by
      conv_lhs => rw [sOrd_img]
      exact bigSep_img (injOn_of fun a b h => sOrd_inj a b h) _
    rw [this]
  have hR : (bigSep (Finset.Ico 0 27) fun b => rcvTok (F := F) c (rOrd b)) = iprop((bigSep (Finset.Ico 0 27) fun b => cred (tallyAt (rcell c (rOrd b)) () (amt (rOrd b))))
      ∗ bigSep (Finset.Ico 0 27) fun b => atPos ER (cell c (pno (psrc c (rOrd b)) (rOrd b))) 0 ∅ 0) := by
    unfold rcvTok
    rw [bigSep_sep']
    rfl
  rw [hT, hR]
  iintro ⟨⟨⟨HS, HRp, H62, H63, Hi0, Hi1⟩, Ht0, Ht1, Ht29, Ht30, HTp, HTs⟩, HC⟩
  ihave HC := (creds c) $$ HC
  icases HC with ⟨Hc63, Hc62, HCr⟩
  isplitl [Ht0]; · iexact Ht0
  isplitl [Ht1]; · iexact Ht1
  isplitl [Ht29]; · iexact Ht29
  isplitl [Ht30]; · iexact Ht30
  isplitl [Hc63]; · iexact Hc63
  isplitl [Hc62]; · iexact Hc62
  isplitl [H63]; · iexact H63
  isplitl [H62]; · iexact H62
  isplitl [Hi0]; · iexact Hi0
  isplitl [Hi1]; · iexact Hi1
  isplitl [HTp HTs HS]
  · isplitl [HTp]; · iexact HTp
    isplitl [HTs] <;> iassumption
  isplitl [HCr] <;> iassumption

end ghost

end Cert.Ring8
-- ==== Proof.Launched.lean ====
/-
# The run of the whole program

The kernel's one region is launched with the ghost state of `Ghost`, and its body is `body_run`: every fair execution ends,
each device's result array holds `OUT m c`, and the argument arrays hold what they held.
-/
module

public import proofs.«01_k».proof.Proof.Ghost
public import proofs.«01_k».proof.Proof.Gen.KernelIdeal.Points
public import Idealize.ShloMosaic.Lib.Pipeline.Kit
public import Idealize.ShloMosaic.Lib.Pipeline.ValueKit
public import Idealize.ShloMosaic.Lib.Pipeline.CollectiveSegs

@[expose] public section

set_option maxRecDepth 65536

noncomputable section

namespace Cert.Ring8

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 58 → ℕ)

section launch

variable (ρ : Dev nD → PrngReg)

def s₀ : MemSt nD τ sig (Elt F) := ⟨m, fun _ => 0, ρ⟩

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What the body of device `c` starts from besides its buffers. -/
def ready (c : Dev nD) : sProp 𝕄 := iprop((∃ K, records m K ∗ start (F := F) c) ∗ levAts L lv)

def Φ₀ (c : Dev nD) : sProp 𝕄 := iprop(ready m c ∗ arrays (F := F) c ∗ dAny (F := F) c)
def Φ₁ (c : Dev nD) : sProp 𝕄 := iprop((bigSep Finset.univ fun k : Fin 58 => semVal (kcell (c, k)) 0) ∗ arrays (F := F) c ∗ dAny (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stg0 m c
    | ⟨1, _⟩ => stg1 m c
    | ⟨2, _⟩ => stg2 m c
    | ⟨3, _⟩ => stg3 m c
    | ⟨4, _⟩ => stg4 m c
    | ⟨5, _⟩ => OUT m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_all (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem six (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

def bodyPre (c : Dev nD) : sProp 𝕄 :=
  iprop(Φ₀ m c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ c ∗ (dats m ρ 0 c).owesAt () t₀.succ ∗ stg c cc0_stg0_0 (stg0 m c) ∗ stg c cc0_stg1_0 (stg1 m c) ∗ stg c cc0_stg2_0 (stg2 m c)
    ∗ stg c cc0_stg3_0 (stg3 m c) ∗ stg c cc0_stg4_0 (stg4 m c) ∗ stg c cc0_stg5_0 (OUT m c))

theorem stg_mk (c : Dev nD) (b : Ref sig .tc) (X : b.ty.Contents (Elt F)) :
    ((((c : Thread nD τ).loc b) ↦{fullShare} (X : Buf (Elt F) ((c : Thread nD τ).loc b))) : sProp 𝕄) ⊢ stg c b X := by
  iintro H
  iexists X
  isplitr; · (ipureintro; rfl)
  iexact H

theorem env_mk : iprop(records m K ∗ levAts L lv) ⊢ env m K := Entails.refl _

theorem body_sound (c : Dev nD) : bodyPre m ρ c ⊢ wpc c (at0 (cc0_body (F := F))) (fun _ => bodyPost m ρ c) := by
  unfold bodyPre Φ₀ ready
  iintro ⟨⟨⟨⟨%K, #HR, HS⟩, #HL⟩, HA, HD⟩, Ho, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩⟩
  have h0 : g0 = stg0 m c := by rw [e0]; unfold Dat.before; rw [if_pos (fetch0_0 t₀)]; rfl
  have h1 : g1 = stg1 m c := by rw [e1]; unfold Dat.before; rw [if_pos (fetch0_1 t₀)]; rfl
  have h2 : g2 = stg2 m c := by rw [e2]; unfold Dat.before; rw [if_pos (fetch0_2 t₀)]; rfl
  have h3 : g3 = stg3 m c := by rw [e3]; unfold Dat.before; rw [if_pos (fetch0_3 t₀)]; rfl
  have h4 : g4 = stg4 m c := by rw [e4]; unfold Dat.before; rw [if_pos (fetch0_4 t₀)]; rfl
  subst h0; subst h1; subst h2; subst h3; subst h4
  unfold Dat.owesAt Pipeline.owesWithin
  icases Ho with ⟨%W, %hW, HO⟩
  rw [show (dats m ρ 0 c).owed t₀.castSucc = oweFrom c 0 from rfl]
  ihave #HE := (env_mk m K) $$ []
  · isplitr <;> iassumption
  iapply (body_run m K c) $$ HE [HO] HS H0 H1 H2 H3 H4 H5 HA HD
  · iexists W; iexact HO
  iintro ⟨%W', HO⟩ HZ H0 H1 H2 H3 H4 H5 HA HD
  unfold bodyPost Φ₁ Dat.owesAt Pipeline.owesWithin
  rw [show (dats m ρ 0 c).owed t₀.succ = 0 from rfl]
  isplitl [HZ HA HD]
  · isplitl [HZ]; · iexact HZ
    isplitl [HA] <;> iassumption
  isplitl [HO]
  · iexists W'
    isplitr; · ipureintro; exact fun _ _ => Or.inl trivial
    iexact HO
  isplitl [H0]; · iapply (stg_mk c _ _); iexact H0
  isplitl [H1]; · iapply (stg_mk c _ _); iexact H1
  isplitl [H2]; · iapply (stg_mk c _ _); iexact H2
  isplitl [H3]; · iapply (stg_mk c _ _); iexact H3
  isplitl [H4]; · iapply (stg_mk c _ _); iexact H4
  iapply (stg_mk c _ _); iexact H5

theorem body_obligation (c : Dev nD) : BodyObligation (dats (F := F) m ρ 0 c) (defs₀ (F := F)) 𝒱₀ () Set.univ := fun t => by
  rw [fin_N t]
  rw [six, six]
  simp only [owns_all]
  exact body_sound m ρ c

/-! ## The side conditions of the launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(ready m c ∗ emp) := by
  unfold G'
  iintro ⟨-, Hlev, Hcr, -, ⟨%K, HR, HK⟩⟩
  ihave HS := (start_mk (F := F) c) $$ [HK Hcr]
  · isplitl [HK] <;> iassumption
  imodintro
  unfold ready
  isplitl
  · isplitr [Hlev]
    · iexists K
      isplitl [HR] <;> iassumption
    · iexact Hlev
  · iempintro

theorem phi0_intro (c : Dev nD) :
    iprop(ready m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ arrays dAny dPt
  iintro ⟨Hs, -, H0, H1, H2, H3, H4⟩
  isplitl [Hs]; · iexact Hs
  isplitr [H4]
  · isplitl [H0]; · iexact H0
    isplitl [H1]; · iexact H1
    isplitl [H2] <;> iassumption
  iexact H4

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ arrays dAny dPt
  rw [sems0_eq]
  iintro ⟨⟨Hu, Ho⟩, ⟨H0, H1, H2, H3⟩, H4⟩
  isplitl [Hu]; · iexact Hu
  isplitl [Ho]; · iexact Ho
  isplitl [H0]; · iexact H0
  isplitl [H1]; · iexact H1
  isplitl [H2]; · iexact H2
  isplitl [H3] <;> iassumption

theorem plv_pos (j : ℕ) : 0 < plv j := by unfold plv; split <;> (try split) <;> omega

theorem mayWait_stage (c : Dev nD) (sm : SemLoc sig) (hw : lv ((c : Thread nD τ), sm) () ≤ 0) (O : CellTallies nD τ sig Unit) (hO : O = oweFrom c 0 ∨ O = 0) :
    (levAts L lv : sProp 𝕄) ⊢ MayWait (c : Thread nD τ) sm () O := by
  rcases hO with rfl | rfl
  · exact mayWait c sm 0 0 hw fun j _ _ => plv_pos j
  · rw [MayWait_zero]; iintro -; iempintro

theorem stage_lv : ∀ c : Dev nD, ∀ q : Fin 6, lv ((c : Thread nD τ), cl q) () ≤ 0 := by decide +kernel

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> first | exact stage_lv c 0 | exact stage_lv c 1 | exact stage_lv c 2 | exact stage_lv c 3 | exact stage_lv c 4 | exact stage_lv c 5) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

theorem run_all : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := ready m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

theorem final_out (c : Dev nD) : finalA m ρ c (5 : Fin 6) = (OUT m c : Buf (Elt F) ((c : Thread nD τ).loc main_v1)) := by
  refine (dats m ρ 0 c).arrAt_eq_of_after_last (5 : Fin 6) t₀ (by decide +kernel) _ fun j => ?_
  blk_simp
  rfl

/-- Every fair execution ends with each result array at `OUT m c`, the argument arrays as they were and the counters at zero. -/
theorem run_values : θ_run defs (onTc (τ := τ) (main (F := F))) ⟨m, fun _ => 0, ρ⟩ (fun r =>
    (∀ c : Dev nD, r.2.mem (c.tc.loc main_v1) = (OUT m c : Buf (Elt F) ((c : Thread nD τ).loc main_v1))
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4)) ∧ r.2.sem = fun _ => 0) :=
  (θ_run defs _ _).mono (fun r h => ⟨fun c => ⟨(h.1 c (5 : Fin 6)).trans (final_out m ρ c),
    (h.1 c (0 : Fin 6)).trans ((dats (F := F) m ρ 0 c).arrAt_in (0 : Fin 6) rfl _),
    (h.1 c (1 : Fin 6)).trans ((dats (F := F) m ρ 0 c).arrAt_in (1 : Fin 6) rfl _),
    (h.1 c (3 : Fin 6)).trans ((dats (F := F) m ρ 0 c).arrAt_in (3 : Fin 6) rfl _),
    (h.1 c (4 : Fin 6)).trans ((dats (F := F) m ρ 0 c).arrAt_in (4 : Fin 6) rfl _),
    (h.1 c (2 : Fin 6)).trans ((dats (F := F) m ρ 0 c).arrAt_in (2 : Fin 6) rfl _)⟩, h.2⟩) (run_all m ρ)

end launch

end Cert.Ring8
-- ==== Proof.SameText.lean ====
/-
  The two printed kernels, the one read at the float words and the one read at the extended reals, have one text. So their
  body tables are one table at every float instance, and the run proved of the second is a run of the first.
-/
module

public import proofs.«01_k».proof.Proof.Launched
public import proofs.«01_k».proof.Proof.Gen.Kernel

@[expose] public section

set_option maxRecDepth 65536

noncomputable section

namespace Cert.Ring8

open Idealize.ShloMosaic Idealize.SL.Sem

/-- The kernel's body is the same program in both texts. -/
theorem tables_eq : @Cert.Kernel.defs₀ Bits _ _ = @Cert.KernelIdeal.defs₀ Bits _ _ := by
  unfold Cert.Kernel.defs₀ Cert.KernelIdeal.defs₀
  apply congrArg Defs.onTc
  funext l x
  match l with
  | 0 => rfl
  | ⟨_ + 1, h⟩ => exact absurd h (Nat.not_lt.2 (Nat.le_add_left _ _))

/-- So is the whole table, launch included. -/
theorem defs_same : @Cert.Kernel.defs Bits _ _ = @Cert.KernelIdeal.defs Bits _ _ :=
  congrArg (Pipeline.defs (Cert.KernelIdeal.pcfgs (F := Bits))) tables_eq

end Cert.Ring8

end
-- ==== Proof.Softmax.lean ====
/-
# One head's attention, two ways

Over the extended reals: a head's result as the kernel computes it (exponentials of the scores as they are, the weighted
sum times the reciprocal of their sum) and as the reference does (the largest score subtracted first, the weighted sum
divided at the end). They agree when the scores are real numbers; nothing is asked of the values.
-/
module

public import Idealize.ShloMosaic.PureOps
public import Idealize.ShloMosaic.Lib.IdealHost

@[expose] public section

noncomputable section

namespace Cert.Ring8

open Idealize.ShloMosaic

/-- An extended real that is a real number. -/
def IsReal (a : EReal) : Prop := ∃ r : ℝ, a = (r : EReal)

theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- The extended-real sum of real numbers is their real sum. -/
theorem coe_sum {ι : Type*} (s : Finset ι) (g : ι → ℝ) : ∑ i ∈ s, (g i : EReal) = ((∑ i ∈ s, g i : ℝ) : EReal) := by
  classical
  induction s using Finset.induction_on with
  | empty => rfl
  | insert i s hi ih => rw [Finset.sum_insert hi, Finset.sum_insert hi, ih, EReal.coe_add]

theorem IsReal.sum {ι : Type*} (s : Finset ι) {f : ι → EReal} (h : ∀ i, IsReal (f i)) : IsReal (∑ i ∈ s, f i) := by
  choose g hg using h
  exact ⟨∑ i ∈ s, g i, by simp only [hg]; exact coe_sum s g⟩

/-- The greatest of finitely many reals, at least one of them, is real. -/
theorem fold_max_real {n : ℕ} (g : Fin (n + 1) → ℝ) :
    ∃ M : ℝ, Finset.univ.fold max (⊥ : EReal) (fun j => (g j : EReal)) = (M : EReal) := by
  refine ⟨Finset.univ.sup' Finset.univ_nonempty g, ?_⟩
  change Finset.univ.sup (fun j => (g j : EReal)) = _
  rw [← Finset.sup'_eq_sup Finset.univ_nonempty]
  exact (Finset.comp_sup'_eq_sup'_comp Finset.univ_nonempty (fun r : ℝ => (r : EReal)) (fun a b => EReal.coe_strictMono.monotone.map_max)).symm

/-- A positive real's product with a sum is the sum of the products. -/
theorem coe_mul_sum {ι : Type*} (s : Finset ι) {a : ℝ} (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, ← ih]
    exact EReal.left_distrib_of_nonneg_of_ne_top (by exact_mod_cast ha) (EReal.coe_ne_top a) _ _

/-- The scores of a row shifted by a real `M`: the sums shrink by the same factor, and the quotient is the same. -/
theorem quot_shift {n : ℕ} (g : Fin (n + 1) → ℝ) (v : Fin (n + 1) → EReal) (M : ℝ) :
    (∑ j, Ideal.exp (g j : EReal) * v j) * Ideal.div 1 (∑ j, Ideal.exp (g j : EReal))
      = Ideal.div (∑ j, v j * Ideal.exp ((g j : EReal) - (M : EReal))) (∑ j, Ideal.exp ((g j : EReal) - (M : EReal))) := by
  have hs (j) : Ideal.exp (g j : EReal) = ((Real.exp M : ℝ) : EReal) * ((Real.exp (g j - M) : ℝ) : EReal) := by
    rw [Ideal.exp_coe, ← EReal.coe_mul, ← Real.exp_add, add_sub_cancel]
  have hd (j) : Ideal.exp ((g j : EReal) - (M : EReal)) = ((Real.exp (g j - M) : ℝ) : EReal) := by
    rw [← EReal.coe_sub, Ideal.exp_coe]
  have hA : (0 : ℝ) < ∑ j, Real.exp (g j - M) := Finset.sum_pos (fun j _ => Real.exp_pos _) Finset.univ_nonempty
  have hE : (0 : ℝ) < Real.exp M := Real.exp_pos M
  have hv : ∑ j, v j * ((Real.exp (g j - M) : ℝ) : EReal) = ∑ j, ((Real.exp (g j - M) : ℝ) : EReal) * v j :=
    Finset.sum_congr rfl fun j _ => mul_comm _ _
  simp only [hd, hs, mul_assoc]
  rw [hv, ← coe_mul_sum _ hE.le, ← coe_mul_sum _ hE.le, coe_sum, ← EReal.coe_mul, Ideal.div_coe (mul_pos hE hA).ne',
    Ideal.div_coe hA.ne', one_mul, mul_comm (_ : EReal) (∑ j, _ : EReal), mul_assoc, ← EReal.coe_mul]
  congr 2
  field_simp

/-- The word the scores are scaled by is a real number. -/
theorem isReal_scale : IsReal (Ideal.ofBits .f32 0x3DB504F3#32) := by
  simp [Ideal.ofBits, Ideal.ieee, -EReal.coe_mul]
  exact ⟨_, rfl⟩

/-- A row's score against a row. -/
def score {m n : ℕ} (q : Fin m → Fin n → EReal) (k : Fin m → Fin n → EReal) (r j : Fin m) : EReal :=
  (∑ u, q r u * k j u) * Ideal.ofBits .f32 0x3DB504F3#32

/-- A head's result as the kernel computes it. -/
def headK {m n : ℕ} (q k v : Fin m → Fin n → EReal) (r : Fin m) (t : Fin n) : EReal :=
  (∑ j, Ideal.exp (score q k r j) * v j t) * Ideal.div 1 (∑ j, Ideal.exp (score q k r j))

/-- The greatest score of a row. -/
def top {m n : ℕ} (q k : Fin m → Fin n → EReal) (r : Fin m) : EReal :=
  Finset.univ.fold max (⊥ : EReal) (fun j => score q k r j)

/-- A head's result as the reference computes it. -/
def headR {m n : ℕ} (q k v : Fin m → Fin n → EReal) (r : Fin m) (t : Fin n) : EReal :=
  Ideal.div (∑ j, v j t * Ideal.exp (score q k r j - top q k r)) (∑ j, Ideal.exp (score q k r j - top q k r))

/-- The two rules agree on real queries and keys; the values may be any extended reals. -/
theorem headK_eq_headR {m n : ℕ} (q k v : Fin (m + 1) → Fin n → EReal) (hq : ∀ r u, IsReal (q r u)) (hk : ∀ r u, IsReal (k r u)) :
    headK q k v = headR q k v := by
  funext r t
  have hs (j) : IsReal (score q k r j) := (IsReal.sum _ fun u => (hq r u).mul (hk j u)).mul isReal_scale
  choose g hg using hs
  obtain ⟨M, hM⟩ := fold_max_real g
  have ht : top q k r = (M : EReal) := by simpa only [top, hg] using hM
  simp only [headK, headR, ht, hg]
  exact quot_shift g (fun j => v j t) M

end Cert.Ring8
-- ==== Proof.RefVal.lean ====
/-
# The reference's result, at an index

The reference's composed term cut into its steps — projections, scores, exponentials, heads, output — and each step read
at an index, over the extended reals.
-/
module

public import proofs.«01_k».proof.Proof.Gen.ReferenceIdeal.Run
public import proofs.«01_k».proof.Proof.Softmax
public import Idealize.ShloMosaic.Lib.Pointwise

@[expose] public section

noncomputable section

namespace Cert.Ring8.Ref

open Cert.ReferenceIdeal Cert.ReferenceIdeal.Gen
open Idealize.ShloMosaic Idealize.ShloMosaic.TcCoe

variable {F : FTy → Type} [FloatOps F]

/-- A projection of the whole input, its columns cut into the 64 heads. -/
def projW (x : FVec F S8x512x1024 .bf16) (w : FVec F S1024x8192 .bf16) : FVec F S8x512x64x128 .f32 :=
  shapeCast S8x512x64x128 (extf .f32 (truncf .bf16 (Host.dotGeneral dot_S8x512x1024_S1024x8192_S8x512x8192_2_0_01_1_n_n none
    (extf .f32 x bitsLt_bf16_f32) (extf .f32 w bitsLt_bf16_f32)) bitsLt_bf16_f32) bitsLt_bf16_f32) shapeCasts_S8x512x8192_S8x512x64x128

/-- The scores. -/
def scoreW (q k : FVec F S8x512x64x128 .f32) : FVec F S8x64x512x512 .f32 :=
  mulf (extf .f32 (truncf .bf16 (Host.dotGeneral dot_S8x512x64x128_S8x512x64x128_S8x64x512x512_3_3_1_1_02_02 none q k) bitsLt_bf16_f32) bitsLt_bf16_f32)
    (broadcastInDim S8x64x512x512 ![] bcast_S_S8x64x512x512 (constant S_ .f32 0x3DB504F3#32))

/-- The exponentials, the greatest score of the row subtracted first. -/
def expW (s : FVec F S8x64x512x512 .f32) : FVec F S8x64x512x512 .f32 :=
  Host.exp (subf s (broadcastInDim S8x64x512x512 ![0, 1, 2, 3] bcast_S8x64x512x1_S8x64x512x512_0_1_2_3
    (broadcastInDim S8x64x512x1 ![0, 1, 2] bcast_S8x64x512_S8x64x512x1_0_1_2
      (Host.reduce FloatOps.maximumf s (constant S_ .f32 0xFF800000#32) reducesTo_S8x64x512x512_S8x64x512_d3 h_S_))))

/-- The heads' results. -/
def headW (v : FVec F S8x512x64x128 .f32) (p : FVec F S8x64x512x512 .f32) : FVec F S8x512x64x128 .f32 :=
  Host.divf (transpose S8x512x64x128 [0, 3, 1, 2] (Host.dotGeneral dot_S8x512x64x128_S8x64x512x512_S8x64x128x512_1_3_3_2_02_01 none v p)
      transposes_S8x64x128x512_S8x512x64x128_0_3_1_2)
    (broadcastInDim S8x512x64x128 ![0, 1, 2, 3] bcast_S8x512x64x1_S8x512x64x128_0_1_2_3 (transpose S8x512x64x1 [0, 2, 1, 3]
      (broadcastInDim S8x64x512x1 ![0, 1, 2] bcast_S8x64x512_S8x64x512x1_0_1_2
        (Host.reduceAdd p (constant S_ .f32 0x00000000#32) reducesTo_S8x64x512x512_S8x64x512_d3 h_S_)) transposes_S8x64x512x1_S8x512x64x1_0_2_1_3))

/-- The heads beside one another, times the output weights. -/
def outW (h : FVec F S8x512x64x128 .f32) (wo : FVec F S8192x1024 .bf16) : FVec F S8x512x1024 .f32 :=
  Host.dotGeneral dot_S8x512x8192_S8192x1024_S8x512x1024_2_0_01_1_n_n none (shapeCast S8x512x8192 h shapeCasts_S8x512x64x128_S8x512x8192)
    (extf .f32 wo bitsLt_bf16_f32)

/-- The reference's result is these, composed. -/
theorem res_eq (m : (ℓ : Loc nD τ sig) → Buf (Elt F) ℓ) (c : Dev nD) :
    Value.res_main_v35 m c
      = outW (headW (projW (m ((c.tc : Thread nD τ).loc main_arg0)) (m ((c.tc : Thread nD τ).loc main_arg3)))
          (expW (scoreW (projW (m ((c.tc : Thread nD τ).loc main_arg0)) (m ((c.tc : Thread nD τ).loc main_arg1)))
            (projW (m ((c.tc : Thread nD τ).loc main_arg0)) (m ((c.tc : Thread nD τ).loc main_arg2))))))
        (m ((c.tc : Thread nD τ).loc main_arg4)) := rfl

/-- A projection: head `h`, place `t` is column `128 h + t`. -/
theorem projW_apply (x : FVec Ideal S8x512x1024 .bf16) (w : FVec Ideal S1024x8192 .bf16) (b : Fin 8) (r : Fin 512) (h : Fin 64) (t : Fin 128) :
    projW x w (ix4 b r h t) = ∑ k : Fin 1024, x (ix3 b r k) * w (ix2 k ⟨h.val * 128 + t.val, by omega⟩) := by
  pointwise [projW]

/-- The scores of head `h` are those of its rows of queries and keys. -/
theorem scoreW_apply (q k : FVec Ideal S8x512x64x128 .f32) (b : Fin 8) (h : Fin 64) (r j : Fin 512) :
    scoreW q k (ix4 b h r j) = score (fun r u => q (ix4 b r h u)) (fun r u => k (ix4 b r h u)) r j := by
  pointwise [scoreW]
  rfl

/-- The word the reference starts its maximum from. -/
theorem neg_infinity : Ideal.ofBits .f32 0xFF800000#32 = (⊥ : EReal) := by
  simp [Ideal.ofBits, Ideal.ieee]

/-- The exponentials: the greatest score of the row is subtracted. -/
theorem expW_apply (s : FVec Ideal S8x64x512x512 .f32) (b : Fin 8) (h : Fin 64) (r j : Fin 512) :
    expW s (ix4 b h r j) = Ideal.exp (s (ix4 b h r j) - Finset.univ.fold max (⊥ : EReal) (fun j => s (ix4 b h r j))) := by
  pointwise [expW]
  rw [neg_infinity]

/-- A head: the weighted sum of the values over the sum of the weights. -/
theorem headW_apply (v : FVec Ideal S8x512x64x128 .f32) (p : FVec Ideal S8x64x512x512 .f32) (b : Fin 8) (r : Fin 512) (h : Fin 64) (t : Fin 128) :
    headW v p (ix4 b r h t) = Ideal.div (∑ j, v (ix4 b j h t) * p (ix4 b h r j)) (∑ j, p (ix4 b h r j)) := by
  pointwise [headW]

/-- The output: column `c` of the joined heads is place `c % 128` of head `c / 128`. -/
theorem outW_apply (h : FVec Ideal S8x512x64x128 .f32) (wo : FVec Ideal S8192x1024 .bf16) (b : Fin 8) (r : Fin 512) (n : Fin 1024) :
    outW h wo (ix3 b r n) = ∑ c : Fin 8192, h (ix4 b r ⟨c.val / 128, by omega⟩ ⟨c.val % 128, by omega⟩) * wo (ix2 c n) := by
  pointwise [outW]

end Cert.Ring8.Ref
-- ==== Proof.PartVal.lean ====
/-
# A device's partial result, at an index

Over the extended reals: row `r`, column `n` of what a device computes from a block of the input and its own weights is
the sum, over its 1024 columns of the queries, keys and values, of the column's head's result times the output weight.
-/
module

public import proofs.«01_k».proof.Proof.Data
public import proofs.«01_k».proof.Proof.Softmax
public import Idealize.ShloMosaic.Lib.Pointwise

@[expose] public section

noncomputable section

namespace Cert.Ring8

open Cert.KernelIdeal Cert.KernelIdeal.Gen
open Idealize.ShloMosaic

section anyF
variable {F : FTy → Type} [FloatOps F]

/-- One head of the kernel. -/
def headV (q k v : FVec F S512x128 .bf16) : FVec F S512x128 .bf16 :=
  k0_pay19 q k v (constant S512x512 .f32 0x00000000#32)

/-- The heads beside one another, times the output weights. -/
def joinV (wo : FVec F S1024x1024 .bf16) (h : Fin 8 → FVec F S512x128 .bf16) : FVec F S1x512x1024 .bf16 :=
  shapeCast S1x512x1024 (truncf .bf16 (matmul dot_S512x1024_S1024x1024_S512x1024_1_0_0_1_n_n none
    (concatenate S512x1024 1 [⟨S512x128, h 0⟩, ⟨S512x128, h 1⟩, ⟨S512x128, h 2⟩, ⟨S512x128, h 3⟩, ⟨S512x128, h 4⟩, ⟨S512x128, h 5⟩, ⟨S512x128, h 6⟩, ⟨S512x128, h 7⟩]
      concatenates_S512x128_S512x128_S512x128_S512x128_S512x128_S512x128_S512x128_S512x128_S512x1024_d1) wo
    (constant S512x1024 .f32 0x00000000#32)) bitsLt_bf16_f32) shapeCasts_S512x1024_S1x512x1024

/-- A head's columns of a projection. -/
def colsV (h : Fin 8) (a : FVec F S512x1024 .bf16) : FVec F S512x128 .bf16 :=
  match h with
  | 0 => extractStridedSlice S512x128 ![0, 0] a slices_S512x1024_o0_0_S512x128
  | 1 => extractStridedSlice S512x128 ![0, 128] a slices_S512x1024_o0_128_S512x128
  | 2 => extractStridedSlice S512x128 ![0, 256] a slices_S512x1024_o0_256_S512x128
  | 3 => extractStridedSlice S512x128 ![0, 384] a slices_S512x1024_o0_384_S512x128
  | 4 => extractStridedSlice S512x128 ![0, 512] a slices_S512x1024_o0_512_S512x128
  | 5 => extractStridedSlice S512x128 ![0, 640] a slices_S512x1024_o0_640_S512x128
  | 6 => extractStridedSlice S512x128 ![0, 768] a slices_S512x1024_o0_768_S512x128
  | 7 => extractStridedSlice S512x128 ![0, 896] a slices_S512x1024_o0_896_S512x128

/-- The partial result is the eight heads' results, joined. -/
theorem partOf_join (wq wk wv wo : FVec F S1024x1024 .bf16) (x : Vec F S1x512x1024 .bf16) :
    partOf wq wk wv wo x
      = joinV wo fun h => headV (colsV h (k0_pay7 wq x)) (colsV h (k0_pay8 wk x)) (colsV h (k0_pay9 wv x)) := rfl

end anyF

/-- One head, at an index. -/
theorem headV_apply (q k v : FVec Ideal S512x128 .bf16) (r : Fin 512) (t : Fin 128) :
    headV q k v (ix2 r t) = headK (fun r u => q (ix2 r u)) (fun r u => k (ix2 r u)) (fun r u => v (ix2 r u)) r t := by
  pointwise [headV, k0_pay19]
  rfl

/-- Column `t` of head `h`, among `8` heads. -/
abbrev col (h : Fin 8) (t : Fin 128) : Fin 1024 := ⟨128 * h.val + t.val, by omega⟩

/-- A head's columns, at an index. -/
theorem colsV_apply (h : Fin 8) (a : FVec Ideal S512x1024 .bf16) (r : Fin 512) (t : Fin 128) :
    colsV h a (ix2 r t) = a (ix2 r (col h t)) := by
  match h with
  | 0 => pointwise [colsV]; exact congrArg (fun c => a (ix2 r c)) (Fin.ext (Nat.zero_add t.val).symm)
  | 1 => pointwise [colsV]; rfl
  | 2 => pointwise [colsV]; rfl
  | 3 => pointwise [colsV]; rfl
  | 4 => pointwise [colsV]; rfl
  | 5 => pointwise [colsV]; rfl
  | 6 => pointwise [colsV]; rfl
  | 7 => pointwise [colsV]; rfl

/-- A projection of a block. -/
theorem proj_apply (w : FVec Ideal S1024x1024 .bf16) (x : Vec Ideal S1x512x1024 .bf16) (r : Fin 512) (n : Fin 1024) :
    k0_pay7 w x (ix2 r n) = ∑ k : Fin 1024, x (ix3 0 r k) * w (ix2 k n) := by
  pointwise [k0_pay7, k0_pay6]

/-- The joined heads times the output weights, at an index. -/
theorem joinV_apply (wo : FVec Ideal S1024x1024 .bf16) (h : Fin 8 → FVec Ideal S512x128 .bf16) (a : Fin 1) (r : Fin 512) (n : Fin 1024) :
    joinV wo h (ix3 a r n) = ∑ c : Fin 1024, h ⟨c.val / 128, by omega⟩ (ix2 r ⟨c.val % 128, by omega⟩) * wo (ix2 c n) := by
  pointwise [joinV]
  refine Finset.sum_congr rfl fun c _ => congrArg (· * wo (ix2 c n)) ?_
  have key (k u : ℕ) (hk : k < 8) (hu : u < 128) (hc : c.val = 128 * k + u) :
      h ⟨k, hk⟩ (ix2 r ⟨u, hu⟩) = h ⟨c.val / 128, by omega⟩ (ix2 r ⟨c.val % 128, by omega⟩) := by
    have he : c.val / 128 = k := by omega
    have ht : c.val % 128 = u := by omega
    simp only [he, ht]
  have hc := c.isLt
  split
  · exact key 0 _ (by decide) _ (by omega)
  split
  · exact key 1 _ (by decide) _ (by omega)
  split
  · exact key 2 _ (by decide) _ (by omega)
  split
  · exact key 3 _ (by decide) _ (by omega)
  split
  · exact key 4 _ (by decide) _ (by omega)
  split
  · exact key 5 _ (by decide) _ (by omega)
  split
  · exact key 6 _ (by decide) _ (by omega)
  · exact key 7 _ (by decide) _ (by omega)

/-- Row `r`, column `n` of a projection of the block `x` by the weights `w`. -/
def proj {K N : ℕ} (x : Fin 512 → Fin K → EReal) (w : Fin K → Fin N → EReal) (r : Fin 512) (n : Fin N) : EReal :=
  ∑ k, x r k * w k n

/-- A device's partial result on the block `x`, given its four weights as matrices: `hd` is the rule for one head. -/
def part (hd : (q k v : Fin 512 → Fin 128 → EReal) → Fin 512 → Fin 128 → EReal) (x : Fin 512 → Fin 1024 → EReal)
    (wq wk wv wo : Fin 1024 → Fin 1024 → EReal) (r : Fin 512) (n : Fin 1024) : EReal :=
  ∑ c : Fin 1024, hd (fun r u => proj x wq r (col ⟨c.val / 128, by omega⟩ u)) (fun r u => proj x wk r (col ⟨c.val / 128, by omega⟩ u))
    (fun r u => proj x wv r (col ⟨c.val / 128, by omega⟩ u)) r ⟨c.val % 128, by omega⟩ * wo c n

/-- A device's partial result, at an index. -/
theorem partOf_apply (wq wk wv wo : FVec Ideal S1024x1024 .bf16) (x : Vec Ideal S1x512x1024 .bf16) (a : Fin 1) (r : Fin 512) (n : Fin 1024) :
    partOf wq wk wv wo x (ix3 a r n)
      = part headK (fun r k => x (ix3 0 r k)) (fun i j => wq (ix2 i j)) (fun i j => wk (ix2 i j)) (fun i j => wv (ix2 i j)) (fun i j => wo (ix2 i j)) r n := by
  rw [partOf_join, joinV_apply]
  unfold part
  refine Finset.sum_congr rfl fun c _ => ?_
  rw [headV_apply]
  simp only [colsV_apply]
  simp only [proj_apply, show k0_pay8 wk x = k0_pay7 wk x from rfl, show k0_pay9 wv x = k0_pay7 wv x from rfl]
  rfl

/-- With the input and the weights of the queries and keys real, the kernel's rule for a head gives what the reference's does. -/
theorem part_headK (x : Fin 512 → Fin 1024 → EReal) (wq wk wv wo : Fin 1024 → Fin 1024 → EReal) (hx : ∀ r k, IsReal (x r k))
    (hq : ∀ i j, IsReal (wq i j)) (hk : ∀ i j, IsReal (wk i j)) :
    part headK x wq wk wv wo = part headR x wq wk wv wo := by
  funext r n
  refine Finset.sum_congr rfl fun c _ => ?_
  rw [headK_eq_headR (m := 511)]
  · exact fun r u => IsReal.sum _ fun k => (hx _ _).mul (hq _ _)
  · exact fun r u => IsReal.sum _ fun k => (hx _ _).mul (hk _ _)

end Cert.Ring8
-- ==== Proof.RefPart.lean ====
/-
# The reference's result, by devices

The reference sums over all 8192 columns of the queries, keys and values; taken 1024 at a time, the sum is that of eight
partial results, each from one device's columns of the weights.
-/
module

public import proofs.«01_k».proof.Proof.RefVal
public import proofs.«01_k».proof.Proof.PartVal

@[expose] public section

noncomputable section

namespace Cert.Ring8.Ref

open Cert.ReferenceIdeal Cert.ReferenceIdeal.Gen
open Idealize.ShloMosaic Idealize.ShloMosaic.TcCoe

/-- Place `j` of part `e` of a long axis. -/
abbrev far (e : Fin 8) (j : Fin 1024) : Fin 8192 := ⟨e.val * 1024 + j.val, by omega⟩

/-- A head's result, at an index. -/
theorem attn_apply (x : FVec Ideal S8x512x1024 .bf16) (wq wk wv : FVec Ideal S1024x8192 .bf16) (b : Fin 8) (r : Fin 512) (h : Fin 64) (t : Fin 128) :
    headW (projW x wv) (expW (scoreW (projW x wq) (projW x wk))) (ix4 b r h t)
      = headR (fun r u => projW x wq (ix4 b r h u)) (fun r u => projW x wk (ix4 b r h u)) (fun r u => projW x wv (ix4 b r h u)) r t := by
  rw [headW_apply]
  simp only [expW_apply, scoreW_apply]
  rfl

/-- The result, at an index. -/
theorem res_apply (x : FVec Ideal S8x512x1024 .bf16) (wq wk wv : FVec Ideal S1024x8192 .bf16) (wo : FVec Ideal S8192x1024 .bf16)
    (b : Fin 8) (r : Fin 512) (n : Fin 1024) :
    outW (headW (projW x wv) (expW (scoreW (projW x wq) (projW x wk)))) wo (ix3 b r n)
      = ∑ e : Fin 8, part headR (fun r k => x (ix3 b r k)) (fun i j => wq (ix2 i (far e j))) (fun i j => wk (ix2 i (far e j)))
          (fun i j => wv (ix2 i (far e j))) (fun i j => wo (ix2 (far e i) j)) r n := by
  rw [outW_apply, Fin.sum_univ_tiles 8 1024 (by decide)]
  refine Finset.sum_congr rfl fun e _ => Finset.sum_congr rfl fun c _ => ?_
  have he := e.isLt
  have hc := c.isLt
  have ht : (e.val * 1024 + c.val) % 128 = c.val % 128 := by omega
  have hcol (u : Fin 128) : (e.val * 1024 + c.val) / 128 * 128 + u.val = e.val * 1024 + (128 * (c.val / 128) + u.val) := by omega
  rw [attn_apply]
  simp only [projW_apply, ht, hcol]
  rfl

end Cert.Ring8.Ref
-- ==== Proof.Loads.lean ====
/-
# What the body loads

A device's weights and its block of the input, as the body loads them, are the launch memory's arrays.
-/
module

public import proofs.«01_k».proof.Proof.Data
public import Idealize.ShloMosaic.Lib.VecWindow

@[expose] public section

noncomputable section

namespace Cert.Ring8

open Cert.KernelIdeal Cert.KernelIdeal.Gen
open Idealize.ShloMosaic Idealize.ShloMosaic.TcCoe

variable {F : FTy → Type} [FloatOps F]
variable (m : (ℓ : Loc nD τ sig) → Buf (Elt F) ℓ)

theorem stg0_eq (c : Dev nD) : stg0 m c = m ((c : Thread nD τ).loc main_arg0) := by
  funext i
  exact congrArg (m ((c : Thread nD τ).loc main_arg0)) (funext fun a => Fin.ext (by fin_cases a <;> show 0 + 1 * _ = _ <;> omega))
theorem stg1_eq (c : Dev nD) : stg1 m c = m ((c : Thread nD τ).loc main_arg1) := by
  funext i
  exact congrArg (m ((c : Thread nD τ).loc main_arg1)) (funext fun a => Fin.ext (by fin_cases a <;> show 0 + 1 * _ = _ <;> omega))
theorem stg2_eq (c : Dev nD) : stg2 m c = m ((c : Thread nD τ).loc main_arg4) := by
  funext i
  exact congrArg (m ((c : Thread nD τ).loc main_arg4)) (funext fun a => Fin.ext (by fin_cases a <;> show 0 + 1 * _ = _ <;> omega))
theorem stg3_eq (c : Dev nD) : stg3 m c = m ((c : Thread nD τ).loc main_arg2) := by
  funext i
  exact congrArg (m ((c : Thread nD τ).loc main_arg2)) (funext fun a => Fin.ext (by fin_cases a <;> show 0 + 1 * _ = _ <;> omega))
theorem stg4_eq (c : Dev nD) : stg4 m c = m ((c : Thread nD τ).loc main_arg3) := by
  funext i
  exact congrArg (m ((c : Thread nD τ).loc main_arg3)) (funext fun a => Fin.ext (by fin_cases a <;> show 0 + 1 * _ = _ <;> omega))

theorem xb_eq (c : Dev nD) : xb m c = m ((c : Thread nD τ).loc main_arg0) :=
  (shapeCast_shapeCast _ _ _).trans ((View.readAt_full (Memref.whole cc0_stg0_0).view (stg0 m c) _).trans (stg0_eq m c))
theorem wq_eq (c : Dev nD) : wq m c = m ((c : Thread nD τ).loc main_arg1) :=
  (shapeCast_self _ _).trans ((View.readAt_full (Memref.whole cc0_stg1_0).view (stg1 m c) _).trans (stg1_eq m c))
theorem wk_eq (c : Dev nD) : wk m c = m ((c : Thread nD τ).loc main_arg2) :=
  (shapeCast_self _ _).trans ((View.readAt_full (Memref.whole cc0_stg3_0).view (stg3 m c) _).trans (stg3_eq m c))
theorem wv_eq (c : Dev nD) : wv m c = m ((c : Thread nD τ).loc main_arg3) :=
  (shapeCast_self _ _).trans ((View.readAt_full (Memref.whole cc0_stg4_0).view (stg4 m c) _).trans (stg4_eq m c))
theorem wo_eq (c : Dev nD) : wo m c = m ((c : Thread nD τ).loc main_arg4) :=
  (shapeCast_self _ _).trans ((View.readAt_full (Memref.whole cc0_stg2_0).view (stg2 m c) _).trans (stg2_eq m c))

end Cert.Ring8
-- ==== Proof.Sum8.lean ====
/-
# The result of a device, over the extended reals

The eight partial results on a device's block, added in the order the ring brings them, are their sum over the devices.
-/
module

public import proofs.«01_k».proof.Proof.PartVal
public import proofs.«01_k».proof.Proof.Loads

@[expose] public section

noncomputable section

namespace Cert.Ring8

open Cert.KernelIdeal Cert.KernelIdeal.Gen
open Idealize.ShloMosaic Idealize.ShloMosaic.TcCoe

/-- Every device is some number of places to the right of `c`. -/
theorem sum_nb {M : Type*} [AddCommMonoid M] (c : Dev nD) (f : Dev nD → M) : ∑ e : Dev nD, f e = ∑ k : Fin 8, f (nb c k.val) := by
  refine (Fintype.sum_bijective (fun k : Fin 8 => nb c k.val) ?_ _ _ fun _ => rfl).symm
  revert c
  decide +kernel

/-- Over the extended reals nothing is rounded. -/
theorem addv_apply {s : Shape} (u v : FVec Ideal s .bf16) (i : s.Idx) : addv u v i = u i + v i := rfl

variable (m : (ℓ : Loc nD τ sig) → Buf (Elt Ideal) ℓ)

/-- Device `e`'s partial result on device `c`'s block. -/
def PO (e c : Dev nD) : FVec Ideal S1x512x1024 .bf16 := partOf (wq m e) (wk m e) (wv m e) (wo m e) (xb m c)

/-- The scratch row at place `s` is the partial result on the block of the device at that place. -/
theorem PB_eq (e c : Dev nD) (s : ℕ) (h : dv s = c) : PB m e s = PO m e c := by rw [PB, h]; rfl

/-- What the right-going sum brings: the partial results of the three devices to the left. -/
theorem accR_apply (c : Dev nD) (i : S1x512x1024.Idx) :
    accR m 2 c i = PO m (nb c 5) c i + PO m (nb c 6) c i + PO m (nb c 7) c i := by
  have h1 : nb (nb c 7) 7 = nb c 6 := by revert c; decide +kernel
  have h2 : nb (nb c 6) 7 = nb c 5 := by revert c; decide +kernel
  simp only [accR, addv_apply, h1, h2]
  rw [PB_eq m (nb c 5) c _ (by revert c; decide +kernel), PB_eq m (nb c 6) c _ (by revert c; decide +kernel),
    PB_eq m (nb c 7) c _ (by revert c; decide +kernel)]

/-- What the left-going sum brings: those of the three devices to the right. -/
theorem accL_apply (c : Dev nD) (i : S1x512x1024.Idx) :
    accL m 2 c i = PO m (nb c 3) c i + PO m (nb c 2) c i + PO m (nb c 1) c i := by
  have h1 : nb (nb c 1) 1 = nb c 2 := by revert c; decide +kernel
  have h2 : nb (nb c 2) 1 = nb c 3 := by revert c; decide +kernel
  simp only [accL, addv_apply, h1, h2]
  rw [PB_eq m (nb c 3) c _ (by revert c; decide +kernel), PB_eq m (nb c 2) c _ (by revert c; decide +kernel),
    PB_eq m (nb c 1) c _ (by revert c; decide +kernel)]

/-- The last sum, at an index. -/
theorem sum4_apply (u v w : Vec Ideal S1x512x1024 .bf16) (d : Vec Ideal S1x512x1024 .bf16) (a : Fin 1) (r : Fin 512) (n : Fin 1024) :
    k0_pay169 u v (shapeCast S512x1024 d shapeCasts_S1x512x1024_S512x1024) w (ix3 a r n)
      = u (ix3 0 r n) + v (ix3 0 r n) + d (ix3 0 r n) + w (ix3 0 r n) := by
  pointwise [k0_pay169]

/-- A device ends with the sum of the eight partial results on its block. -/
theorem OUT_apply (c : Dev nD) (a : Fin 1) (r : Fin 512) (n : Fin 1024) :
    OUT m c (ix3 a r n) = ∑ e : Dev nD, PO m e c (ix3 0 r n) := by
  have h0 : nb c 0 = c := by revert c; decide +kernel
  rw [OUT, DBUF, sum4_apply, accR_apply, accL_apply, PB_eq m (nb c 4) c _ (by revert c; decide +kernel),
    PB_eq m c c _ (by revert c; decide +kernel), sum_nb c, Fin.sum_univ_eight]
  show _ = PO m (nb c 0) c (ix3 0 r n) + PO m (nb c 1) c (ix3 0 r n) + PO m (nb c 2) c (ix3 0 r n) + PO m (nb c 3) c (ix3 0 r n)
    + PO m (nb c 4) c (ix3 0 r n) + PO m (nb c 5) c (ix3 0 r n) + PO m (nb c 6) c (ix3 0 r n) + PO m (nb c 7) c (ix3 0 r n)
  rw [h0]
  ac_rfl

end Cert.Ring8
-- ==== Proof.Finite.lean ====
/-
# What the precondition says

Every element of a device's block of the input, and of its weights of the queries and of the keys, is a real number.
-/
module

public import proofs.«01_k».proof.Defs
public import proofs.«01_k».proof.Proof.Gen.KernelIdeal
public import proofs.«01_k».proof.Proof.Softmax
public import Idealize.ShloMosaic.Lib.Pointwise

@[expose] public section

noncomputable section

namespace Cert.Ring8

open Cert.Pre_finite_scores_KernelIdeal
open Idealize.ShloMosaic

/-- The comparison the precondition makes of one element. -/
theorem isReal_of_lt {a : EReal} (h : max a (-a) < ⊤) : IsReal a := by
  induction a using EReal.rec with
  | bot => simp at h
  | top => simp at h
  | coe r => exact ⟨r, rfl⟩

/-- The word of the precondition's bound is plus infinity. -/
theorem pos_infinity : Ideal.ofBits .bf16 0x7F80#16 = (⊤ : EReal) := by
  simp [Ideal.ofBits, Ideal.ieee]

/-- An element that passes the comparison is real. -/
theorem isReal_of_bit {a : EReal}
    (h : BitVec.ofBool (decide ((FloatOps.absf (F := Ideal) (φ := .bf16) a : EReal) < Ideal.ofBits .bf16 0x7F80#16)) = 1#1) : IsReal a := by
  refine isReal_of_lt ?_
  rw [pos_infinity] at h
  by_contra hn
  rw [decide_eq_false (show ¬ (FloatOps.absf (F := Ideal) (φ := .bf16) a : EReal) < ⊤ from hn)] at h
  exact absurd h (by decide)

/-- The side conditions of the precondition's own operations. -/
theorem facts_finite : Facts where
  bcast_S_S1x512x1024 := by decide
  shapeCasts_S1x512x1024_S512x1024 := by decide
  bcast_S_S1024x1024 := by decide
  concatenates_S512x1024_S1024x1024_S1024x1024_S2560x1024_d0 := by decide

/-- The same of the precondition read of whole arrays. -/
theorem facts_finite_whole : Cert.Pre_finite_scores_ReferenceIdeal.Facts := by
  constructor <;> decide

variable [hF : Facts]
variable (x : FVec Ideal S1x512x1024 .bf16) (wq wk wv wo : FVec Ideal S1024x1024 .bf16)

/-- The precondition says the input is real, -/
theorem real_x (h : fn (F := Ideal) x wq wk wv wo = fun _ => 1#1) (r : Fin 512) (k : Fin 1024) : IsReal (x (ix3 0 r k)) := by
  have h' := congrFun h (ix2 ⟨r.val, by omega⟩ k)
  pointwise [fn] at h'
  exact isReal_of_bit h'

/-- and the weights of the queries, -/
theorem real_wq (h : fn (F := Ideal) x wq wk wv wo = fun _ => 1#1) (i j : Fin 1024) : IsReal (wq (ix2 i j)) := by
  have h' := congrFun h (ix2 ⟨512 + i.val, by omega⟩ j)
  pointwise [fn] at h'
  exact isReal_of_bit h'

/-- and the weights of the keys. -/
theorem real_wk (h : fn (F := Ideal) x wq wk wv wo = fun _ => 1#1) (i j : Fin 1024) : IsReal (wk (ix2 i j)) := by
  have h' := congrFun h (ix2 ⟨1536 + i.val, by omega⟩ j)
  pointwise [fn] at h'
  rw [dif_neg (by omega), dif_neg (by omega)] at h'
  have e : (⟨1536 + i.val - 512 - 1024, by omega⟩ : Fin 1024) = i := Fin.ext (by show 1536 + i.val - 512 - 1024 = i.val; omega)
  rw [e] at h'
  exact isReal_of_bit h'

end Cert.Ring8
-- ==== Proof.Value.lean ====
/-
# The kernel's result is the reference's

Over the extended reals, with a real input and real weights of the queries and keys: what device `c` ends with is block
`c` of the reference's result on the whole arrays.
-/
module

public import proofs.«01_k».proof.Proof.RefPart
public import proofs.«01_k».proof.Proof.Sum8
public import proofs.«01_k».proof.Proof.Finite
public import Idealize.ShloMosaic.Lib.LayoutAt

@[expose] public section

noncomputable section

namespace Cert.Ring8

open Cert.KernelIdeal Cert.KernelIdeal.Gen
open Idealize.ShloMosaic Idealize.ShloMosaic.TcCoe

/-! ## Where a block's elements lie in the whole array -/

section layout
variable {α : Type}

/-- Block `c` of the input or the result: its row of the batch. -/
theorem block_rows (c : Fin 8) (v : (⟨3, ![8, 512, 1024]⟩ : Shape).Idx → α) (a : Fin 1) (r : Fin 512) (k : Fin 1024) :
    Layout.block ⟨3, ![1, 512, 1024]⟩ ⟨3, ![8, 512, 1024]⟩ 0 8 c v (by decide) (ix3 a r k) = v (ix3 c r k) := by
  shard_ext

/-- Block `c` of the weights of the queries, keys or values: columns from `1024 c` on. -/
theorem block_wide (c : Fin 8) (v : (⟨2, ![1024, 8192]⟩ : Shape).Idx → α) (i j : Fin 1024) :
    Layout.block ⟨2, ![1024, 1024]⟩ ⟨2, ![1024, 8192]⟩ 1 8 c v (by decide) (ix2 i j) = v (ix2 i (Ref.far c j)) := by
  shard_ext

/-- Block `c` of the output weights: rows from `1024 c` on. -/
theorem block_tall (c : Fin 8) (v : (⟨2, ![8192, 1024]⟩ : Shape).Idx → α) (i j : Fin 1024) :
    Layout.block ⟨2, ![1024, 1024]⟩ ⟨2, ![8192, 1024]⟩ 0 8 c v (by decide) (ix2 i j) = v (ix2 (Ref.far c i) j) := by
  shard_ext

end layout

/-! ## The two results -/

variable (m : (ℓ : Loc nD τ sig) → Buf (Elt Ideal) ℓ)
variable (x : FVec Ideal ⟨3, ![8, 512, 1024]⟩ .bf16) (wqW wkW wvW : FVec Ideal ⟨2, ![1024, 8192]⟩ .bf16) (woW : FVec Ideal ⟨2, ![8192, 1024]⟩ .bf16)

/-- The launch memory of the kernel holds the blocks of these arrays. -/
structure Holds : Prop where
  x (c : Dev nD) : m ((c : Thread nD τ).loc main_arg0) = Layout.block ⟨3, ![1, 512, 1024]⟩ ⟨3, ![8, 512, 1024]⟩ 0 8 c x
  q (c : Dev nD) : m ((c : Thread nD τ).loc main_arg1) = Layout.block ⟨2, ![1024, 1024]⟩ ⟨2, ![1024, 8192]⟩ 1 8 c wqW
  k (c : Dev nD) : m ((c : Thread nD τ).loc main_arg2) = Layout.block ⟨2, ![1024, 1024]⟩ ⟨2, ![1024, 8192]⟩ 1 8 c wkW
  v (c : Dev nD) : m ((c : Thread nD τ).loc main_arg3) = Layout.block ⟨2, ![1024, 1024]⟩ ⟨2, ![1024, 8192]⟩ 1 8 c wvW
  o (c : Dev nD) : m ((c : Thread nD τ).loc main_arg4) = Layout.block ⟨2, ![1024, 1024]⟩ ⟨2, ![8192, 1024]⟩ 0 8 c woW

/-- A device's partial result, of the whole arrays. -/
theorem PO_apply (H : Holds m x wqW wkW wvW woW) (e c : Dev nD) (r : Fin 512) (n : Fin 1024) :
    PO m e c (ix3 0 r n)
      = part headK (fun r k => x (ix3 c r k)) (fun i j => wqW (ix2 i (Ref.far e j))) (fun i j => wkW (ix2 i (Ref.far e j)))
          (fun i j => wvW (ix2 i (Ref.far e j))) (fun i j => woW (ix2 (Ref.far e i) j)) r n := by
  rw [PO, partOf_apply, xb_eq, wq_eq, wk_eq, wv_eq, wo_eq, H.x, H.q, H.k, H.v, H.o]
  simp only [block_rows, block_wide, block_tall]

/-- A device ends with its block of the reference's result. -/
theorem OUT_eq (H : Holds m x wqW wkW wvW woW) (hx : ∀ (c : Fin 8) r k, IsReal (x (ix3 c r k)))
    (hq : ∀ (e : Fin 8) i j, IsReal (wqW (ix2 i (Ref.far e j)))) (hk : ∀ (e : Fin 8) i j, IsReal (wkW (ix2 i (Ref.far e j)))) (c : Dev nD) :
    OUT m c = Layout.block ⟨3, ![1, 512, 1024]⟩ ⟨3, ![8, 512, 1024]⟩ 0 8 c
      (Ref.outW (Ref.headW (Ref.projW x wvW) (Ref.expW (Ref.scoreW (Ref.projW x wqW) (Ref.projW x wkW)))) woW) := by
  funext i
  idx_vars i
  rw [OUT_apply, block_rows, Ref.res_apply]
  refine Finset.sum_congr rfl fun e _ => ?_
  rw [PO_apply m x wqW wkW wvW woW H, part_headK]
  · exact hx c
  · exact hq e
  · exact hk e

/-- The precondition, of the launch memory, says what `OUT_eq` asks. -/
theorem OUT_eq_of_pre [Cert.Pre_finite_scores_KernelIdeal.Facts] (H : Holds m x wqW wkW wvW woW)
    (hp : Cert.Pre_KernelIdeal_finite_scores_KernelIdeal m) (c : Dev nD) :
    OUT m c = Layout.block ⟨3, ![1, 512, 1024]⟩ ⟨3, ![8, 512, 1024]⟩ 0 8 c
      (Ref.outW (Ref.headW (Ref.projW x wvW) (Ref.expW (Ref.scoreW (Ref.projW x wqW) (Ref.projW x wkW)))) woW) := by
  refine OUT_eq m x wqW wkW wvW woW H (fun e r k => ?_) (fun e i j => ?_) (fun e i j => ?_) c
  · have h := real_x _ _ _ _ _ (hp e) r k
    rwa [H.x e, block_rows] at h
  · have h := real_wq _ _ _ _ _ (hp e) i j
    rwa [H.q e, block_wide] at h
  · have h := real_wk _ _ _ _ _ (hp e) i j
    rwa [H.k e, block_wide] at h

end Cert.Ring8
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.SameText
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel, at the float words, runs to its end with its arguments unchanged and every counter at zero. -/
theorem frame_kernel : Cert.quiescent_Kernel := by
  intro m ρ _
  rw [Cert.Ring8.defs_same]
  exact (θ_run (Cert.KernelIdeal.defs (F := Bits)) _ _).mono
    (fun _ h => And.intro (fun c => (h.1 c).2) h.2) (Cert.Ring8.run_values (F := Bits) m ρ)

/-- The same of the kernel over the extended reals. -/
theorem frame_kernelIdeal : Cert.quiescent_KernelIdeal := fun m ρ _ =>
  (θ_run (Cert.KernelIdeal.defs (F := Ideal)) _ _).mono
    (fun _ h => And.intro (fun c => (h.1 c).2) h.2) (Cert.Ring8.run_values (F := Ideal) m ρ)

/-- The reference runs to its end with its arguments unchanged; it declares no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's result over the extended reals is the reference's: each device ends with its block of it. -/
theorem algebraic [Cert.Pre_finite_scores_KernelIdeal.Facts] : Cert.algebraic_KernelIdeal_ReferenceIdeal_pre_finite_scores_KernelIdeal := by
  intro m g m' g' hp hm
  refine ⟨Cert.ReferenceIdeal.Value.res_main_v35 m' 0, ?_, ?_⟩
  · refine (θ_run (Cert.KernelIdeal.defs (F := Ideal)) _ _).mono
      (fun r h c => And.intro ((h.1 c).1.trans ?_) (h.1 c).2) (Cert.Ring8.run_values (F := Ideal) m g)
    rw [Cert.Ring8.Ref.res_eq]
    exact Cert.Ring8.OUT_eq_of_pre m _ _ _ _ _
      ⟨fun c => (hm c).1, fun c => (hm c).2.1, fun c => (hm c).2.2.1, fun c => (hm c).2.2.2.1, fun c => (hm c).2.2.2.2⟩ hp c
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts,
  Cert.Ring8.facts_finite, Cert.Ring8.facts_finite_whole,
  frame_kernel, frame_kernelIdeal, fun m g _ => frame_kernelIdeal m g True.intro,
  frame_referenceIdeal, fun m g _ => frame_referenceIdeal m g True.intro, trivial,
  @algebraic Cert.Ring8.facts_finite⟩

end Cert.Proof

end
